-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.shift_out.By16TwiceStatement Cert.KernelIdeal.S8x512

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v133_0)) (v1 : (c : Dev Cert.Kernel3Ideal.nD) → Buf (Elt Ideal) ((c.tc : Thread Cert.Kernel3Ideal.nD Cert.Kernel3Ideal.τ).loc Cert.Kernel3Ideal.main_v133_1)) (v2 : (c : Dev Cert.Kernel3Ideal.nD) → Buf (Elt Ideal) ((c.tc : Thread Cert.Kernel3Ideal.nD Cert.Kernel3Ideal.τ).loc Cert.Kernel3Ideal.main_v133_2)) (v3 : (c : Dev Cert.Kernel3Ideal.nD) → Buf (Elt Ideal) ((c.tc : Thread Cert.Kernel3Ideal.nD Cert.Kernel3Ideal.τ).loc Cert.Kernel3Ideal.main_v133_3)) (v4 : (c : Dev Cert.Kernel3Ideal.nD) → Buf (Elt Ideal) ((c.tc : Thread Cert.Kernel3Ideal.nD Cert.Kernel3Ideal.τ).loc Cert.Kernel3Ideal.main_v133_4)) (v5 : (c : Dev Cert.Kernel3Ideal.nD) → Buf (Elt Ideal) ((c.tc : Thread Cert.Kernel3Ideal.nD Cert.Kernel3Ideal.τ).loc Cert.Kernel3Ideal.main_v133_6)) (v6 : (c : Dev Cert.Kernel3Ideal.nD) → Buf (Elt Ideal) ((c.tc : Thread Cert.Kernel3Ideal.nD Cert.Kernel3Ideal.τ).loc Cert.Kernel3Ideal.main_v133_7)) (v7 : (c : Dev Cert.Kernel3Ideal.nD) → Buf (Elt Ideal) ((c.tc : Thread Cert.Kernel3Ideal.nD Cert.Kernel3Ideal.τ).loc Cert.Kernel3Ideal.main_v133_8)) (v8 : (c : Dev Cert.Kernel3Ideal.nD) → Buf (Elt Ideal) ((c.tc : Thread Cert.Kernel3Ideal.nD Cert.Kernel3Ideal.τ).loc Cert.Kernel3Ideal.main_v133_9)) (v9 : (c : Dev Cert.Kernel3Ideal.nD) → Buf (Elt Ideal) ((c.tc : Thread Cert.Kernel3Ideal.nD Cert.Kernel3Ideal.τ).loc Cert.Kernel3Ideal.main_v133_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v133_0) = v0 c
          ∧ r.2.mem ((c.tc : Thread Cert.Kernel3Ideal.nD Cert.Kernel3Ideal.τ).loc Cert.Kernel3Ideal.main_v133_1) = v1 c
          ∧ r.2.mem ((c.tc : Thread Cert.Kernel3Ideal.nD Cert.Kernel3Ideal.τ).loc Cert.Kernel3Ideal.main_v133_2) = v2 c
          ∧ r.2.mem ((c.tc : Thread Cert.Kernel3Ideal.nD Cert.Kernel3Ideal.τ).loc Cert.Kernel3Ideal.main_v133_3) = v3 c
          ∧ r.2.mem ((c.tc : Thread Cert.Kernel3Ideal.nD Cert.Kernel3Ideal.τ).loc Cert.Kernel3Ideal.main_v133_4) = v4 c
          ∧ r.2.mem ((c.tc : Thread Cert.Kernel3Ideal.nD Cert.Kernel3Ideal.τ).loc Cert.Kernel3Ideal.main_v133_6) = v5 c
          ∧ r.2.mem ((c.tc : Thread Cert.Kernel3Ideal.nD Cert.Kernel3Ideal.τ).loc Cert.Kernel3Ideal.main_v133_7) = v6 c
          ∧ r.2.mem ((c.tc : Thread Cert.Kernel3Ideal.nD Cert.Kernel3Ideal.τ).loc Cert.Kernel3Ideal.main_v133_8) = v7 c
          ∧ r.2.mem ((c.tc : Thread Cert.Kernel3Ideal.nD Cert.Kernel3Ideal.τ).loc Cert.Kernel3Ideal.main_v133_9) = v8 c
          ∧ r.2.mem ((c.tc : Thread Cert.Kernel3Ideal.nD Cert.Kernel3Ideal.τ).loc Cert.Kernel3Ideal.main_v133_11) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_v61) = v4 c
          ∧ r.2.mem ((c.tc : Thread Cert.Reference3Ideal.nD Cert.Reference3Ideal.τ).loc Cert.Reference3Ideal.main_v62) = v5 c
          ∧ r.2.mem ((c.tc : Thread Cert.Reference3Ideal.nD Cert.Reference3Ideal.τ).loc Cert.Reference3Ideal.main_v63) = v6 c
          ∧ r.2.mem ((c.tc : Thread Cert.Reference3Ideal.nD Cert.Reference3Ideal.τ).loc Cert.Reference3Ideal.main_v64) = v7 c
          ∧ r.2.mem ((c.tc : Thread Cert.Reference3Ideal.nD Cert.Reference3Ideal.τ).loc Cert.Reference3Ideal.main_v65) = v8 c
          ∧ r.2.mem ((c.tc : Thread Cert.Reference3Ideal.nD Cert.Reference3Ideal.τ).loc Cert.Reference3Ideal.main_v66) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x16384x4x64 : Shape := ⟨4, ![2, 16384, 4, 64]⟩
abbrev S2x16384x4x32 : Shape := ⟨4, ![2, 16384, 4, 32]⟩
abbrev S2x16384x32 : Shape := ⟨3, ![2, 16384, 32]⟩
abbrev S_ : Shape := ⟨0, ![]⟩

class Facts : Prop where
  bcast_S_S2x16384x4x64 : S_.BroadcastsInDim S2x16384x4x64 (![] : Fin 0 → Fin S2x16384x4x64.rank)
  reducesTo_S2x16384x4x64_S_d0_1_2_3 : S2x16384x4x64.ReducesTo [0, 1, 2, 3] S_
  h_S_ : 0 < S_.numel
  bcast_S_S2x16384x4x32 : S_.BroadcastsInDim S2x16384x4x32 (![] : Fin 0 → Fin S2x16384x4x32.rank)
  reducesTo_S2x16384x4x32_S_d0_1_2_3 : S2x16384x4x32.ReducesTo [0, 1, 2, 3] S_
  bcast_S_S2x16384x32 : S_.BroadcastsInDim S2x16384x32 (![] : Fin 0 → Fin S2x16384x32.rank)
  reducesTo_S2x16384x32_S_d0_1_2 : S2x16384x32.ReducesTo [0, 1, 2] S_

variable [Facts]

def fn_part1 {F : FTy → Type} [FloatOps F] (main_v8 : IVec S_ 1) (main_v12 : IVec S_ 1) (main_v15 : IVec S2x16384x32 1) (main_c_5 : IVec S_ 1) : IVec S_ 1 :=
  let main_v16 : IVec S_ 1 := (fun x v => Host.reduce IntOp.andi x v reducesTo_S2x16384x32_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S2x16384x4x64 .f32) (main_arg1 : FVec F S2x16384x4x32 .f32) (main_arg2 : FVec F S2x16384x4x64 .f32) (main_arg3 : FVec F S2x16384x32 .f32) (main_arg4 : FVec F S2x16384x4x64 .f32) : IVec S_ 1 :=
  let main_v0 : FVec F S2x16384x4x64 .f32 := subf main_arg0 main_arg0
  let main_cst : FVec F S_ .f32 := constant S_ .f32 0x00000000#32
  let main_v1 : FVec F S2x16384x4x64 .f32 := broadcastInDim S2x16384x4x64 ![] bcast_S_S2x16384x4x64 main_cst
  let main_v2 : IVec S2x16384x4x64 1 := cmpf .oeq main_v0 main_v1
  let main_c : IVec S_ 1 := constantI S_ 1 1#1
  let main_v3 : IVec S_ 1 := (fun x v => Host.reduce IntOp.andi x v reducesTo_S2x16384x4x64_S_d0_1_2_3 h_S_) main_v2 main_c
  let main_v4 : FVec F S2x16384x4x32 .f32 := subf main_arg1 main_arg1
  let main_cst_0 : FVec F S_ .f32 := constant S_ .f32 0x00000000#32
  let main_v5 : FVec F S2x16384x4x32 .f32 := broadcastInDim S2x16384x4x32 ![] bcast_S_S2x16384x4x32 main_cst_0
  let main_v6 : IVec S2x16384x4x32 1 := cmpf .oeq main_v4 main_v5
  let main_c_1 : IVec S_ 1 := constantI S_ 1 1#1
  let main_v7 : IVec S_ 1 := (fun x v => Host.reduce IntOp.andi x v reducesTo_S2x16384x4x32_S_d0_1_2_3 h_S_) main_v6 main_c_1
  let main_v8 : IVec S_ 1 := andi main_v3 main_v7
  let main_v9 : FVec F S2x16384x4x64 .f32 := subf main_arg2 main_arg2
  let main_cst_2 : FVec F S_ .f32 := constant S_ .f32 0x00000000#32
  let main_v10 : FVec F S2x16384x4x64 .f32 := broadcastInDim S2x16384x4x64 ![] bcast_S_S2x16384x4x64 main_cst_2
  let main_v11 : IVec S2x16384x4x64 1 := cmpf .oeq main_v9 main_v10
  let main_c_3 : IVec S_ 1 := constantI S_ 1 1#1
  let main_v12 : IVec S_ 1 := (fun x v => Host.reduce IntOp.andi x v reducesTo_S2x16384x4x64_S_d0_1_2_3 h_S_) main_v11 main_c_3
  let main_v13 : FVec F S2x16384x32 .f32 := subf main_arg3 main_arg3
  let main_cst_4 : FVec F S_ .f32 := constant S_ .f32 0x00000000#32
  let main_v14 : FVec F S2x16384x32 .f32 := broadcastInDim S2x16384x32 ![] bcast_S_S2x16384x32 main_cst_4
  let main_v15 : IVec S2x16384x32 1 := cmpf .oeq main_v13 main_v14
  let main_c_5 : IVec S_ 1 := constantI S_ 1 1#1
  fn_part1 (F := F) main_v8 main_v12 main_v15 main_c_5
-- ==== Kernel.lean ====
abbrev S2x16384x4x64 : Shape := ⟨4, ![2, 16384, 4, 64]⟩
abbrev S2x16384x4x32 : Shape := ⟨4, ![2, 16384, 4, 32]⟩
abbrev S2x16384x32 : Shape := ⟨3, ![2, 16384, 32]⟩
abbrev S_ : Shape := ⟨0, ![]⟩
abbrev S2x16384x4x128 : Shape := ⟨4, ![2, 16384, 4, 128]⟩
abbrev S2x16384x1x32 : Shape := ⟨4, ![2, 16384, 1, 32]⟩
abbrev S2x32x512x512 : Shape := ⟨4, ![2, 32, 512, 512]⟩
abbrev S2x16384x512 : Shape := ⟨3, ![2, 16384, 512]⟩
abbrev S2x32x512x256 : Shape := ⟨4, ![2, 32, 512, 256]⟩
abbrev S2x32x256x512 : Shape := ⟨4, ![2, 32, 256, 512]⟩
abbrev S2x16384x256 : Shape := ⟨3, ![2, 16384, 256]⟩
abbrev S1x2x256x512 : Shape := ⟨4, ![1, 2, 256, 512]⟩
abbrev S1x16384x256 : Shape := ⟨3, ![1, 16384, 256]⟩
abbrev S1x32x128x512 : Shape := ⟨4, ![1, 32, 128, 512]⟩
abbrev S1x1024x128 : Shape := ⟨3, ![1, 1024, 128]⟩
abbrev S512x512 : Shape := ⟨2, ![512, 512]⟩
abbrev S80x512 : Shape := ⟨2, ![80, 512]⟩
abbrev S8x512 : Shape := ⟨2, ![8, 512]⟩
abbrev S1x1x128x512 : Shape := ⟨4, ![1, 1, 128, 512]⟩
abbrev S128x512 : Shape := ⟨2, ![128, 512]⟩
abbrev S16x512 : Shape := ⟨2, ![16, 512]⟩
abbrev S1x512x128 : Shape := ⟨3, ![1, 512, 128]⟩
abbrev S512x128 : Shape := ⟨2, ![512, 128]⟩
abbrev S512 : Shape := ⟨1, ![512]⟩
abbrev S1x512 : Shape := ⟨2, ![1, 512]⟩
abbrev S2x512 : Shape := ⟨2, ![2, 512]⟩
abbrev S64x512 : Shape := ⟨2, ![64, 512]⟩
abbrev S8x8x512 : Shape := ⟨3, ![8, 8, 512]⟩
abbrev S1x8x512 : Shape := ⟨3, ![1, 8, 512]⟩
abbrev S1x1x64x512 : Shape := ⟨4, ![1, 1, 64, 512]⟩

abbrev nBuf : Space → Nat
  | .hbm => 27
  | .vmem => 30
  | .smem => 0
  | _ => 0

abbrev bufTy : (tb : Table) → Fin (tcTables nBuf tb) → BufTy
  | .hbm, ⟨0, _⟩ => ⟨S2x16384x4x64, .f32⟩
  | .hbm, ⟨1, _⟩ => ⟨S2x16384x4x32, .f32⟩
  | .hbm, ⟨2, _⟩ => ⟨S2x16384x4x64, .f32⟩
  | .hbm, ⟨3, _⟩ => ⟨S2x16384x32, .f32⟩
  | .hbm, ⟨4, _⟩ => ⟨S2x16384x4x64, .f32⟩
  | .hbm, ⟨5, _⟩ => ⟨S_, .f32⟩
  | .hbm, ⟨6, _⟩ => ⟨S2x16384x4x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16384x4x128, .f32⟩
  | .hbm, ⟨13, _⟩ => ⟨S2x16384x4x128, .f32⟩
  | .hbm, ⟨14, _⟩ => ⟨S2x16384x4x128, .f32⟩
  | .hbm, ⟨15, _⟩ => ⟨S2x16384x1x32, .f32⟩
  | .hbm, ⟨16, _⟩ => ⟨S2x16384x4x32, .f32⟩
  | .hbm, ⟨17, _⟩ => ⟨S2x16384x4x128, .f32⟩
  | .hbm, ⟨18, _⟩ => ⟨S2x16384x4x128, .bf16⟩
  | .hbm, ⟨19, _⟩ => ⟨S2x32x512x512, .bf16⟩
  | .hbm, ⟨20, _⟩ => ⟨S2x32x512x512, .bf16⟩
  | .hbm, ⟨21, _⟩ => ⟨S2x16384x4x128, .bf16⟩
  | .hbm, ⟨22, _⟩ => ⟨S2x16384x512, .bf16⟩
  | .hbm, ⟨23, _⟩ => ⟨S2x16384x4x64, .bf16⟩
  | .hbm, ⟨24, _⟩ => ⟨S2x32x512x256, .bf16⟩
  | .hbm, ⟨25, _⟩ => ⟨S2x32x256x512, .bf16⟩
  | .hbm, ⟨26, _⟩ => ⟨S2x16384x256, .bf16⟩
  | .local _ .vmem, ⟨0, _⟩ => ⟨S1x2x256x512, .bf16⟩
  | .local _ .vmem, ⟨1, _⟩ => ⟨S1x2x256x512, .bf16⟩
  | .local _ .vmem, ⟨2, _⟩ => ⟨S1x16384x256, .bf16⟩
  | .local _ .vmem, ⟨3, _⟩ => ⟨S1x32x128x512, .bf16⟩
  | .local _ .vmem, ⟨4, _⟩ => ⟨S1x1024x128, .bf16⟩
  | .local _ .vmem, ⟨5, _⟩ => ⟨S1x1024x128, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S80x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S80x512, .f32⟩
  | .local _ .vmem, ⟨17, _⟩ => ⟨S8x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S80x512, .f32⟩
  | .local _ .vmem, ⟨23, _⟩ => ⟨S8x512, .f32⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S80x512, .f32⟩
  | .local _ .vmem, ⟨29, _⟩ => ⟨S8x512, .f32⟩
  | _, _ => ⟨S2x16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_scratch23 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨3, ![2, 2, 16], ![false, false, false]⟩

def k0_mult1 : BitVec 32 :=
  let c0_i32 : BitVec 32 := 0#32
  c0_i32
def k0_mult2 : BitVec 32 :=
  let c0_i32_34 : BitVec 32 := 0#32
  c0_i32_34
def k0_mult3 : BitVec 32 :=
  let c0_i32_59 : BitVec 32 := 0#32
  c0_i32_59
def k0_mult4 : BitVec 32 :=
  let c0_i32_84 : BitVec 32 := 0#32
  c0_i32_84
@[reducible] def k0_t1_loop : Scf.Loop 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_112 : BitVec 32 := 1#32
  ⟨v149, v154, c1_i32_112⟩
def k0_cond1 (k0_t1 : Fin k0_t1_loop.trips) : BitVec 1 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c0_i32_395 : BitVec 32 := 0#32
  let v715 : BitVec 32 := Scalar.subi arg31 c0_i32_395
  let c2_i32 : BitVec 32 := 2#32
  let c0_i32_396 : BitVec 32 := 0#32
  let v716 : BitVec 1 := Scalar.cmpi .eq c2_i32 c0_i32_396
  let c1_i32_397 : BitVec 32 := 1#32
  let v717 : BitVec 32 := Scalar.select v716 c1_i32_397 c2_i32
  let v718 : BitVec 32 := Scalar.remsi v715 v717
  let c0_i32_399 : BitVec 32 := 0#32
  let v720 : BitVec 1 := Scalar.cmpi .slt v718 c0_i32_399
  let c0_i32_400 : BitVec 32 := 0#32
  let v721 : BitVec 1 := Scalar.cmpi .slt v717 c0_i32_400
  let v722 : BitVec 1 := Scalar.xori v720 v721
  let c0_i32_398 : BitVec 32 := 0#32
  let v719 : BitVec 1 := Scalar.cmpi .ne v718 c0_i32_398
  let v723 : BitVec 1 := Scalar.andi v722 v719
  let v724 : BitVec 32 := Scalar.addi v718 v717
  let v725 : BitVec 32 := Scalar.select v723 v724 v718
  let c0_i32_401 : BitVec 32 := 0#32
  let v726 : BitVec 1 := Scalar.cmpi .eq v725 c0_i32_401
  let v727 : BitVec 32 := Scalar.extui v726
  let c0_i32_402 : BitVec 32 := 0#32
  let v728 : BitVec 1 := Scalar.cmpi .ne v727 c0_i32_402
  v728

def k0_mult5 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32 : BitVec 32 := 512#32
  let v732 : BitVec 32 := Scalar.muli arg31 c512_i32
  v732
def k0_off1 (k0_t1 : Fin k0_t1_loop.trips) : Fin 3 → Nat :=
  let c0_405 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32 : BitVec 32 := 512#32
  let v732 : BitVec 32 := Scalar.muli arg31 c512_i32
  let v733 : BitVec 32 := v732
  let v734 : Index := Scalar.indexCast v733
  let c0_406 : Index := 0#32
  ![0, v734.toNat, 0]
def k0_off2 (k0_t1 : Fin k0_t1_loop.trips) : Fin 4 → Nat :=
  let c0_476 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c2_i32_474 : BitVec 32 := 2#32
  let v920 : BitVec 32 := Scalar.subi arg31 c2_i32_474
  let c0_i32_475 : BitVec 32 := 0#32
  let v921 : BitVec 32 := Scalar.maxsi v920 c0_i32_475
  let v922 : Index := Scalar.indexCast v921
  let c0_477 : Index := 0#32
  let c0_478 : Index := 0#32
  ![0, v922.toNat, 0, 0]
def k0_mult6 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_488 : BitVec 32 := 512#32
  let v936 : BitVec 32 := Scalar.muli arg31 c512_i32_488
  v936
def k0_off3 (k0_t1 : Fin k0_t1_loop.trips) : Fin 3 → Nat :=
  let c0_489 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_488 : BitVec 32 := 512#32
  let v936 : BitVec 32 := Scalar.muli arg31 c512_i32_488
  let v937 : BitVec 32 := v936
  let v938 : Index := Scalar.indexCast v937
  let c128_490 : Index := 128#32
  ![0, v938.toNat, 128]
def k0_off4 (k0_t1 : Fin k0_t1_loop.trips) : Fin 4 → Nat :=
  let c0_561 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c2_i32_559 : BitVec 32 := 2#32
  let v1124 : BitVec 32 := Scalar.subi arg31 c2_i32_559
  let c0_i32_560 : BitVec 32 := 0#32
  let v1125 : BitVec 32 := Scalar.maxsi v1124 c0_i32_560
  let v1126 : Index := Scalar.indexCast v1125
  let c64_562 : Index := 64#32
  let c0_563 : Index := 0#32
  ![0, v1126.toNat, 64, 0]
def k0_mult7 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_573 : BitVec 32 := 512#32
  let v1140 : BitVec 32 := Scalar.muli arg31 c512_i32_573
  v1140
def k0_mult8 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_658 : BitVec 32 := 512#32
  let v1344 : BitVec 32 := Scalar.muli arg31 c512_i32_658
  v1344
def k0_cond2 (k0_t1 : Fin k0_t1_loop.trips) : BitVec 1 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c0_i32_395 : BitVec 32 := 0#32
  let v715 : BitVec 32 := Scalar.subi arg31 c0_i32_395
  let c2_i32 : BitVec 32 := 2#32
  let c0_i32_396 : BitVec 32 := 0#32
  let v716 : BitVec 1 := Scalar.cmpi .eq c2_i32 c0_i32_396
  let c1_i32_397 : BitVec 32 := 1#32
  let v717 : BitVec 32 := Scalar.select v716 c1_i32_397 c2_i32
  let v718 : BitVec 32 := Scalar.remsi v715 v717
  let c0_i32_399 : BitVec 32 := 0#32
  let v720 : BitVec 1 := Scalar.cmpi .slt v718 c0_i32_399
  let c0_i32_400 : BitVec 32 := 0#32
  let v721 : BitVec 1 := Scalar.cmpi .slt v717 c0_i32_400
  let v722 : BitVec 1 := Scalar.xori v720 v721
  let c0_i32_398 : BitVec 32 := 0#32
  let v719 : BitVec 1 := Scalar.cmpi .ne v718 c0_i32_398
  let v723 : BitVec 1 := Scalar.andi v722 v719
  let v724 : BitVec 32 := Scalar.addi v718 v717
  let v725 : BitVec 32 := Scalar.select v723 v724 v718
  let c1_i32_403 : BitVec 32 := 1#32
  let v729 : BitVec 1 := Scalar.cmpi .eq v725 c1_i32_403
  let v730 : BitVec 32 := Scalar.extui v729
  let c0_i32_404 : BitVec 32 := 0#32
  let v731 : BitVec 1 := Scalar.cmpi .ne v730 c0_i32_404
  v731

def k0_mult9 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32 : BitVec 32 := 512#32
  let v732 : BitVec 32 := Scalar.muli arg31 c512_i32
  v732
def k0_off5 (k0_t1 : Fin k0_t1_loop.trips) : Fin 3 → Nat :=
  let c0_405 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32 : BitVec 32 := 512#32
  let v732 : BitVec 32 := Scalar.muli arg31 c512_i32
  let v733 : BitVec 32 := v732
  let v734 : Index := Scalar.indexCast v733
  let c0_406 : Index := 0#32
  ![0, v734.toNat, 0]
def k0_off6 (k0_t1 : Fin k0_t1_loop.trips) : Fin 4 → Nat :=
  let c0_476 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c2_i32_474 : BitVec 32 := 2#32
  let v920 : BitVec 32 := Scalar.subi arg31 c2_i32_474
  let c0_i32_475 : BitVec 32 := 0#32
  let v921 : BitVec 32 := Scalar.maxsi v920 c0_i32_475
  let v922 : Index := Scalar.indexCast v921
  let c0_477 : Index := 0#32
  let c0_478 : Index := 0#32
  ![0, v922.toNat, 0, 0]
def k0_mult10 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_488 : BitVec 32 := 512#32
  let v936 : BitVec 32 := Scalar.muli arg31 c512_i32_488
  v936
def k0_off7 (k0_t1 : Fin k0_t1_loop.trips) : Fin 3 → Nat :=
  let c0_489 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_488 : BitVec 32 := 512#32
  let v936 : BitVec 32 := Scalar.muli arg31 c512_i32_488
  let v937 : BitVec 32 := v936
  let v938 : Index := Scalar.indexCast v937
  let c128_490 : Index := 128#32
  ![0, v938.toNat, 128]
def k0_off8 (k0_t1 : Fin k0_t1_loop.trips) : Fin 4 → Nat :=
  let c0_561 : Index := 0#32
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c2_i32_559 : BitVec 32 := 2#32
  let v1124 : BitVec 32 := Scalar.subi arg31 c2_i32_559
  let c0_i32_560 : BitVec 32 := 0#32
  let v1125 : BitVec 32 := Scalar.maxsi v1124 c0_i32_560
  let v1126 : Index := Scalar.indexCast v1125
  let c64_562 : Index := 64#32
  let c0_563 : Index := 0#32
  ![0, v1126.toNat, 64, 0]
def k0_mult11 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_573 : BitVec 32 := 512#32
  let v1140 : BitVec 32 := Scalar.muli arg31 c512_i32_573
  v1140
def k0_mult12 (k0_t1 : Fin k0_t1_loop.trips) : BitVec 32 :=
  let c0_i32_109 : BitVec 32 := 0#32
  let c1_i32 : BitVec 32 := 1#32
  let v149 : BitVec 32 := Scalar.maxsi c0_i32_109 c1_i32
  let c1_i32_112 : BitVec 32 := 1#32
  let arg31 : BitVec 32 := Scf.iv v149 c1_i32_112 k0_t1
  let c512_i32_658 : BitVec 32 := 512#32
  let v1344 : BitVec 32 := Scalar.muli arg31 c512_i32_658
  v1344
@[reducible] def k0_t2_loop : Scf.Loop 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let v151 : BitVec 32 := Scalar.addi v149 v150
  let c1_i32_113 : BitVec 32 := 1#32
  ⟨v154, v151, c1_i32_113⟩
def k0_cond3 (k0_t2 : Fin k0_t2_loop.trips) : BitVec 1 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c0_i32_395 : BitVec 32 := 0#32
  let v715 : BitVec 32 := Scalar.subi arg31 c0_i32_395
  let c2_i32 : BitVec 32 := 2#32
  let c0_i32_396 : BitVec 32 := 0#32
  let v716 : BitVec 1 := Scalar.cmpi .eq c2_i32 c0_i32_396
  let c1_i32_397 : BitVec 32 := 1#32
  let v717 : BitVec 32 := Scalar.select v716 c1_i32_397 c2_i32
  let v718 : BitVec 32 := Scalar.remsi v715 v717
  let c0_i32_399 : BitVec 32 := 0#32
  let v720 : BitVec 1 := Scalar.cmpi .slt v718 c0_i32_399
  let c0_i32_400 : BitVec 32 := 0#32
  let v721 : BitVec 1 := Scalar.cmpi .slt v717 c0_i32_400
  let v722 : BitVec 1 := Scalar.xori v720 v721
  let c0_i32_398 : BitVec 32 := 0#32
  let v719 : BitVec 1 := Scalar.cmpi .ne v718 c0_i32_398
  let v723 : BitVec 1 := Scalar.andi v722 v719
  let v724 : BitVec 32 := Scalar.addi v718 v717
  let v725 : BitVec 32 := Scalar.select v723 v724 v718
  let c0_i32_401 : BitVec 32 := 0#32
  let v726 : BitVec 1 := Scalar.cmpi .eq v725 c0_i32_401
  let v727 : BitVec 32 := Scalar.extui v726
  let c0_i32_402 : BitVec 32 := 0#32
  let v728 : BitVec 1 := Scalar.cmpi .ne v727 c0_i32_402
  v728

def k0_mult13 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32 : BitVec 32 := 512#32
  let v732 : BitVec 32 := Scalar.muli arg31 c512_i32
  v732
def k0_off9 (k0_t2 : Fin k0_t2_loop.trips) : Fin 3 → Nat :=
  let c0_405 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32 : BitVec 32 := 512#32
  let v732 : BitVec 32 := Scalar.muli arg31 c512_i32
  let v733 : BitVec 32 := v732
  let v734 : Index := Scalar.indexCast v733
  let c0_406 : Index := 0#32
  ![0, v734.toNat, 0]
def k0_off10 (k0_t2 : Fin k0_t2_loop.trips) : Fin 4 → Nat :=
  let c0_476 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c2_i32_474 : BitVec 32 := 2#32
  let v920 : BitVec 32 := Scalar.subi arg31 c2_i32_474
  let c0_i32_475 : BitVec 32 := 0#32
  let v921 : BitVec 32 := Scalar.maxsi v920 c0_i32_475
  let v922 : Index := Scalar.indexCast v921
  let c0_477 : Index := 0#32
  let c0_478 : Index := 0#32
  ![0, v922.toNat, 0, 0]
def k0_mult14 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_488 : BitVec 32 := 512#32
  let v936 : BitVec 32 := Scalar.muli arg31 c512_i32_488
  v936
def k0_off11 (k0_t2 : Fin k0_t2_loop.trips) : Fin 3 → Nat :=
  let c0_489 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_488 : BitVec 32 := 512#32
  let v936 : BitVec 32 := Scalar.muli arg31 c512_i32_488
  let v937 : BitVec 32 := v936
  let v938 : Index := Scalar.indexCast v937
  let c128_490 : Index := 128#32
  ![0, v938.toNat, 128]
def k0_off12 (k0_t2 : Fin k0_t2_loop.trips) : Fin 4 → Nat :=
  let c0_561 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c2_i32_559 : BitVec 32 := 2#32
  let v1124 : BitVec 32 := Scalar.subi arg31 c2_i32_559
  let c0_i32_560 : BitVec 32 := 0#32
  let v1125 : BitVec 32 := Scalar.maxsi v1124 c0_i32_560
  let v1126 : Index := Scalar.indexCast v1125
  let c64_562 : Index := 64#32
  let c0_563 : Index := 0#32
  ![0, v1126.toNat, 64, 0]
def k0_mult15 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_573 : BitVec 32 := 512#32
  let v1140 : BitVec 32 := Scalar.muli arg31 c512_i32_573
  v1140
def k0_mult16 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_658 : BitVec 32 := 512#32
  let v1344 : BitVec 32 := Scalar.muli arg31 c512_i32_658
  v1344
def k0_cond4 (k0_t2 : Fin k0_t2_loop.trips) : BitVec 1 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c0_i32_395 : BitVec 32 := 0#32
  let v715 : BitVec 32 := Scalar.subi arg31 c0_i32_395
  let c2_i32 : BitVec 32 := 2#32
  let c0_i32_396 : BitVec 32 := 0#32
  let v716 : BitVec 1 := Scalar.cmpi .eq c2_i32 c0_i32_396
  let c1_i32_397 : BitVec 32 := 1#32
  let v717 : BitVec 32 := Scalar.select v716 c1_i32_397 c2_i32
  let v718 : BitVec 32 := Scalar.remsi v715 v717
  let c0_i32_399 : BitVec 32 := 0#32
  let v720 : BitVec 1 := Scalar.cmpi .slt v718 c0_i32_399
  let c0_i32_400 : BitVec 32 := 0#32
  let v721 : BitVec 1 := Scalar.cmpi .slt v717 c0_i32_400
  let v722 : BitVec 1 := Scalar.xori v720 v721
  let c0_i32_398 : BitVec 32 := 0#32
  let v719 : BitVec 1 := Scalar.cmpi .ne v718 c0_i32_398
  let v723 : BitVec 1 := Scalar.andi v722 v719
  let v724 : BitVec 32 := Scalar.addi v718 v717
  let v725 : BitVec 32 := Scalar.select v723 v724 v718
  let c1_i32_403 : BitVec 32 := 1#32
  let v729 : BitVec 1 := Scalar.cmpi .eq v725 c1_i32_403
  let v730 : BitVec 32 := Scalar.extui v729
  let c0_i32_404 : BitVec 32 := 0#32
  let v731 : BitVec 1 := Scalar.cmpi .ne v730 c0_i32_404
  v731

def k0_mult17 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32 : BitVec 32 := 512#32
  let v732 : BitVec 32 := Scalar.muli arg31 c512_i32
  v732
def k0_off13 (k0_t2 : Fin k0_t2_loop.trips) : Fin 3 → Nat :=
  let c0_405 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32 : BitVec 32 := 512#32
  let v732 : BitVec 32 := Scalar.muli arg31 c512_i32
  let v733 : BitVec 32 := v732
  let v734 : Index := Scalar.indexCast v733
  let c0_406 : Index := 0#32
  ![0, v734.toNat, 0]
def k0_off14 (k0_t2 : Fin k0_t2_loop.trips) : Fin 4 → Nat :=
  let c0_476 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c2_i32_474 : BitVec 32 := 2#32
  let v920 : BitVec 32 := Scalar.subi arg31 c2_i32_474
  let c0_i32_475 : BitVec 32 := 0#32
  let v921 : BitVec 32 := Scalar.maxsi v920 c0_i32_475
  let v922 : Index := Scalar.indexCast v921
  let c0_477 : Index := 0#32
  let c0_478 : Index := 0#32
  ![0, v922.toNat, 0, 0]
def k0_mult18 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_488 : BitVec 32 := 512#32
  let v936 : BitVec 32 := Scalar.muli arg31 c512_i32_488
  v936
def k0_off15 (k0_t2 : Fin k0_t2_loop.trips) : Fin 3 → Nat :=
  let c0_489 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_488 : BitVec 32 := 512#32
  let v936 : BitVec 32 := Scalar.muli arg31 c512_i32_488
  let v937 : BitVec 32 := v936
  let v938 : Index := Scalar.indexCast v937
  let c128_490 : Index := 128#32
  ![0, v938.toNat, 128]
def k0_off16 (k0_t2 : Fin k0_t2_loop.trips) : Fin 4 → Nat :=
  let c0_561 : Index := 0#32
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c2_i32_559 : BitVec 32 := 2#32
  let v1124 : BitVec 32 := Scalar.subi arg31 c2_i32_559
  let c0_i32_560 : BitVec 32 := 0#32
  let v1125 : BitVec 32 := Scalar.maxsi v1124 c0_i32_560
  let v1126 : Index := Scalar.indexCast v1125
  let c64_562 : Index := 64#32
  let c0_563 : Index := 0#32
  ![0, v1126.toNat, 64, 0]
def k0_mult19 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_573 : BitVec 32 := 512#32
  let v1140 : BitVec 32 := Scalar.muli arg31 c512_i32_573
  v1140
def k0_mult20 (k0_t2 : Fin k0_t2_loop.trips) : BitVec 32 :=
  let c0_i32_109 : BitVec 32 := 0#32
  let c1_i32 : BitVec 32 := 1#32
  let v149 : BitVec 32 := Scalar.maxsi c0_i32_109 c1_i32
  let c32_i32 : BitVec 32 := 32#32
  let v150 : BitVec 32 := Scalar.subi c32_i32 v149
  let c1_i32_111 : BitVec 32 := 1#32
  let v152 : BitVec 32 := Scalar.divsi v150 c1_i32_111
  let v153 : BitVec 32 := Scalar.muli v152 c1_i32_111
  let v154 : BitVec 32 := Scalar.addi v149 v153
  let c1_i32_113 : BitVec 32 := 1#32
  let arg31 : BitVec 32 := Scf.iv v154 c1_i32_113 k0_t2
  let c512_i32_658 : BitVec 32 := 512#32
  let v1344 : BitVec 32 := Scalar.muli arg31 c512_i32_658
  v1344
def k0_off17 : Fin 4 → Nat :=
  let c0_151 : Index := 0#32
  let c30_i32 : BitVec 32 := 30#32
  let c0_i32_150 : BitVec 32 := 0#32
  let v259 : BitVec 32 := Scalar.maxsi c30_i32 c0_i32_150
  let v260 : Index := Scalar.indexCast v259
  let c0_152 : Index := 0#32
  let c0_153 : Index := 0#32
  ![0, v260.toNat, 0, 0]
def k0_off18 : Fin 4 → Nat :=
  let c0_219 : Index := 0#32
  let c30_i32_217 : BitVec 32 := 30#32
  let c0_i32_218 : BitVec 32 := 0#32
  let v391 : BitVec 32 := Scalar.maxsi c30_i32_217 c0_i32_218
  let v392 : Index := Scalar.indexCast v391
  let c64_220 : Index := 64#32
  let c0_221 : Index := 0#32
  ![0, v392.toNat, 64, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x32x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F]
-- ==== ReferenceIdeal.lean ====
abbrev S2x16384x4x64 : Shape := ⟨4, ![2, 16384, 4, 64]⟩
abbrev S2x16384x4x32 : Shape := ⟨4, ![2, 16384, 4, 32]⟩
abbrev S2x16384x32 : Shape := ⟨3, ![2, 16384, 32]⟩
abbrev S_ : Shape := ⟨0, ![]⟩
abbrev S2x4x16384x16384 : Shape := ⟨4, ![2, 4, 16384, 16384]⟩
abbrev S2x16384x16384x4 : Shape := ⟨4, ![2, 16384, 16384, 4]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x256 : Shape := ⟨3, ![2, 16384, 256]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x4x64, .f32⟩
  | .hbm, ⟨1, _⟩ => ⟨S2x16384x4x32, .f32⟩
  | .hbm, ⟨2, _⟩ => ⟨S2x16384x4x64, .f32⟩
  | .hbm, ⟨3, _⟩ => ⟨S2x16384x32, .f32⟩
  | .hbm, ⟨4, _⟩ => ⟨S2x16384x4x64, .f32⟩
  | .hbm, ⟨5, _⟩ => ⟨S_, .f32⟩
  | .hbm, ⟨6, _⟩ => ⟨S_, .f32⟩
  | .hbm, ⟨7, _⟩ => ⟨S2x4x16384x16384, .f32⟩
  | .hbm, ⟨8, _⟩ => ⟨S2x16384x16384x4, .f32⟩
  | .hbm, ⟨9, _⟩ => ⟨S2x4x16384x16384, .f32⟩
  | .hbm, ⟨10, _⟩ => ⟨S2x4x16384x16384, .f32⟩
  | .hbm, ⟨11, _⟩ => ⟨S2x4x16384x16384, .f32⟩
  | .hbm, ⟨12, _⟩ => ⟨S2x4x16384x16384, .f32⟩
  | .hbm, ⟨13, _⟩ => ⟨S_, .f32⟩
  | .hbm, ⟨14, _⟩ => ⟨S2x4x16384, .f32⟩
  | .hbm, ⟨15, _⟩ => ⟨S_, .f32⟩
  | .hbm, ⟨16, _⟩ => ⟨S2x4x16384, .f32⟩
  | .hbm, ⟨17, _⟩ => ⟨S2x4x16384, .f32⟩
  | .hbm, ⟨18, _⟩ => ⟨S2x4x16384x1, .f32⟩
  | .hbm, ⟨19, _⟩ => ⟨S2x4x16384x16384, .f32⟩
  | .hbm, ⟨20, _⟩ => ⟨S2x4x16384x16384, .f32⟩
  | .hbm, ⟨21, _⟩ => ⟨S2x4x16384x16384, .f32⟩
  | .hbm, ⟨22, _⟩ => ⟨S_, .f32⟩
  | .hbm, ⟨23, _⟩ => ⟨S2x4x16384, .f32⟩
  | .hbm, ⟨24, _⟩ => ⟨S2x4x16384x1, .f32⟩
  | .hbm, ⟨25, _⟩ => ⟨S2x4x16384x16384, .f32⟩
  | .hbm, ⟨26, _⟩ => ⟨S2x4x16384x16384, .f32⟩
  | .hbm, ⟨27, _⟩ => ⟨S2x4x64x16384, .f32⟩
  | .hbm, ⟨28, _⟩ => ⟨S2x16384x4x64, .f32⟩
  | .hbm, ⟨29, _⟩ => ⟨S2x16384x256, .f32⟩
  | .hbm, ⟨30, _⟩ => ⟨S2x16384x256, .bf16⟩
  | _, _ => ⟨S2x16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x256 : Shape := ⟨3, ![2, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x256x1024 : Shape := ⟨3, ![4, 256, 1024]⟩
abbrev S1x1024 : Shape := ⟨2, ![1, 1024]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩
abbrev S1024x1408 : Shape := ⟨2, ![1024, 1408]⟩
abbrev S1408x1024 : Shape := ⟨2, ![1408, 1024]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x1408 : Shape := ⟨2, ![512, 1408]⟩

abbrev nBuf : Space → Nat
  | .hbm => 28
  | .vmem => 23
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S4x256x1024, .f32⟩
  | .hbm, ⟨12, _⟩ => ⟨S4x256x1024, .bf16⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S32768x1024, .f32⟩
  | .hbm, ⟨18, _⟩ => ⟨S2x16384x256, .bf16⟩
  | .hbm, ⟨19, _⟩ => ⟨S32768x256, .bf16⟩
  | .hbm, ⟨20, _⟩ => ⟨S2x16384x256, .bf16⟩
  | .hbm, ⟨21, _⟩ => ⟨S32768x256, .bf16⟩
  | .hbm, ⟨22, _⟩ => ⟨S2x16384x256, .bf16⟩
  | .hbm, ⟨23, _⟩ => ⟨S32768x256, .bf16⟩
  | .hbm, ⟨24, _⟩ => ⟨S2x16384x256, .bf16⟩
  | .hbm, ⟨25, _⟩ => ⟨S32768x256, .bf16⟩
  | .hbm, ⟨26, _⟩ => ⟨S1x1024, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S4x256x1024, .bf16⟩
  | .local _ .vmem, ⟨11, _⟩ => ⟨S1x1024, .f32⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S2x16384x1024 : Shape := ⟨3, ![2, 16384, 1024]⟩
abbrev S2x16384x256 : Shape := ⟨3, ![2, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S_, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1, .f32⟩
  | .hbm, ⟨55, _⟩ => ⟨S2x16384x1024, .f32⟩
  | .hbm, ⟨56, _⟩ => ⟨S2x16384x1024, .f32⟩
  | .hbm, ⟨57, _⟩ => ⟨S1x1x1024, .f32⟩
  | .hbm, ⟨58, _⟩ => ⟨S2x16384x1024, .f32⟩
  | .hbm, ⟨59, _⟩ => ⟨S2x16384x1024, .f32⟩
  | .hbm, ⟨60, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x2720 : Shape := ⟨2, ![1024, 2720]⟩
abbrev S256 : Shape := ⟨1, ![256]⟩
abbrev S256x384 : Shape := ⟨2, ![256, 384]⟩
abbrev S128 : Shape := ⟨1, ![128]⟩
abbrev S128x512 : Shape := ⟨2, ![128, 512]⟩
abbrev S1024x256 : Shape := ⟨2, ![1024, 256]⟩
abbrev S1024x128 : Shape := ⟨2, ![1024, 128]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x1792 : Shape := ⟨2, ![1024, 1792]⟩
abbrev S1024x1024 : Shape := ⟨2, ![1024, 1024]⟩
abbrev S256x4x96 : Shape := ⟨3, ![256, 4, 96]⟩
abbrev S256x4x128 : Shape := ⟨3, ![256, 4, 128]⟩
abbrev S256x512 : Shape := ⟨2, ![256, 512]⟩
abbrev S128x4x128 : Shape := ⟨3, ![128, 4, 128]⟩
abbrev S1 : Shape := ⟨1, ![1]⟩
abbrev S128x4x64 : Shape := ⟨3, ![128, 4, 64]⟩
abbrev S128x256 : Shape := ⟨2, ![128, 256]⟩
abbrev S32 : Shape := ⟨1, ![32]⟩
abbrev S32x1 : Shape := ⟨2, ![32, 1]⟩
abbrev S32x2 : Shape := ⟨2, ![32, 2]⟩
abbrev S512x256 : Shape := ⟨2, ![512, 256]⟩
abbrev S256x128 : Shape := ⟨2, ![256, 128]⟩
abbrev S1x256 : Shape := ⟨2, ![1, 256]⟩
abbrev S1x128 : Shape := ⟨2, ![1, 128]⟩
abbrev S1x1024 : Shape := ⟨2, ![1, 1024]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x128 : Shape := ⟨2, ![16384, 128]⟩
abbrev S32x512x16 : Shape := ⟨3, ![32, 512, 16]⟩
abbrev S32x16x512 : Shape := ⟨3, ![32, 16, 512]⟩
abbrev S2x16384x256 : Shape := ⟨3, ![2, 16384, 256]⟩
abbrev S2x16384x512 : Shape := ⟨3, ![2, 16384, 512]⟩
abbrev S2x32x256x512 : Shape := ⟨4, ![2, 32, 256, 512]⟩
abbrev S2x64x256x256 : Shape := ⟨4, ![2, 64, 256, 256]⟩
abbrev S2x32x512x512 : Shape := ⟨4, ![2, 32, 512, 512]⟩
abbrev S1x512x1024 : Shape := ⟨3, ![1, 512, 1024]⟩
abbrev S512x128 : Shape := ⟨2, ![512, 128]⟩
abbrev S1x16x512 : Shape := ⟨3, ![1, 16, 512]⟩
abbrev S1x512x256 : Shape := ⟨3, ![1, 512, 256]⟩
abbrev S1x512x512 : Shape := ⟨3, ![1, 512, 512]⟩
abbrev S1x1x256x512 : Shape := ⟨4, ![1, 1, 256, 512]⟩
abbrev S1x2x256x256 : Shape := ⟨4, ![1, 2, 256, 256]⟩
abbrev S1x1x512x512 : Shape := ⟨4, ![1, 1, 512, 512]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩
abbrev S1024x512 : Shape := ⟨2, ![1024, 512]⟩
abbrev S256x256 : Shape := ⟨2, ![256, 256]⟩
abbrev S1x1x256x256 : Shape := ⟨4, ![1, 1, 256, 256]⟩
abbrev S512x512 : Shape := ⟨2, ![512, 512]⟩
abbrev S16x512 : Shape := ⟨2, ![16, 512]⟩
abbrev S64x512 : Shape := ⟨2, ![64, 512]⟩
abbrev S32x512 : Shape := ⟨2, ![32, 512]⟩

abbrev nBuf : Space → Nat
  | .hbm => 185
  | .vmem => 41
  | .smem => 0
  | _ => 0

abbrev hbmTy0_0 (i : Nat) : BufTy := match i % 128 with
  | 0 => ⟨S2x16384x1024, .f32⟩
  | 1 => ⟨S1024, .f32⟩
  | 2 => ⟨S1024x2720, .f32⟩
  | 3 => ⟨S256, .f32⟩
  | 4 => ⟨S256x384, .f32⟩
  | 5 => ⟨S128, .f32⟩
  | 6 => ⟨S128x512, .f32⟩
  | 7 => ⟨S1024x256, .f32⟩
  | 8 => ⟨S1024x128, .f32⟩
  | 9 => ⟨S1024x32, .f32⟩
  | 10 => ⟨S1024x16, .f32⟩
  | 11 => ⟨S1024x16, .f32⟩
  | 12 => ⟨S1024x32, .f32⟩
  | 13 => ⟨S_, .f32⟩
  | 14 => ⟨S1024x64, .f32⟩
  | 15 => ⟨S1024x128, .f32⟩
  | 16 => ⟨S1024x256, .f32⟩
  | 17 => ⟨S1024x256, .f32⟩
  | 18 => ⟨S1024x256, .f32⟩
  | 19 => ⟨S1024x256, .f32⟩
  | 20 => ⟨S1024x256, .f32⟩
  | 21 => ⟨S1024x1792, .f32⟩
  | 22 => ⟨S1024x256, .f32⟩
  | 23 => ⟨S1024x256, .f32⟩
  | 24 => ⟨S1024x256, .f32⟩
  | 25 => ⟨S1024x256, .f32⟩
  | 26 => ⟨S1024x1024, .f32⟩
  | 27 => ⟨S1024x1024, .f32⟩
  | 28 => ⟨S256x4x96, .f32⟩
  | 29 => ⟨S_, .i32⟩
  | 30 => ⟨S_, .f32⟩
  | 31 => ⟨S256x4x128, .f32⟩
  | 32 => ⟨S256x512, .f32⟩
  | 33 => ⟨S128x4x128, .f32⟩
  | 34 => ⟨S_, .i32⟩
  | 35 => ⟨S1, .i32⟩
  | 36 => ⟨S_, .f32⟩
  | 37 => ⟨S128x4x64, .f32⟩
  | 38 => ⟨S128x4x128, .f32⟩
  | 39 => ⟨S128x512, .f32⟩
  | 40 => ⟨S128x4x64, .f32⟩
  | 41 => ⟨S128x256, .f32⟩
  | 42 => ⟨S_, .f32⟩
  | 43 => ⟨S128x512, .f32⟩
  | 44 => ⟨S32, .i32⟩
  | 45 => ⟨S_, .i32⟩
  | 46 => ⟨S32, .i32⟩
  | 47 => ⟨S32, .i32⟩
  | 48 => ⟨S_, .i32⟩
  | 49 => ⟨S32, .i32⟩
  | 50 => ⟨S32, .i1⟩
  | 51 => ⟨S_, .i32⟩
  | 52 => ⟨S32, .i32⟩
  | 53 => ⟨S32, .i32⟩
  | 54 => ⟨S32, .i32⟩
  | 55 => ⟨S_, .i32⟩
  | 56 => ⟨S32, .i32⟩
  | 57 => ⟨S32, .i1⟩
  | 58 => ⟨S_, .i32⟩
  | 59 => ⟨S32, .i32⟩
  | 60 => ⟨S32, .i32⟩
  | 61 => ⟨S32, .i32⟩
  | 62 => ⟨S32x1, .i32⟩
  | 63 => ⟨S32x1, .i32⟩
  | 64 => ⟨S32x2, .i32⟩
  | 65 => ⟨S_, .f32⟩
  | 66 => ⟨S32, .f32⟩
  | 67 => ⟨S128x512, .f32⟩
  | 68 => ⟨S_, .i32⟩
  | 69 => ⟨S32, .i32⟩
  | 70 => ⟨S32, .i32⟩
  | 71 => ⟨S_, .i32⟩
  | 72 => ⟨S32, .i32⟩
  | 73 => ⟨S32, .i1⟩
  | 74 => ⟨S_, .i32⟩
  | 75 => ⟨S32, .i32⟩
  | 76 => ⟨S32, .i32⟩
  | 77 => ⟨S32, .i32⟩
  | 78 => ⟨S_, .i32⟩
  | 79 => ⟨S32, .i32⟩
  | 80 => ⟨S32, .i1⟩
  | 81 => ⟨S_, .i32⟩
  | 82 => ⟨S32, .i32⟩
  | 83 => ⟨S32, .i32⟩
  | 84 => ⟨S32, .i32⟩
  | 85 => ⟨S32x1, .i32⟩
  | 86 => ⟨S32x1, .i32⟩
  | 87 => ⟨S32x2, .i32⟩
  | 88 => ⟨S_, .f32⟩
  | 89 => ⟨S32, .f32⟩
  | 90 => ⟨S128x512, .f32⟩
  | 91 => ⟨S_, .i32⟩
  | 92 => ⟨S32, .i32⟩
  | 93 => ⟨S32, .i32⟩
  | 94 => ⟨S_, .i32⟩
  | 95 => ⟨S32, .i32⟩
  | 96 => ⟨S32, .i1⟩
  | 97 => ⟨S_, .i32⟩
  | 98 => ⟨S32, .i32⟩
  | 99 => ⟨S32, .i32⟩
  | 100 => ⟨S32, .i32⟩
  | 101 => ⟨S_, .i32⟩
  | 102 => ⟨S32, .i32⟩
  | 103 => ⟨S32, .i1⟩
  | 104 => ⟨S_, .i32⟩
  | 105 => ⟨S32, .i32⟩
  | 106 => ⟨S32, .i32⟩
  | 107 => ⟨S32, .i32⟩
  | 108 => ⟨S32x1, .i32⟩
  | 109 => ⟨S32x1, .i32⟩
  | 110 => ⟨S32x2, .i32⟩
  | 111 => ⟨S_, .f32⟩
  | 112 => ⟨S32, .f32⟩
  | 113 => ⟨S128x512, .f32⟩
  | 114 => ⟨S_, .i32⟩
  | 115 => ⟨S32, .i32⟩
  | 116 => ⟨S32, .i32⟩
  | 117 => ⟨S_, .i32⟩
  | 118 => ⟨S32, .i32⟩
  | 119 => ⟨S32, .i1⟩
  | 120 => ⟨S_, .i32⟩
  | 121 => ⟨S32, .i32⟩
  | 122 => ⟨S32, .i32⟩
  | 123 => ⟨S32, .i32⟩
  | 124 => ⟨S_, .i32⟩
  | 125 => ⟨S32, .i32⟩
  | 126 => ⟨S32, .i1⟩
  | 127 => ⟨S_, .i32⟩
  | _ => ⟨S2x16384x1024, .f32⟩

abbrev hbmTy0_1 (i : Nat) : BufTy := match i % 128 with
  | 0 => ⟨S32, .i32⟩
  | 1 => ⟨S32, .i32⟩
  | 2 => ⟨S32, .i32⟩
  | 3 => ⟨S32x1, .i32⟩
  | 4 => ⟨S32x1, .i32⟩
  | 5 => ⟨S32x2, .i32⟩
  | 6 => ⟨S_, .f32⟩
  | 7 => ⟨S32, .f32⟩
  | 8 => ⟨S128x512, .f32⟩
  | 9 => ⟨S1024x1792, .bf16⟩
  | 10 => ⟨S1024x1024, .bf16⟩
  | 11 => ⟨S512x256, .f32⟩
  | 12 => ⟨S512x256, .bf16⟩
  | 13 => ⟨S128x512, .bf16⟩
  | 14 => ⟨S256x128, .f32⟩
  | 15 => ⟨S256x128, .bf16⟩
  | 16 => ⟨S128x512, .bf16⟩
  | 17 => ⟨S1x256, .f32⟩
  | 18 => ⟨S1x128, .f32⟩
  | 19 => ⟨S1x1024, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16384, .i32⟩
  | 29 => ⟨S16384, .f32⟩
  | 30 => ⟨S16384x1, .f32⟩
  | 31 => ⟨S1x16, .f32⟩
  | 32 => ⟨S16384x16, .f32⟩
  | 33 => ⟨S16384x16, .f32⟩
  | 34 => ⟨S16384x16, .f32⟩
  | 35 => ⟨S16384x16, .f32⟩
  | 36 => ⟨S16384x16, .f32⟩
  | 37 => ⟨S16384x16, .f32⟩
  | 38 => ⟨S_, .f32⟩
  | 39 => ⟨S16384x64, .f32⟩
  | 40 => ⟨S16384x128, .f32⟩
  | 41 => ⟨S32x512x16, .f32⟩
  | 42 => ⟨S32x16x512, .f32⟩
  | 43 => ⟨S32x512x16, .f32⟩
  | 44 => ⟨S32x16x512, .f32⟩
  | 45 => ⟨S2x16384x256, .bf16⟩
  | 46 => ⟨S2x16384x256, .bf16⟩
  | 47 => ⟨S2x16384x256, .bf16⟩
  | 48 => ⟨S2x16384x256, .bf16⟩
  | 49 => ⟨S2x16384x256, .bf16⟩
  | 50 => ⟨S2x16384x512, .bf16⟩
  | 51 => ⟨S2x32x256x512, .bf16⟩
  | 52 => ⟨S2x32x256x512, .bf16⟩
  | 53 => ⟨S2x64x256x256, .bf16⟩
  | 54 => ⟨S2x64x256x256, .bf16⟩
  | 55 => ⟨S2x32x512x512, .bf16⟩
  | 56 => ⟨S2x32x256x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1024, .bf16⟩
  | .local _ .vmem, ⟨5, _⟩ => ⟨S1x256, .f32⟩
  | .local _ .vmem, ⟨6, _⟩ => ⟨S512x256, .bf16⟩
  | .local _ .vmem, ⟨7, _⟩ => ⟨S1x128, .f32⟩
  | .local _ .vmem, ⟨8, _⟩ => ⟨S128x512, .bf16⟩
  | .local _ .vmem, ⟨9, _⟩ => ⟨S256x128, .bf16⟩
  | .local _ .vmem, ⟨10, _⟩ => ⟨S128x512, .bf16⟩
  | .local _ .vmem, ⟨11, _⟩ => ⟨S512x128, .f32⟩
  | .local _ .vmem, ⟨12, _⟩ => ⟨S512x128, .f32⟩
  | .local _ .vmem, ⟨13, _⟩ => ⟨S1x16x512, .f32⟩
  | .local _ .vmem, ⟨14, _⟩ => ⟨S1x16x512, .f32⟩
  | .local _ .vmem, ⟨15, _⟩ => ⟨S1x16x512, .f32⟩
  | .local _ .vmem, ⟨16, _⟩ => ⟨S1x16x512, .f32⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x512, .bf16⟩
  | .local _ .vmem, ⟨28, _⟩ => ⟨S1x512x512, .bf16⟩
  | .local _ .vmem, ⟨29, _⟩ => ⟨S1x1x256x512, .bf16⟩
  | .local _ .vmem, ⟨30, _⟩ => ⟨S1x1x256x512, .bf16⟩
  | .local _ .vmem, ⟨31, _⟩ => ⟨S1x1x256x512, .bf16⟩
  | .local _ .vmem, ⟨32, _⟩ => ⟨S1x1x256x512, .bf16⟩
  | .local _ .vmem, ⟨33, _⟩ => ⟨S1x2x256x256, .bf16⟩
  | .local _ .vmem, ⟨34, _⟩ => ⟨S1x2x256x256, .bf16⟩
  | .local _ .vmem, ⟨35, _⟩ => ⟨S1x2x256x256, .bf16⟩
  | .local _ .vmem, ⟨36, _⟩ => ⟨S1x2x256x256, .bf16⟩
  | .local _ .vmem, ⟨37, _⟩ => ⟨S1x1x512x512, .bf16⟩
  | .local _ .vmem, ⟨38, _⟩ => ⟨S1x1x512x512, .bf16⟩
  | .local _ .vmem, ⟨39, _⟩ => ⟨S1x1x256x512, .bf16⟩
  | .local _ .vmem, ⟨40, _⟩ => ⟨S1x1x256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_0 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_18 : Ref sig .tc := ⟨.hbm, 101, rfl⟩
abbrev main_v73 : Ref sig .tc := ⟨.hbm, 102, rfl⟩
abbrev main_v74 : Ref sig .tc := ⟨.hbm, 103, rfl⟩
abbrev main_c_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_c_21 : Ref sig .tc := ⟨.hbm, 114, rfl⟩
abbrev main_v83 : Ref sig .tc := ⟨.hbm, 115, rfl⟩
abbrev main_v84 : Ref sig .tc := ⟨.hbm, 116, rfl⟩
abbrev main_c_22 : Ref sig .tc := ⟨.hbm, 117, rfl⟩
abbrev main_v85 : Ref sig .tc := ⟨.hbm, 118, rfl⟩
abbrev main_v86 : Ref sig .tc := ⟨.hbm, 119, rfl⟩
abbrev main_c_23 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_24 : Ref sig .tc := ⟨.hbm, 124, rfl⟩
abbrev main_v90 : Ref sig .tc := ⟨.hbm, 125, rfl⟩
abbrev main_v91 : Ref sig .tc := ⟨.hbm, 126, rfl⟩
abbrev main_c_25 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_26 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_27 : Ref sig .tc := ⟨.hbm, 150, rfl⟩
abbrev main_v113 : Ref sig .tc := ⟨.hbm, 151, rfl⟩
abbrev main_v114 : Ref sig .tc := ⟨.hbm, 152, rfl⟩
abbrev main_cst_28 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_29 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133_0 : Ref sig .tc := ⟨.hbm, 173, rfl⟩
abbrev main_v133_1 : Ref sig .tc := ⟨.hbm, 174, rfl⟩
abbrev main_v133_2 : Ref sig .tc := ⟨.hbm, 175, rfl⟩
abbrev main_v133_3 : Ref sig .tc := ⟨.hbm, 176, rfl⟩
abbrev main_v133_4 : Ref sig .tc := ⟨.hbm, 177, rfl⟩
abbrev main_v133_5 : Ref sig .tc := ⟨.hbm, 178, rfl⟩
abbrev main_v133_6 : Ref sig .tc := ⟨.hbm, 179, rfl⟩
abbrev main_v133_7 : Ref sig .tc := ⟨.hbm, 180, rfl⟩
abbrev main_v133_8 : Ref sig .tc := ⟨.hbm, 181, rfl⟩
abbrev main_v133_9 : Ref sig .tc := ⟨.hbm, 182, rfl⟩
abbrev main_v133_10 : Ref sig .tc := ⟨.hbm, 183, rfl⟩
abbrev main_v133_11 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference3Ideal.lean ====
abbrev S2x16384x1024 : Shape := ⟨3, ![2, 16384, 1024]⟩
abbrev S1024 : Shape := ⟨1, ![1024]⟩
abbrev S1024x2720 : Shape := ⟨2, ![1024, 2720]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2720 : Shape := ⟨3, ![2, 16384, 2720]⟩
abbrev S2x16384x256 : Shape := ⟨3, ![2, 16384, 256]⟩
abbrev S2x16384x128 : Shape := ⟨3, ![2, 16384, 128]⟩
abbrev S1x1x128 : Shape := ⟨3, ![1, 1, 128]⟩
abbrev S2x16384x512 : Shape := ⟨3, ![2, 16384, 512]⟩
abbrev S2x16384x4x128 : Shape := ⟨4, ![2, 16384, 4, 128]⟩
abbrev S2x16384x4x64 : Shape := ⟨4, ![2, 16384, 4, 64]⟩
abbrev S2x32x512x256 : Shape := ⟨4, ![2, 32, 512, 256]⟩
abbrev S2x32x256x512 : Shape := ⟨4, ![2, 32, 256, 512]⟩
abbrev S2x64x256x256 : Shape := ⟨4, ![2, 64, 256, 256]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2720, .f32⟩
  | .hbm, ⟨3, _⟩ => ⟨S256, .f32⟩
  | .hbm, ⟨4, _⟩ => ⟨S256x384, .f32⟩
  | .hbm, ⟨5, _⟩ => ⟨S128, .f32⟩
  | .hbm, ⟨6, _⟩ => ⟨S128x512, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S2x16384x2720, .f32⟩
  | .hbm, ⟨24, _⟩ => ⟨S2x16384x256, .f32⟩
  | .hbm, ⟨25, _⟩ => ⟨S2x16384x256, .f32⟩
  | .hbm, ⟨26, _⟩ => ⟨S2x16384x256, .f32⟩
  | .hbm, ⟨27, _⟩ => ⟨S2x16384x256, .f32⟩
  | .hbm, ⟨28, _⟩ => ⟨S2x16384x256, .f32⟩
  | .hbm, ⟨29, _⟩ => ⟨S2x16384x256, .f32⟩
  | .hbm, ⟨30, _⟩ => ⟨S2x16384x256, .f32⟩
  | .hbm, ⟨31, _⟩ => ⟨S2x16384x256, .f32⟩
  | .hbm, ⟨32, _⟩ => ⟨S2x16384x256, .f32⟩
  | .hbm, ⟨33, _⟩ => ⟨S2x16384x128, .f32⟩
  | .hbm, ⟨34, _⟩ => ⟨S2x16384x128, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S2x16384x1, .f32⟩
  | .hbm, ⟨45, _⟩ => ⟨S2x16384x128, .f32⟩
  | .hbm, ⟨46, _⟩ => ⟨S2x16384x128, .f32⟩
  | .hbm, ⟨47, _⟩ => ⟨S1x1x128, .f32⟩
  | .hbm, ⟨48, _⟩ => ⟨S2x16384x128, .f32⟩
  | .hbm, ⟨49, _⟩ => ⟨S2x16384x128, .f32⟩
  | .hbm, ⟨50, _⟩ => ⟨S2x16384x512, .f32⟩
  | .hbm, ⟨51, _⟩ => ⟨S2x16384x4x128, .f32⟩
  | .hbm, ⟨52, _⟩ => ⟨S2x16384x4x64, .f32⟩
  | .hbm, ⟨53, _⟩ => ⟨S2x16384x256, .f32⟩
  | .hbm, ⟨54, _⟩ => ⟨S_, .f32⟩
  | .hbm, ⟨55, _⟩ => ⟨S2x16384x256, .f32⟩
  | .hbm, ⟨56, _⟩ => ⟨S2x16384x256, .f32⟩
  | .hbm, ⟨57, _⟩ => ⟨S_, .f32⟩
  | .hbm, ⟨58, _⟩ => ⟨S2x16384x256, .f32⟩
  | .hbm, ⟨59, _⟩ => ⟨S2x16384x256, .f32⟩
  | .hbm, ⟨60, _⟩ => ⟨S2x32x512x256, .f32⟩
  | .hbm, ⟨61, _⟩ => ⟨S2x32x256x512, .f32⟩
  | .hbm, ⟨62, _⟩ => ⟨S2x32x512x256, .f32⟩
  | .hbm, ⟨63, _⟩ => ⟨S2x32x256x512, .f32⟩
  | .hbm, ⟨64, _⟩ => ⟨S_, .f32⟩
  | .hbm, ⟨65, _⟩ => ⟨S2x16384x256, .f32⟩
  | .hbm, ⟨66, _⟩ => ⟨S2x16384x256, .f32⟩
  | .hbm, ⟨67, _⟩ => ⟨S2x64x256x256, .f32⟩
  | .hbm, ⟨68, _⟩ => ⟨S2x64x256x256, .f32⟩
  | .hbm, ⟨69, _⟩ => ⟨S2x64x256x256, .f32⟩
  | .hbm, ⟨70, _⟩ => ⟨S2x64x256x256, .f32⟩
  | .hbm, ⟨71, _⟩ => ⟨S2x32x512x256, .f32⟩
  | .hbm, ⟨72, _⟩ => ⟨S2x32x256x512, .f32⟩
  | .hbm, ⟨73, _⟩ => ⟨S2x16384x256, .bf16⟩
  | .hbm, ⟨74, _⟩ => ⟨S2x16384x256, .bf16⟩
  | .hbm, ⟨75, _⟩ => ⟨S2x16384x256, .bf16⟩
  | .hbm, ⟨76, _⟩ => ⟨S2x16384x256, .bf16⟩
  | .hbm, ⟨77, _⟩ => ⟨S2x16384x256, .bf16⟩
  | .hbm, ⟨78, _⟩ => ⟨S2x32x256x512, .bf16⟩
  | .hbm, ⟨79, _⟩ => ⟨S2x32x256x512, .bf16⟩
  | .hbm, ⟨80, _⟩ => ⟨S2x64x256x256, .bf16⟩
  | .hbm, ⟨81, _⟩ => ⟨S2x64x256x256, .bf16⟩
  | .hbm, ⟨82, _⟩ => ⟨S2x32x256x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Proof.Stream.lean ====
/-
  The pipelined attention of ONE query stream, written once as programs with the rest of the run as a continuation.

  The call runs four streams side by side, and each passes through the same three phases over its own six buffers: an
  opening (`opening`: scores of the first key tile, buffers reset), thirty-one steps (`step`: scores of the next key tile,
  the exponentials of the last one, and the product with the values of the one before that), and a closing (`closing`).
  The steps alternate between two score buffers and two probability buffers, so a step takes the buffers by their role in
  it. Everything here holds over any float interpretation; `zf` is what the step adds to the row of references, which is
  a zero computed from the fresh scores in one program and the constant zero in the other.
-/
module

public import proofs.«01_k».proof.KernelIdeal
public import proofs.«01_k».proof.Proof.Gen.KernelIdeal
public import Idealize.ShloMosaic.Lib.VecWindow
public import Idealize.ShloMosaic.Lib.Pipeline.Regions
public import Idealize.ShloMosaic.Lib.Tactic

@[expose] public section

set_option maxRecDepth 16384

noncomputable section

namespace Cert.Mla

open Idealize.ShloMosaic Idealize.ShloMosaic.TcCoe Idealize.ShloMosaic.Tactic
open Idealize.SL Idealize.SL.Sem
open Cert.KernelIdeal

variable {F : FTy → Type} [FloatOps F]

/-! ## The values a step computes -/

/-- Scores of one key tile: the keys (rows) against the stream's queries (columns). -/
def scores (q : FVec F S128x512 .bf16) (k : Vec F S1x512x128 .bf16) : FVec F S512x512 .f32 :=
  matmul dot_S512x128_S128x512_S512x512_1_0_0_1_n_n none (shapeCast S512x128 k Facts₀.shapeCasts_S1x512x128_S512x128) q
    (constant S512x512 .f32 0x00000000#32)

/-- The largest score of each query over a tile. -/
def tileMax (s : FVec F S512x512 .f32) : FVec F S1x512 .f32 :=
  shapeCast S1x512 (multiReduction .maximumf [0] S512 s 0xFF800000#32 Facts₀.reduces_S512x512_S512 (.inl rfl) rfl) Facts₀.shapeCasts_S512_S1x512

/-- The row of references minus its own scale, eight copies of it: what each exponential is taken against. -/
def refRows (m c : FVec F S1x512 .f32) : FVec F S8x512 .f32 :=
  broadcastTo S8x512 (shapeCast S1x512 (subf m c) Facts₀.shapeCasts_S1x512_S1x512) Facts₀.broadcasts_S1x512_S8x512

/-- Sixty-four rows of scores against eight rows of references: the rounded exponentials. -/
def expRows (r : FVec F S8x512 .f32) (s : Vec F S64x512 .f32) : FVec F S64x512 .bf16 :=
  shapeCast S64x512
    (truncf .bf16
      (exp2 (shapeCast S64x512
        (subf (shapeCast S8x8x512 s Facts₀.shapeCasts_S64x512_S8x8x512)
          (broadcastTo S8x8x512 (shapeCast S1x8x512 r Facts₀.shapeCasts_S8x512_S1x8x512) Facts₀.broadcasts_S1x8x512_S8x8x512))
        Facts₀.shapeCasts_S8x8x512_S64x512)) Facts₀.bitsLt_bf16_f32) Facts₀.shapeCasts_S64x512_S64x512

/-- Rows `64 i` to `64 i + 64` lie inside the tile. -/
theorem chunkInb (i : Fin 8) : ∀ a, (![64 * i.val, 0] : Fin 2 → Nat) a + S64x512.size a ≤ S512x512.size a := by
  intro a
  have := i.isLt
  fin_cases a
  · show 64 * i.val + 64 ≤ 512
    omega
  · exact Nat.le_refl 512

/-- Whole packed rows are stored. -/
theorem chunkPacked : ∀ i : Fin 8, (Rect.unit (s := S512x512) ![64 * i.val, 0] S64x512.size (chunkInb i)).PackedRows (EltTy.packing .bf16)
  | 0 => Facts₀.packedbf16_S512x512_S64x512_0_0
  | 1 => Facts₀.packedbf16_S512x512_S64x512_64_0
  | 2 => Facts₀.packedbf16_S512x512_S64x512_128_0
  | 3 => Facts₀.packedbf16_S512x512_S64x512_192_0
  | 4 => Facts₀.packedbf16_S512x512_S64x512_256_0
  | 5 => Facts₀.packedbf16_S512x512_S64x512_320_0
  | 6 => Facts₀.packedbf16_S512x512_S64x512_384_0
  | 7 => Facts₀.packedbf16_S512x512_S64x512_448_0

theorem chunkSlices : ∀ i : Fin 8, S512x512.Slices ![64 * i.val, 0] S8x512
  | 0 => Facts₀.slices_S512x512_o0_0_S8x512
  | 1 => Facts₀.slices_S512x512_o64_0_S8x512
  | 2 => Facts₀.slices_S512x512_o128_0_S8x512
  | 3 => Facts₀.slices_S512x512_o192_0_S8x512
  | 4 => Facts₀.slices_S512x512_o256_0_S8x512
  | 5 => Facts₀.slices_S512x512_o320_0_S8x512
  | 6 => Facts₀.slices_S512x512_o384_0_S8x512
  | 7 => Facts₀.slices_S512x512_o448_0_S8x512

/-- The references of a step's `i`-th sixty-four rows: those of the row, plus what `zf` makes of the fresh scores. -/
def stepRef (zf : FVec F S8x512 .f32 → FVec F S8x512 .f32) (s : FVec F S512x512 .f32) (m c : FVec F S1x512 .f32) (i : Fin 8) : FVec F S8x512 .f32 :=
  addf (refRows m c) (zf (extractStridedSlice S8x512 ![64 * i.val, 0] s (chunkSlices i)))

/-- Sixteen rows of ones, which make the product with the values also sum the probabilities. -/
def ones : FVec F S16x512 .bf16 := broadcast S16x512 (Scalar.ofBits .bf16 0x3F80#16)

/-- The values of one tile, with the rows of ones under them. -/
def augmented (v : Vec F S1x1x64x512 .bf16) : FVec F S80x512 .bf16 :=
  concatenate S80x512 0 [⟨S64x512, shapeCast S64x512 v Facts₀.shapeCasts_S1x1x64x512_S64x512⟩, ⟨S16x512, ones⟩] Facts₀.concatenates_S64x512_S16x512_S80x512_d0

/-- The accumulator rescaled, plus the tile's values weighed by its probabilities. -/
def accumulated (v : Vec F S1x1x64x512 .bf16) (al : Vec F S1x512 .f32) (acc : Vec F S80x512 .f32) (p : Vec F S512x512 .bf16) : FVec F S80x512 .f32 :=
  shapeCast S80x512
    (addf (mulf (broadcastTo S80x512 al Facts₀.broadcasts_S1x512_S80x512) acc)
      (matmul dot_S80x512_S512x512_S80x512_1_0_0_1_n_n none (augmented v) p (constant S80x512 .f32 0x00000000#32)))
    Facts₀.shapeCasts_S80x512_S80x512

/-- A row of zeros, written as the sum of two. -/
def zeroRow : FVec F S1x512 .f32 :=
  addf (broadcast S1x512 (Scalar.ofBits .f32 0x00000000#32)) (broadcast S1x512 (Scalar.ofBits .f32 0x00000000#32))

/-- A stream's result: the first sixty-four rows of the accumulator divided by the sum in the next. -/
def quotient (a : Vec F S80x512 .f32) : FVec F S64x512 .f32 :=
  divf (extractStridedSlice S64x512 ![0, 0] a Facts₀.slices_S80x512_o0_0_S64x512)
    (broadcastTo S64x512 (extractStridedSlice S1x512 ![64, 0] a Facts₀.slices_S80x512_o64_0_S1x512) Facts₀.broadcasts_S1x512_S64x512)

/-- Two streams' results side by side, queries down the rows, rounded. -/
def outTile (a b : FVec F S64x512 .f32) : FVec F S1x512x128 .bf16 :=
  shapeCast S1x512x128
    (truncf .bf16 (transpose S512x128 [1, 0] (concatenate S128x512 0 [⟨S64x512, a⟩, ⟨S64x512, b⟩] Facts₀.concatenates_S64x512_S64x512_S128x512_d0)
      Facts₀.transposes_S128x512_p1_0_S512x128) Facts₀.bitsLt_bf16_f32) Facts₀.shapeCasts_S512x128_S1x512x128

/-! ## The programs -/

section Programs

variable {nD : Nat} {τ : Topo} {sig : RefSig} {Λ : Labels} {α : Type}

/-- One load through a unit-stride rectangle, then `k`. -/
abbrev rd {s : Shape} {e : EltTy} (m : Memref sig .tc .vmem s e) (off size : Fin s.rank → ℕ) (inb : ∀ a, off a + size a ≤ s.size a)
    (hl : m.view.LoadsAt (Rect.unit off size inb).toLoadRect) (k : ((Rect.unit off size inb).shape.Idx → Elt F e) → Prog (TpuEff nD τ sig (Elt F) Λ .tc) α) : Prog (TpuEff nD τ sig (Elt F) Λ .tc) α :=
  .op (.load m (Rect.unit off size inb).toLoadRect hl) k

/-- One unmasked store through a unit-stride rectangle, then `k`. -/
abbrev wr {s : Shape} {e : EltTy} (m : Memref sig .tc .vmem s e) (off size : Fin s.rank → ℕ) (inb : ∀ a, off a + size a ≤ s.size a)
    (w : (Rect.unit off size inb).shape.Idx → Elt F e) (hx : (m.access (Rect.unit off size inb)).Stores Finset.univ) (k : Prog (TpuEff nD τ sig (Elt F) Λ .tc) α) : Prog (TpuEff nD τ sig (Elt F) Λ .tc) α :=
  .op (.store m (Rect.unit off size inb) w Finset.univ hx (.inl rfl)) fun _ => k

/-- The six buffers of a stream. -/
structure Bufs (sig : RefSig) where
  s0 : Memref sig .tc .vmem S512x512 .f32
  s1 : Memref sig .tc .vmem S512x512 .f32
  p0 : Memref sig .tc .vmem S512x512 .bf16
  p1 : Memref sig .tc .vmem S512x512 .bf16
  acc : Memref sig .tc .vmem S80x512 .f32
  st : Memref sig .tc .vmem S8x512 .f32
  wp0 : p0.IsWhole
  wp1 : p1.IsWhole

/-- The buffers with the two of each pair exchanged. -/
def Bufs.swap (b : Bufs sig) : Bufs sig := ⟨b.s1, b.s0, b.p1, b.p0, b.acc, b.st, b.wp1, b.wp0⟩

/-- A load of a whole score buffer. -/
abbrev rdS (m : Memref sig .tc .vmem S512x512 .f32) (k : Vec F S512x512 .f32 → Prog (TpuEff nD τ sig (Elt F) Λ .tc) α) : Prog (TpuEff nD τ sig (Elt F) Λ .tc) α :=
  rd m ![0, 0] S512x512.size Facts₀.inb_S512x512_S512x512_0_0 (View.loadsAt_vmem Facts₀.h_S512x512) k
abbrev wrS (m : Memref sig .tc .vmem S512x512 .f32) (w : FVec F S512x512 .f32) (k : Prog (TpuEff nD τ sig (Elt F) Λ .tc) α) : Prog (TpuEff nD τ sig (Elt F) Λ .tc) α :=
  wr m ![0, 0] S512x512.size Facts₀.inb_S512x512_S512x512_0_0 (shapeCast S512x512 w Facts₀.shapeCasts_S512x512_S512x512)
    (View.stores_vmem_bits_univ Facts₀.h_S512x512 rfl) k
/-- A load of a whole probability buffer. -/
abbrev rdP (m : Memref sig .tc .vmem S512x512 .bf16) (k : Vec F S512x512 .bf16 → Prog (TpuEff nD τ sig (Elt F) Λ .tc) α) : Prog (TpuEff nD τ sig (Elt F) Λ .tc) α :=
  rd m ![0, 0] S512x512.size Facts₀.inb_S512x512_S512x512_0_0 (View.loadsAt_vmem Facts₀.h_S512x512) k
abbrev wrP (m : Memref sig .tc .vmem S512x512 .bf16) (hm : m.IsWhole) (w : FVec F S512x512 .bf16) (k : Prog (TpuEff nD τ sig (Elt F) Λ .tc) α) : Prog (TpuEff nD τ sig (Elt F) Λ .tc) α :=
  wr m ![0, 0] S512x512.size Facts₀.inb_S512x512_S512x512_0_0 (shapeCast S512x512 w Facts₀.shapeCasts_S512x512_S512x512)
    (View.stores_vmem Facts₀.h_S512x512 (hm.storeExact_slice rfl _ Facts₀.packedbf16_S512x512_S512x512_0_0) (fun _ => rfl)) k
/-- A load of the accumulator. -/
abbrev rdA (m : Memref sig .tc .vmem S80x512 .f32) (k : Vec F S80x512 .f32 → Prog (TpuEff nD τ sig (Elt F) Λ .tc) α) : Prog (TpuEff nD τ sig (Elt F) Λ .tc) α :=
  rd m ![0, 0] S80x512.size Facts₀.inb_S80x512_S80x512_0_0 (View.loadsAt_vmem Facts₀.h_S80x512) k
abbrev wrA (m : Memref sig .tc .vmem S80x512 .f32) (w : FVec F S80x512 .f32) (k : Prog (TpuEff nD τ sig (Elt F) Λ .tc) α) : Prog (TpuEff nD τ sig (Elt F) Λ .tc) α :=
  wr m ![0, 0] S80x512.size Facts₀.inb_S80x512_S80x512_0_0 w (View.stores_vmem_bits_univ Facts₀.h_S80x512 rfl) k

/-- A row of the statistics lies inside them. -/
theorem rowInb (r : Fin 8) : ∀ a, (![r.val, 0] : Fin 2 → Nat) a + S1x512.size a ≤ S8x512.size a := by
  intro a
  have := r.isLt
  fin_cases a
  · show r.val + 1 ≤ 8
    omega
  · exact Nat.le_refl 512

/-- A load of one row of the statistics. -/
abbrev rdR (m : Memref sig .tc .vmem S8x512 .f32) (r : Fin 8) (k : Vec F S1x512 .f32 → Prog (TpuEff nD τ sig (Elt F) Λ .tc) α) : Prog (TpuEff nD τ sig (Elt F) Λ .tc) α :=
  rd m ![r.val, 0] S1x512.size (rowInb r) (View.loadsAt_vmem Facts₀.h_S1x512) k
/-- A row of the statistics read and then overwritten. -/
abbrev wrR (m : Memref sig .tc .vmem S8x512 .f32) (r : Fin 8) (w : FVec F S1x512 .f32) (k : Prog (TpuEff nD τ sig (Elt F) Λ .tc) α) : Prog (TpuEff nD τ sig (Elt F) Λ .tc) α :=
  rdR m r fun _ => wr m ![r.val, 0] S1x512.size (rowInb r) (shapeCast S1x512 w Facts₀.shapeCasts_S1x512_S1x512)
    (View.stores_vmem_bits_univ Facts₀.h_S1x512 rfl) k

/-- Sixty-four rows of exponentials, from the scores `src` to the probabilities `dst`. -/
def chunk (src : Memref sig .tc .vmem S512x512 .f32) (dst : Memref sig .tc .vmem S512x512 .bf16) (hd : dst.IsWhole)
    (ref : Fin 8 → FVec F S8x512 .f32) (i : Fin 8) (k : Prog (TpuEff nD τ sig (Elt F) Λ .tc) α) : Prog (TpuEff nD τ sig (Elt F) Λ .tc) α :=
  rd src ![64 * i.val, 0] S64x512.size (chunkInb i) (View.loadsAt_vmem Facts₀.h_S64x512) fun s =>
  rd dst ![64 * i.val, 0] S64x512.size (chunkInb i) (View.loadsAt_vmem Facts₀.h_S64x512) fun _ =>
  wr dst ![64 * i.val, 0] S64x512.size (chunkInb i) (expRows (ref i) s)
    (View.stores_vmem Facts₀.h_S64x512 (hd.storeExact_slice rfl _ (chunkPacked i)) (fun _ => rfl)) k

/-- The exponentials of a tile. -/
def chunks (src : Memref sig .tc .vmem S512x512 .f32) (dst : Memref sig .tc .vmem S512x512 .bf16) (hd : dst.IsWhole)
    (ref : Fin 8 → FVec F S8x512 .f32) (k : Prog (TpuEff nD τ sig (Elt F) Λ .tc) α) : Prog (TpuEff nD τ sig (Elt F) Λ .tc) α :=
  chunk src dst hd ref 0 <| chunk src dst hd ref 1 <| chunk src dst hd ref 2 <| chunk src dst hd ref 3 <|
  chunk src dst hd ref 4 <| chunk src dst hd ref 5 <| chunk src dst hd ref 6 <| chunk src dst hd ref 7 k

/-- One tile's values into the accumulator, its probabilities in `p` and its rescaling in row `r` of the statistics. -/
def accumulate (kv : Memref sig .tc .vmem S1x32x128x512 .bf16) (ov : Fin 4 → ℕ) (hv : ∀ a, ov a + S1x1x64x512.size a ≤ S1x32x128x512.size a)
    (p : Memref sig .tc .vmem S512x512 .bf16) (acc : Memref sig .tc .vmem S80x512 .f32) (st : Memref sig .tc .vmem S8x512 .f32) (r : Fin 8) (k : Prog (TpuEff nD τ sig (Elt F) Λ .tc) α) : Prog (TpuEff nD τ sig (Elt F) Λ .tc) α :=
  rd kv ov S1x1x64x512.size hv (View.loadsAt_vmem Facts₀.h_S1x1x64x512) fun v =>
  rdR st r fun al =>
  rdA acc fun a =>
  rdP p fun pr =>
  rdA acc fun _ =>
  wrA acc (accumulated v al a pr) k

/-- The opening of a stream. -/
def opening (kk : Memref sig .tc .vmem S1x16384x256 .bf16) (ok : Fin 3 → ℕ) (hk : ∀ a, ok a + S1x512x128.size a ≤ S1x16384x256.size a)
    (q : FVec F S128x512 .bf16) (b : Bufs sig) (k : Prog (TpuEff nD τ sig (Elt F) Λ .tc) α) : Prog (TpuEff nD τ sig (Elt F) Λ .tc) α :=
  rd kk ok S1x512x128.size hk (View.loadsAt_vmem Facts₀.h_S1x512x128) fun kv =>
  rdS b.s0 fun _ => wrS b.s0 (scores q kv) <|
  rdP b.p1 fun _ => wrP b.p1 b.wp1 (broadcast S512x512 (Scalar.ofBits .bf16 0x0000#16)) <|
  rdA b.acc fun _ => wrA b.acc (shapeCast S80x512 (broadcast S80x512 (Scalar.ofBits .f32 0x00000000#32)) Facts₀.shapeCasts_S80x512_S80x512) <|
  rd b.st ![0, 0] S2x512.size Facts₀.inb_S8x512_S2x512_0_0 (View.loadsAt_vmem Facts₀.h_S2x512) fun _ =>
  wr b.st ![0, 0] S2x512.size Facts₀.inb_S8x512_S2x512_0_0
    (shapeCast S2x512 (broadcast S2x512 (Scalar.ofBits .f32 0x3F800000#32) : FVec F S2x512 .f32) Facts₀.shapeCasts_S2x512_S2x512)
    (View.stores_vmem_bits_univ Facts₀.h_S2x512 rfl) <|
  wrR b.st 2 (broadcast S1x512 (Scalar.ofBits .f32 0xF149F2CA#32)) <|
  wrR b.st 3 (tileMax (scores q kv)) <|
  wrR b.st 4 zeroRow k

/-- One step of a stream: fresh scores into `b.s0`; the exponentials of `b.s1` into `b.p1`, their rescaling into row `rw`;
    the values under the probabilities `b.p0`, their rescaling in row `rr`. -/
def step (zf : FVec F S8x512 .f32 → FVec F S8x512 .f32)
    (kk : Memref sig .tc .vmem S1x16384x256 .bf16) (ok : Fin 3 → ℕ) (hk : ∀ a, ok a + S1x512x128.size a ≤ S1x16384x256.size a)
    (kv : Memref sig .tc .vmem S1x32x128x512 .bf16) (ov : Fin 4 → ℕ) (hv : ∀ a, ov a + S1x1x64x512.size a ≤ S1x32x128x512.size a)
    (q : FVec F S128x512 .bf16) (b : Bufs sig) (rr rw : Fin 8) (k : Prog (TpuEff nD τ sig (Elt F) Λ .tc) α) : Prog (TpuEff nD τ sig (Elt F) Λ .tc) α :=
  rd kk ok S1x512x128.size hk (View.loadsAt_vmem Facts₀.h_S1x512x128) fun kt =>
  rdS b.s0 fun _ => wrS b.s0 (scores q kt) <|
  rdR b.st 2 fun m => rdR b.st 4 fun c => rdR b.st 3 fun cm =>
  chunks b.s1 b.p1 b.wp1 (stepRef zf (scores q kt) (maximumf m (addf cm c)) c) <|
  wrR b.st rw (exp2 (subf m (maximumf m (addf cm c)))) <|
  wrR b.st 2 (maximumf m (addf cm c)) <|
  wrR b.st 3 (tileMax (scores q kt)) <|
  wrR b.st 4 zeroRow <|
  accumulate kv ov hv b.p0 b.acc b.st rr k

/-- The closing of a stream, after an even number of tiles: the exponentials of the last tile, and the last two tiles' values. -/
def closing (kv : Memref sig .tc .vmem S1x32x128x512 .bf16) (o1 o2 : Fin 4 → ℕ)
    (h1 : ∀ a, o1 a + S1x1x64x512.size a ≤ S1x32x128x512.size a) (h2 : ∀ a, o2 a + S1x1x64x512.size a ≤ S1x32x128x512.size a)
    (b : Bufs sig) (k : Prog (TpuEff nD τ sig (Elt F) Λ .tc) α) : Prog (TpuEff nD τ sig (Elt F) Λ .tc) α :=
  rdR b.st 2 fun m => rdR b.st 4 fun c => rdR b.st 3 fun cm =>
  chunks b.s1 b.p1 b.wp1 (fun _ => refRows (maximumf m (addf cm c)) c) <|
  wrR b.st 1 (exp2 (subf m (maximumf m (addf cm c)))) <|
  wrR b.st 2 (maximumf m (addf cm c)) <|
  accumulate kv o1 h1 b.p0 b.acc b.st 0 <|
  accumulate kv o2 h2 b.p1 b.acc b.st 1 k

/-- The queries of a stream. -/
abbrev rdQ (qq : Memref sig .tc .vmem S1x2x256x512 .bf16) (oq : Fin 4 → ℕ) (hq : ∀ a, oq a + S1x1x128x512.size a ≤ S1x2x256x512.size a)
    (k : FVec F S128x512 .bf16 → Prog (TpuEff nD τ sig (Elt F) Λ .tc) α) : Prog (TpuEff nD τ sig (Elt F) Λ .tc) α :=
  rd qq oq S1x1x128x512.size hq (View.loadsAt_vmem Facts₀.h_S1x1x128x512) fun v => k (shapeCast S128x512 v Facts₀.shapeCasts_S1x1x128x512_S128x512)

/-- One iteration: the even steps or the odd ones. -/
def trip (c1 c2 : BitVec 1) (P1 : c1 = 1#1 → Prog (TpuEff nD τ sig (Elt F) Λ .tc) α → Prog (TpuEff nD τ sig (Elt F) Λ .tc) α) (P2 : c2 = 1#1 → Prog (TpuEff nD τ sig (Elt F) Λ .tc) α → Prog (TpuEff nD τ sig (Elt F) Λ .tc) α) (k : Prog (TpuEff nD τ sig (Elt F) Λ .tc) α) : Prog (TpuEff nD τ sig (Elt F) Λ .tc) α :=
  if h1 : c1 = 1#1 then P1 h1 (if h2 : c2 = 1#1 then P2 h2 k else k) else if h2 : c2 = 1#1 then P2 h2 k else k

/-- Two streams' results into the block of results. -/
abbrev wrO (o : Memref sig .tc .vmem S1x1024x128 .bf16) (oo : Fin 3 → ℕ) (ho : ∀ a, oo a + S1x512x128.size a ≤ S1x1024x128.size a)
    (hx : (o.access (Rect.unit (s := S1x1024x128) oo S1x512x128.size ho)).Stores Finset.univ) (w : FVec F S1x512x128 .bf16) (k : Prog (TpuEff nD τ sig (Elt F) Λ .tc) α) : Prog (TpuEff nD τ sig (Elt F) Λ .tc) α :=
  rd o oo S1x512x128.size ho (View.loadsAt_vmem Facts₀.h_S1x512x128) fun _ =>
  wr o oo S1x512x128.size ho w hx k

/-- The results of the four streams into the block of results. -/
def results (o : Memref sig .tc .vmem S1x1024x128 .bf16) (wo : o.IsWhole) (b : Fin 4 → Bufs sig) (k : Prog (TpuEff nD τ sig (Elt F) Λ .tc) α) : Prog (TpuEff nD τ sig (Elt F) Λ .tc) α :=
  rdA (b 0).acc fun a0 => rdA (b 1).acc fun a1 => rdA (b 2).acc fun a2 => rdA (b 3).acc fun a3 =>
  wrO o ![0, 0, 0] Facts₀.inb_S1x1024x128_S1x512x128_0_0_0
    (View.stores_vmem Facts₀.h_S1x512x128 (wo.storeExact_slice rfl _ Facts₀.packedbf16_S1x1024x128_S1x512x128_0_0_0) (fun _ => rfl))
    (outTile (quotient a0) (quotient a1)) <|
  wrO o ![0, 512, 0] Facts₀.inb_S1x1024x128_S1x512x128_0_512_0
    (View.stores_vmem Facts₀.h_S1x512x128 (wo.storeExact_slice rfl _ Facts₀.packedbf16_S1x1024x128_S1x512x128_0_512_0) (fun _ => rfl))
    (outTile (quotient a2) (quotient a3)) k

end Programs

end Cert.Mla
-- ==== Proof.Whole.lean ====
/-
  The body of the attention call as one program over the four streams, and the printed body of the idealized call as that
  program. Streams 0 and 2 attend with the first of the pair's two heads (columns 0 to 128 of the keys, rows 0 to 64 of the
  values), streams 1 and 3 with the second; streams 0 and 1 take the block's first 512 queries and 2 and 3 its last.
-/
module

public import proofs.«01_k».proof.Proof.Stream

@[expose] public section

set_option maxRecDepth 16384

noncomputable section

namespace Cert.Mla

open Idealize.ShloMosaic Idealize.ShloMosaic.TcCoe Idealize.ShloMosaic.Tactic
open Idealize.SL Idealize.SL.Sem
open Cert.KernelIdeal

variable {F : FTy → Type} [FloatOps F] {nD : Nat} {τ : Topo} {sig : RefSig} {Λ : Labels} {α : Type}

/-- The four streams' steps of one tile: their keys at `ka` (streams 0 and 2) and `kb`, their values at `va` and `vb`. -/
def steps (zf : FVec F S8x512 .f32 → FVec F S8x512 .f32)
    (kk : Memref sig .tc .vmem S1x16384x256 .bf16) (kv : Memref sig .tc .vmem S1x32x128x512 .bf16)
    (ka : Fin 3 → ℕ) (hka : ∀ a, ka a + S1x512x128.size a ≤ S1x16384x256.size a) (va : Fin 4 → ℕ) (hva : ∀ a, va a + S1x1x64x512.size a ≤ S1x32x128x512.size a)
    (kb : Fin 3 → ℕ) (hkb : ∀ a, kb a + S1x512x128.size a ≤ S1x16384x256.size a) (vb : Fin 4 → ℕ) (hvb : ∀ a, vb a + S1x1x64x512.size a ≤ S1x32x128x512.size a)
    (q : Fin 4 → FVec F S128x512 .bf16) (b : Fin 4 → Bufs sig) (rr rw : Fin 8) (k : Prog (TpuEff nD τ sig (Elt F) Λ .tc) α) :
    Prog (TpuEff nD τ sig (Elt F) Λ .tc) α :=
  step zf kk ka hka kv va hva (q 0) (b 0) rr rw <|
  step zf kk kb hkb kv vb hvb (q 1) (b 1) rr rw <|
  step zf kk ka hka kv va hva (q 2) (b 2) rr rw <|
  step zf kk kb hkb kv vb hvb (q 3) (b 3) rr rw k

/-- The four streams' openings. -/
def openings (kk : Memref sig .tc .vmem S1x16384x256 .bf16) (q : Fin 4 → FVec F S128x512 .bf16) (b : Fin 4 → Bufs sig)
    (k : Prog (TpuEff nD τ sig (Elt F) Λ .tc) α) : Prog (TpuEff nD τ sig (Elt F) Λ .tc) α :=
  opening kk ![0, 0, 0] Facts₀.inb_S1x16384x256_S1x512x128_0_0_0 (q 0) (b 0) <|
  opening kk ![0, 0, 128] Facts₀.inb_S1x16384x256_S1x512x128_0_0_128 (q 1) (b 1) <|
  opening kk ![0, 0, 0] Facts₀.inb_S1x16384x256_S1x512x128_0_0_0 (q 2) (b 2) <|
  opening kk ![0, 0, 128] Facts₀.inb_S1x16384x256_S1x512x128_0_0_128 (q 3) (b 3) k

/-- The four streams' closings. -/
def closings (kv : Memref sig .tc .vmem S1x32x128x512 .bf16) (b : Fin 4 → Bufs sig)
    (k : Prog (TpuEff nD τ sig (Elt F) Λ .tc) α) : Prog (TpuEff nD τ sig (Elt F) Λ .tc) α :=
  closing kv k0_off17 ![0, 31, 0, 0] Facts₀.k0_off17_inb Facts₀.inb_S1x32x128x512_S1x1x64x512_0_31_0_0 (b 0) <|
  closing kv k0_off18 ![0, 31, 64, 0] Facts₀.k0_off18_inb Facts₀.inb_S1x32x128x512_S1x1x64x512_0_31_64_0 (b 1) <|
  closing kv k0_off17 ![0, 31, 0, 0] Facts₀.k0_off17_inb Facts₀.inb_S1x32x128x512_S1x1x64x512_0_31_0_0 (b 2) <|
  closing kv k0_off18 ![0, 31, 64, 0] Facts₀.k0_off18_inb Facts₀.inb_S1x32x128x512_S1x1x64x512_0_31_64_0 (b 3) k

/-- One iteration of the loop over the key tiles. -/
def trip1 (zf : FVec F S8x512 .f32 → FVec F S8x512 .f32)
    (kk : Memref sig .tc .vmem S1x16384x256 .bf16) (kv : Memref sig .tc .vmem S1x32x128x512 .bf16)
    (q : Fin 4 → FVec F S128x512 .bf16) (b : Fin 4 → Bufs sig) (t : Fin k0_t1_loop.trips) : Prog (TpuEff nD τ sig (Elt F) Λ .tc) PUnit :=
  trip (k0_cond1 t) (k0_cond2 t)
    (fun h k => steps zf kk kv (k0_off1 t) (Facts₀.k0_off1_inb t h) (k0_off2 t) (Facts₀.k0_off2_inb t h)
      (k0_off3 t) (Facts₀.k0_off3_inb t h) (k0_off4 t) (Facts₀.k0_off4_inb t h) q b 0 1 k)
    (fun h k => steps zf kk kv (k0_off5 t) (Facts₀.k0_off5_inb t h) (k0_off6 t) (Facts₀.k0_off6_inb t h)
      (k0_off7 t) (Facts₀.k0_off7_inb t h) (k0_off8 t) (Facts₀.k0_off8_inb t h) q (fun j => (b j).swap) 1 0 k)
    (pure ⟨⟩)

/-- One iteration of what is left of that loop, of which there is none. -/
def trip2 (zf : FVec F S8x512 .f32 → FVec F S8x512 .f32)
    (kk : Memref sig .tc .vmem S1x16384x256 .bf16) (kv : Memref sig .tc .vmem S1x32x128x512 .bf16)
    (q : Fin 4 → FVec F S128x512 .bf16) (b : Fin 4 → Bufs sig) (t : Fin k0_t2_loop.trips) : Prog (TpuEff nD τ sig (Elt F) Λ .tc) PUnit :=
  trip (k0_cond3 t) (k0_cond4 t)
    (fun h k => steps zf kk kv (k0_off9 t) (Facts₀.k0_off9_inb t h) (k0_off10 t) (Facts₀.k0_off10_inb t h)
      (k0_off11 t) (Facts₀.k0_off11_inb t h) (k0_off12 t) (Facts₀.k0_off12_inb t h) q b 0 1 k)
    (fun h k => steps zf kk kv (k0_off13 t) (Facts₀.k0_off13_inb t h) (k0_off14 t) (Facts₀.k0_off14_inb t h)
      (k0_off15 t) (Facts₀.k0_off15_inb t h) (k0_off16 t) (Facts₀.k0_off16_inb t h) q (fun j => (b j).swap) 1 0 k)
    (pure ⟨⟩)

/-- The loops over the key tiles. -/
def loops (zf : FVec F S8x512 .f32 → FVec F S8x512 .f32)
    (kk : Memref sig .tc .vmem S1x16384x256 .bf16) (kv : Memref sig .tc .vmem S1x32x128x512 .bf16)
    (q : Fin 4 → FVec F S128x512 .bf16) (b : Fin 4 → Bufs sig) (k : Prog (TpuEff nD τ sig (Elt F) Λ .tc) PUnit) :
    Prog (TpuEff nD τ sig (Elt F) Λ .tc) PUnit := do
  Scf.Loop.for k0_t1_loop Facts₀.k0_t1_ok PUnit.unit fun t _ => trip1 zf kk kv q b t
  Scf.Loop.for k0_t2_loop Facts₀.k0_t2_ok PUnit.unit fun t _ => trip2 zf kk kv q b t
  k

/-- The first half of a closing: the statistics read, and two of the eight chunks of exponentials. It hands on the old
    maxima, the new ones and the references. -/
def closingHead (b : Bufs sig) :
    Prog (TpuEff nD τ sig (Elt F) Λ .tc) (Σ' (_ : Vec F S1x512 .f32) (_ : FVec F S1x512 .f32), FVec F S8x512 .f32) :=
  rdR b.st 2 fun m => rdR b.st 4 fun c => rdR b.st 3 fun cm =>
  chunk b.s1 b.p1 b.wp1 (fun _ => refRows (maximumf m (addf cm c)) c) 0 <|
  chunk b.s1 b.p1 b.wp1 (fun _ => refRows (maximumf m (addf cm c)) c) 1 <|
  pure ⟨m, maximumf m (addf cm c), refRows (maximumf m (addf cm c)) c⟩

/-- The second half of a closing. -/
def closingRest (kv : Memref sig .tc .vmem S1x32x128x512 .bf16) (o1 o2 : Fin 4 → ℕ)
    (h1 : ∀ a, o1 a + S1x1x64x512.size a ≤ S1x32x128x512.size a) (h2 : ∀ a, o2 a + S1x1x64x512.size a ≤ S1x32x128x512.size a)
    (b : Bufs sig) (m mn : FVec F S1x512 .f32) (r : FVec F S8x512 .f32) (k : Prog (TpuEff nD τ sig (Elt F) Λ .tc) α) :
    Prog (TpuEff nD τ sig (Elt F) Λ .tc) α :=
  chunk b.s1 b.p1 b.wp1 (fun _ => r) 2 <| chunk b.s1 b.p1 b.wp1 (fun _ => r) 3 <| chunk b.s1 b.p1 b.wp1 (fun _ => r) 4 <|
  chunk b.s1 b.p1 b.wp1 (fun _ => r) 5 <| chunk b.s1 b.p1 b.wp1 (fun _ => r) 6 <| chunk b.s1 b.p1 b.wp1 (fun _ => r) 7 <|
  wrR b.st 1 (exp2 (subf m mn)) <|
  wrR b.st 2 mn <|
  accumulate kv o1 h1 b.p0 b.acc b.st 0 <|
  accumulate kv o2 h2 b.p1 b.acc b.st 1 k

/-- The body up to the loops: the queries read and the streams opened, then `mid`. -/
def before (qq : Memref sig .tc .vmem S1x2x256x512 .bf16) (kk : Memref sig .tc .vmem S1x16384x256 .bf16) (b : Fin 4 → Bufs sig)
    (mid : (Fin 4 → FVec F S128x512 .bf16) → Prog (TpuEff nD τ sig (Elt F) Λ .tc) PUnit) : Prog (TpuEff nD τ sig (Elt F) Λ .tc) PUnit :=
  rdQ qq ![0, 0, 0, 0] Facts₀.inb_S1x2x256x512_S1x1x128x512_0_0_0_0 fun q0 =>
  rdQ qq ![0, 0, 128, 0] Facts₀.inb_S1x2x256x512_S1x1x128x512_0_0_128_0 fun q1 =>
  rdQ qq ![0, 1, 0, 0] Facts₀.inb_S1x2x256x512_S1x1x128x512_0_1_0_0 fun q2 =>
  rdQ qq ![0, 1, 128, 0] Facts₀.inb_S1x2x256x512_S1x1x128x512_0_1_128_0 fun q3 =>
  openings kk ![q0, q1, q2, q3] b (mid ![q0, q1, q2, q3])

/-- The whole body. -/
def whole (zf : FVec F S8x512 .f32 → FVec F S8x512 .f32) (qq : Memref sig .tc .vmem S1x2x256x512 .bf16)
    (kk : Memref sig .tc .vmem S1x16384x256 .bf16) (kv : Memref sig .tc .vmem S1x32x128x512 .bf16)
    (o : Memref sig .tc .vmem S1x1024x128 .bf16) (wo : o.IsWhole) (b : Fin 4 → Bufs sig) : Prog (TpuEff nD τ sig (Elt F) Λ .tc) PUnit :=
  before qq kk b fun q => loops zf kk kv q b <| closings kv b <| results o wo b (pure ⟨⟩)

/-- The whole body as it is printed: the loops stand in one piece with the first half of the first closing. -/
def printed (zf : FVec F S8x512 .f32 → FVec F S8x512 .f32) (qq : Memref sig .tc .vmem S1x2x256x512 .bf16)
    (kk : Memref sig .tc .vmem S1x16384x256 .bf16) (kv : Memref sig .tc .vmem S1x32x128x512 .bf16)
    (o : Memref sig .tc .vmem S1x1024x128 .bf16) (wo : o.IsWhole) (b : Fin 4 → Bufs sig) : Prog (TpuEff nD τ sig (Elt F) Λ .tc) PUnit :=
  before qq kk b fun q =>
    (Scf.Loop.for k0_t1_loop Facts₀.k0_t1_ok PUnit.unit (fun t _ => trip1 zf kk kv q b t) >>= fun _ =>
      Scf.Loop.for k0_t2_loop Facts₀.k0_t2_ok PUnit.unit (fun t _ => trip2 zf kk kv q b t) >>= fun _ => closingHead (b 0)) >>= fun r =>
    closingRest kv k0_off17 ![0, 31, 0, 0] Facts₀.k0_off17_inb Facts₀.inb_S1x32x128x512_S1x1x64x512_0_31_0_0 (b 0) r.1 r.2.1 r.2.2 <|
    closing kv k0_off18 ![0, 31, 64, 0] Facts₀.k0_off18_inb Facts₀.inb_S1x32x128x512_S1x1x64x512_0_31_64_0 (b 1) <|
    closing kv k0_off17 ![0, 31, 0, 0] Facts₀.k0_off17_inb Facts₀.inb_S1x32x128x512_S1x1x64x512_0_31_0_0 (b 2) <|
    closing kv k0_off18 ![0, 31, 64, 0] Facts₀.k0_off18_inb Facts₀.inb_S1x32x128x512_S1x1x64x512_0_31_64_0 (b 3) <|
    results o wo b (pure ⟨⟩)

theorem printed_eq (zf : FVec F S8x512 .f32 → FVec F S8x512 .f32) (qq : Memref sig .tc .vmem S1x2x256x512 .bf16)
    (kk : Memref sig .tc .vmem S1x16384x256 .bf16) (kv : Memref sig .tc .vmem S1x32x128x512 .bf16)
    (o : Memref sig .tc .vmem S1x1024x128 .bf16) (wo : o.IsWhole) (b : Fin 4 → Bufs sig) :
    printed (nD := nD) (τ := τ) (Λ := Λ) zf qq kk kv o wo b = whole zf qq kk kv o wo b := by
  unfold printed whole
  refine congrArg (before qq kk b) (funext fun q => ?_)
  rw [bind_assoc]
  refine congrArg _ (funext fun _ => ?_)
  rw [bind_assoc]
  rfl

end Cert.Mla
-- ==== Proof.BitsBody.lean ====
/-
  The printed body of the call as compiled is the program of `Whole.lean`, its zero being the fresh scores' words shifted out.
-/
module

public import proofs.«01_k».proof.Proof.Whole
public import proofs.«01_k».proof.Kernel
public import proofs.«01_k».proof.Proof.Gen.Kernel

@[expose] public section

set_option maxRecDepth 16384

noncomputable section

namespace Cert.Mla

open Idealize.ShloMosaic Idealize.ShloMosaic.TcCoe Idealize.ShloMosaic.Tactic
open Cert.Kernel

variable {F : FTy → Type} [BitOps F]

/-- The zero a step adds to its references: the words of the scores, shifted right by sixteen bits twice. -/
def zeroBits (x : FVec F Cert.KernelIdeal.S8x512 .f32) : FVec F Cert.KernelIdeal.S8x512 .f32 :=
  bitcastToFloat .f32 (shrui (shrui (bitcastToInt x) (broadcast Cert.KernelIdeal.S8x512 16#32)) (broadcast Cert.KernelIdeal.S8x512 16#32))

set_option maxHeartbeats 4000000 in
theorem bits_body (i : grid0.Coords) (arg3 : Memref sig .tc .vmem S1x2x256x512 .bf16) (h3 : arg3.IsWhole)
    (arg4 : Memref sig .tc .vmem S1x16384x256 .bf16) (h4 : arg4.IsWhole) (arg5 : Memref sig .tc .vmem S1x32x128x512 .bf16) (h5 : arg5.IsWhole)
    (arg6 : Memref sig .tc .vmem S1x1024x128 .bf16) (h6 : arg6.IsWhole)
    (a7 a8 : Memref sig .tc .vmem S512x512 .f32) (a9 a10 : Memref sig .tc .vmem S512x512 .bf16) (a11 : Memref sig .tc .vmem S80x512 .f32) (a12 : Memref sig .tc .vmem S8x512 .f32)
    (h7 : a7.IsWhole) (h8 : a8.IsWhole) (h9 : a9.IsWhole) (h10 : a10.IsWhole) (h11 : a11.IsWhole) (h12 : a12.IsWhole)
    (a13 a14 : Memref sig .tc .vmem S512x512 .f32) (a15 a16 : Memref sig .tc .vmem S512x512 .bf16) (a17 : Memref sig .tc .vmem S80x512 .f32) (a18 : Memref sig .tc .vmem S8x512 .f32)
    (h13 : a13.IsWhole) (h14 : a14.IsWhole) (h15 : a15.IsWhole) (h16 : a16.IsWhole) (h17 : a17.IsWhole) (h18 : a18.IsWhole)
    (a19 a20 : Memref sig .tc .vmem S512x512 .f32) (a21 a22 : Memref sig .tc .vmem S512x512 .bf16) (a23 : Memref sig .tc .vmem S80x512 .f32) (a24 : Memref sig .tc .vmem S8x512 .f32)
    (h19 : a19.IsWhole) (h20 : a20.IsWhole) (h21 : a21.IsWhole) (h22 : a22.IsWhole) (h23 : a23.IsWhole) (h24 : a24.IsWhole)
    (a25 a26 : Memref sig .tc .vmem S512x512 .f32) (a27 a28 : Memref sig .tc .vmem S512x512 .bf16) (a29 : Memref sig .tc .vmem S80x512 .f32) (a30 : Memref sig .tc .vmem S8x512 .f32)
    (h25 : a25.IsWhole) (h26 : a26.IsWhole) (h27 : a27.IsWhole) (h28 : a28.IsWhole) (h29 : a29.IsWhole) (h30 : a30.IsWhole) :
    cc0_mla_attn (F := F) i arg3 h3 arg4 h4 arg5 h5 arg6 h6 a7 h7 a8 h8 a9 h9 a10 h10 a11 h11 a12 h12 a13 h13 a14 h14 a15 h15 a16 h16 a17 h17 a18 h18
        a19 h19 a20 h20 a21 h21 a22 h22 a23 h23 a24 h24 a25 h25 a26 h26 a27 h27 a28 h28 a29 h29 a30 h30
      = printed zeroBits arg3 arg4 arg5 arg6 h6
          ![⟨a7, a8, a9, a10, a11, a12, h9, h10⟩, ⟨a13, a14, a15, a16, a17, a18, h15, h16⟩,
            ⟨a19, a20, a21, a22, a23, a24, h21, h22⟩, ⟨a25, a26, a27, a28, a29, a30, h27, h28⟩] := by
  chain_rfl

end Cert.Mla
-- ==== Proof.Triples.lean ====
/-
  What the parts of a stream's run do to its buffers, over any float interpretation. Each statement has one shape: holding
  the buffers the part touches, at what is read through them, the part runs and goes on with the buffers at their new
  contents. `St` is a stream's state between two steps, `St.next` what a step makes of it and `St.last` what the closing does.
-/
module

public import proofs.«01_k».proof.Proof.Whole
public import Idealize.ShloMosaic.Lib.Writes
public import Idealize.ShloMosaic.Lib.Memref
public import Idealize.ShloMosaic.Lib.Pointwise.Reshape

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

/-! ## What the parts leave, as pure values -/

/-- The probabilities after one chunk of them is stored. -/
def putChunk (ref : Fin 8 → FVec F S8x512 .f32) (s : Vec F S512x512 .f32) (i : Fin 8) (P : Vec F S512x512 .bf16) : Vec F S512x512 .bf16 :=
  VecWindow.put P ![64 * i.val, 0] S64x512.size (expRows (ref i) (VecWindow.window s ![64 * i.val, 0] S64x512.size (chunkInb i)))

/-- The chunk a row of a tile lies in. -/
def chunkOf (y : S512x512.Idx) : Fin 8 := ⟨(y 0).val / 64, Nat.div_lt_of_lt_mul (show (y 0).val < 64 * 8 from (y 0).isLt)⟩

theorem chunkOf_in (y : S512x512.Idx) : ∀ a, (![64 * (chunkOf y).val, 0] : Fin 2 → ℕ) a ≤ (y a).val ∧ (y a).val < (![64 * (chunkOf y).val, 0] : Fin 2 → ℕ) a + S64x512.size a := by
  intro a
  fin_cases a
  · show 64 * ((y 0).val / 64) ≤ (y 0).val ∧ (y 0).val < 64 * ((y 0).val / 64) + 64
    omega
  · exact ⟨Nat.zero_le _, lt_of_lt_of_eq (y 1).isLt (Nat.zero_add 512).symm⟩

/-- The exponentials of a whole tile of scores, chunk by chunk. -/
def probs (ref : Fin 8 → FVec F S8x512 .f32) (s : Vec F S512x512 .f32) : Vec F S512x512 .bf16 :=
  fun y => expRows (ref (chunkOf y)) (VecWindow.window s ![64 * (chunkOf y).val, 0] S64x512.size (chunkInb (chunkOf y)))
    (Rect.unitLocal (s := S512x512) (off := ![64 * (chunkOf y).val, 0]) (size := S64x512.size) y (chunkOf_in y))

/-- Storing a chunk changes the probabilities of its own rows alone. -/
theorem putChunk_apply (ref : Fin 8 → FVec F S8x512 .f32) (s : Vec F S512x512 .f32) (i : Fin 8) (P : Vec F S512x512 .bf16) (y : S512x512.Idx) :
    putChunk ref s i P y = if chunkOf y = i then probs ref s y else P y := by
  by_cases h : chunkOf y = i
  · subst h
    rw [if_pos rfl]
    exact dif_pos (chunkOf_in y)
  · rw [if_neg h]
    refine dif_neg fun hh => h (Fin.ext ?_)
    have h0 := hh 0
    have h1 : 64 * i.val ≤ (y 0).val ∧ (y 0).val < 64 * i.val + 64 := h0
    show (y 0).val / 64 = i.val
    omega

/-- The eight chunks leave the exponentials of the tile, whatever was there. -/
theorem putChunks (ref : Fin 8 → FVec F S8x512 .f32) (s : Vec F S512x512 .f32) (P : Vec F S512x512 .bf16) :
    putChunk ref s 7 (putChunk ref s 6 (putChunk ref s 5 (putChunk ref s 4 (putChunk ref s 3 (putChunk ref s 2 (putChunk ref s 1 (putChunk ref s 0 P)))))))
      = probs ref s := by
  funext y
  simp only [putChunk_apply]
  generalize chunkOf y = j
  fin_cases j <;> rfl

/-- A row of the statistics. -/
def rowOf (X : Vec F S8x512 .f32) (r : Fin 8) : Vec F S1x512 .f32 := VecWindow.window X ![r.val, 0] S1x512.size (rowInb r)
/-- The statistics with a row overwritten. -/
def putRow (X : Vec F S8x512 .f32) (r : Fin 8) (w : Vec F S1x512 .f32) : Vec F S8x512 .f32 := VecWindow.put X ![r.val, 0] S1x512.size w

theorem rowOf_putRow_same (X : Vec F S8x512 .f32) (r : Fin 8) (w : Vec F S1x512 .f32) : rowOf (putRow X r w) r = w :=
  VecWindow.window_put_same X _ _ _ w

theorem rowOf_putRow_ne (X : Vec F S8x512 .f32) (r r' : Fin 8) (w : Vec F S1x512 .f32) (h : r' ≠ r) : rowOf (putRow X r w) r' = rowOf X r' :=
  VecWindow.window_put_of_disjoint X _ _ _ _ _ w 0 (by
    have : r'.val ≠ r.val := fun e => h (Fin.ext e)
    show r'.val + 1 ≤ r.val ∨ r.val + 1 ≤ r'.val
    omega)

/-- The first two rows at ones: the second of them. -/
theorem onesRow (X : Vec F S8x512 .f32) :
    rowOf (VecWindow.put X ![0, 0] S2x512.size (broadcast S2x512 (Scalar.ofBits .f32 0x3F800000#32) : FVec F S2x512 .f32)) 1
      = broadcast S1x512 (Scalar.ofBits .f32 0x3F800000#32) := by
  funext y
  refine dif_pos fun a => ?_
  have := (y a).isLt
  fin_cases a
  · have h : (y 0).val < 1 := (y 0).isLt
    show 0 ≤ 1 + 1 * (y 0).val ∧ 1 + 1 * (y 0).val < 0 + 2
    omega
  · have h : (y 1).val < 512 := (y 1).isLt
    show 0 ≤ 0 + 1 * (y 1).val ∧ 0 + 1 * (y 1).val < 0 + 512
    omega

/-- A stream's state between two steps: the tile of scores whose exponentials are next, the probabilities whose values are
    next, the accumulator, the rescaling that goes with those probabilities, the running maxima, the largest scores of the tile,
    and the row (of zeros) added to them. -/
structure St (F : FTy → Type) where
  s : Vec F S512x512 .f32
  p : Vec F S512x512 .bf16
  acc : Vec F S80x512 .f32
  al : Vec F S1x512 .f32
  m : Vec F S1x512 .f32
  cm : Vec F S1x512 .f32
  c : Vec F S1x512 .f32

/-- The running maxima with the newest tile's. -/
def St.mn (σ : St F) : Vec F S1x512 .f32 := maximumf σ.m (addf σ.cm σ.c)

/-- The state after the opening, the first tile's keys at hand. -/
def St.first (q : FVec F S128x512 .bf16) (kt : Vec F S1x512x128 .bf16) : St F where
  s := scores q kt
  p := broadcast S512x512 (Scalar.ofBits .bf16 0x0000#16)
  acc := broadcast S80x512 (Scalar.ofBits .f32 0x00000000#32)
  al := broadcast S1x512 (Scalar.ofBits .f32 0x3F800000#32)
  m := broadcast S1x512 (Scalar.ofBits .f32 0xF149F2CA#32)
  cm := tileMax (scores q kt)
  c := zeroRow

/-- A step: the keys `kt` of the tile whose scores it computes and the values `vt` of the tile it accumulates. -/
def St.next (zf : FVec F S8x512 .f32 → FVec F S8x512 .f32) (q : FVec F S128x512 .bf16) (kt : Vec F S1x512x128 .bf16) (vt : Vec F S1x1x64x512 .bf16) (σ : St F) : St F where
  s := scores q kt
  p := probs (stepRef zf (scores q kt) σ.mn σ.c) σ.s
  acc := accumulated vt σ.al σ.acc σ.p
  al := exp2 (subf σ.m σ.mn)
  m := σ.mn
  cm := tileMax (scores q kt)
  c := zeroRow

/-- The accumulator after the closing, from the values of the last two tiles. -/
def St.last (v1 v2 : Vec F S1x1x64x512 .bf16) (σ : St F) : Vec F S80x512 .f32 :=
  accumulated v2 (exp2 (subf σ.m σ.mn)) (accumulated v1 σ.al σ.acc σ.p) (probs (fun _ => refRows σ.mn σ.c) σ.s)

/-! ## The rules -/

section Rules

variable {nD : Nat} {τ : Topo} {sig : RefSig} {Λ : Labels} {α : Type} {U : Type} [URA U]

variable {defs : Defs nD τ sig (Elt F) Λ} (𝒱 : Variants) (c : Dev nD) (E : Set ℕ) {Q : α → sProp (MT nD τ sig Unit (Elt F) ℕ U ℕ)}

/-- A load through a rectangle reads a window. -/
theorem wp_rd {s : Shape} {e : EltTy} {m : Memref sig .tc .vmem s e} {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ .tc) α}
    {q : PosShare TreeShare} {X : s.Idx → Elt F e} :
    (owns (c : Thread nD τ) m q X : sProp (MT nD τ sig Unit (Elt F) ℕ U ℕ))
      ⊢ iprop((owns (c : Thread nD τ) m q X -∗ wp frame (wpE defs 𝒱 (c : Thread nD τ) none) E (k (VecWindow.window X off size inb)) Q)
        -∗ wp frame (wpE defs 𝒱 (c : Thread nD τ) none) E (rd m off size inb hl k) Q) := by
  unfold owns rd
  iintro ⟨%f, %hf, H⟩ Hk
  iapply (wp_load 𝒱 (c : Thread nD τ) none E (m := m) (S := m.view.set) (m.view.setOn_subset_set _)) $$ H
  iintro H
  rw [View.readAt_unit m.view f inb rfl inb, hf]
  iapply Hk
  iexists f
  isplitr
  · ipureintro; exact hf
  iexact H

/-- A load of a memref's own sizes reads it. -/
theorem wp_rd_full {s : Shape} {e : EltTy} {m : Memref sig .tc .vmem s e} {off : Fin s.rank → ℕ} {inb : ∀ a, off a + s.size a ≤ s.size a}
    {hl : m.view.LoadsAt (Rect.unit off s.size inb).toLoadRect} {k : (s.Idx → Elt F e) → Prog (TpuEff nD τ sig (Elt F) Λ .tc) α}
    {q : PosShare TreeShare} {X : s.Idx → Elt F e} :
    (owns (c : Thread nD τ) m q X : sProp (MT nD τ sig Unit (Elt F) ℕ U ℕ))
      ⊢ iprop((owns (c : Thread nD τ) m q X -∗ wp frame (wpE defs 𝒱 (c : Thread nD τ) none) E (k X) Q)
        -∗ wp frame (wpE defs 𝒱 (c : Thread nD τ) none) E (rd m off s.size inb hl k) Q) := by
  unfold owns rd
  iintro ⟨%f, %hf, H⟩ Hk
  iapply (wp_load 𝒱 (c : Thread nD τ) none E (m := m) (S := m.view.set) (m.view.setOn_subset_set _)) $$ H
  iintro H
  rw [View.readAt_full m.view f inb, hf]
  iapply Hk
  iexists f
  isplitr
  · ipureintro; exact hf
  iexact H

/-- A store through a rectangle puts its payload there. -/
theorem wp_wr {s : Shape} {e : EltTy} {m : Memref sig .tc .vmem s e} {off size : Fin s.rank → ℕ} {inb : ∀ a, off a + size a ≤ s.size a}
    {w : (Rect.unit off size inb).shape.Idx → Elt F e} {hx : (m.access (Rect.unit off size inb)).Stores Finset.univ} {k : Prog (TpuEff nD τ sig (Elt F) Λ .tc) α}
    {X : s.Idx → Elt F e} :
    (owns (c : Thread nD τ) m fullShare X : sProp (MT nD τ sig Unit (Elt F) ℕ U ℕ))
      ⊢ iprop((owns (c : Thread nD τ) m fullShare (VecWindow.put X off size w) -∗ wp frame (wpE defs 𝒱 (c : Thread nD τ) none) E k Q)
        -∗ wp frame (wpE defs 𝒱 (c : Thread nD τ) none) E (wr m off size inb w hx k) Q) := by
  unfold owns wr
  iintro ⟨%f, %hf, H⟩ Hk
  iapply (wp_store_writes₀ 𝒱 (c : Thread nD τ) none E (m := m) (S := m.view.set) (m.view.set_slice_subset _)) $$ H
  iintro H
  iapply Hk
  iexists _
  isplitr
  swap; · iexact H
  ipureintro
  rw [View.read_writes_cons_put m.view f inb w [] rfl, View.writes_nil, hf]

/-- A store of a memref's own sizes leaves its payload. -/
theorem wp_wr_full {s : Shape} {e : EltTy} {m : Memref sig .tc .vmem s e} {off : Fin s.rank → ℕ} {inb : ∀ a, off a + s.size a ≤ s.size a}
    {w : s.Idx → Elt F e} {hx : (m.access (Rect.unit off s.size inb)).Stores Finset.univ} {k : Prog (TpuEff nD τ sig (Elt F) Λ .tc) α}
    {X : s.Idx → Elt F e} :
    (owns (c : Thread nD τ) m fullShare X : sProp (MT nD τ sig Unit (Elt F) ℕ U ℕ))
      ⊢ iprop((owns (c : Thread nD τ) m fullShare w -∗ wp frame (wpE defs 𝒱 (c : Thread nD τ) none) E k Q)
        -∗ wp frame (wpE defs 𝒱 (c : Thread nD τ) none) E (wr m off s.size inb w hx k) Q) := by
  unfold owns wr
  iintro ⟨%f, %hf, H⟩ Hk
  iapply (wp_store_writes₀ 𝒱 (c : Thread nD τ) none E (m := m) (S := m.view.set) (m.view.set_slice_subset _)) $$ H
  iintro H
  iapply Hk
  iexists _
  isplitr
  swap; · iexact H
  ipureintro
  exact View.read_writes_full m.view f inb w []

/-- A row of the statistics read. -/
theorem wp_rdR {m : Memref sig .tc .vmem S8x512 .f32} {r : Fin 8} {k : Vec F S1x512 .f32 → Prog (TpuEff nD τ sig (Elt F) Λ .tc) α} {X : Vec F S8x512 .f32} :
    (owns (c : Thread nD τ) m fullShare X : sProp (MT nD τ sig Unit (Elt F) ℕ U ℕ))
      ⊢ iprop((owns (c : Thread nD τ) m fullShare X -∗ wp frame (wpE defs 𝒱 (c : Thread nD τ) none) E (k (rowOf X r)) Q)
        -∗ wp frame (wpE defs 𝒱 (c : Thread nD τ) none) E (rdR m r k) Q) :=
  wp_rd 𝒱 c E

/-- A row of the statistics overwritten. -/
theorem wp_wrR {m : Memref sig .tc .vmem S8x512 .f32} {r : Fin 8} {w : FVec F S1x512 .f32} {k : Prog (TpuEff nD τ sig (Elt F) Λ .tc) α} {X : Vec F S8x512 .f32} :
    (owns (c : Thread nD τ) m fullShare X : sProp (MT nD τ sig Unit (Elt F) ℕ U ℕ))
      ⊢ iprop((owns (c : Thread nD τ) m fullShare (putRow X r w) -∗ wp frame (wpE defs 𝒱 (c : Thread nD τ) none) E k Q)
        -∗ wp frame (wpE defs 𝒱 (c : Thread nD τ) none) E (wrR m r w k) Q) := by
  iintro H Hk
  iapply (wp_rd 𝒱 c E) $$ H
  iintro H
  iapply (wp_wr 𝒱 c E) $$ H
  iintro H
  iapply Hk
  rw [shapeCast_id]
  iexact H

/-- A chunk of exponentials. -/
theorem wp_chunk {src : Memref sig .tc .vmem S512x512 .f32} {dst : Memref sig .tc .vmem S512x512 .bf16} {hd : dst.IsWhole}
    {ref : Fin 8 → FVec F S8x512 .f32} {i : Fin 8} {k : Prog (TpuEff nD τ sig (Elt F) Λ .tc) α} {S : Vec F S512x512 .f32} {P : Vec F S512x512 .bf16} :
    (owns (c : Thread nD τ) src fullShare S : sProp (MT nD τ sig Unit (Elt F) ℕ U ℕ))
      ⊢ iprop(owns (c : Thread nD τ) dst fullShare P
        -∗ (owns (c : Thread nD τ) src fullShare S -∗ owns (c : Thread nD τ) dst fullShare (putChunk ref S i P) -∗ wp frame (wpE defs 𝒱 (c : Thread nD τ) none) E k Q)
        -∗ wp frame (wpE defs 𝒱 (c : Thread nD τ) none) E (chunk src dst hd ref i k) Q) := by
  unfold chunk putChunk
  iintro HS HP Hk
  iapply (wp_rd 𝒱 c E) $$ HS
  iintro HS
  iapply (wp_rd 𝒱 c E) $$ HP
  iintro HP
  iapply (wp_wr 𝒱 c E) $$ HP
  iintro HP
  iapply Hk $$ HS HP

/-- A tile's exponentials. -/
theorem wp_chunks {src : Memref sig .tc .vmem S512x512 .f32} {dst : Memref sig .tc .vmem S512x512 .bf16} {hd : dst.IsWhole}
    {ref : Fin 8 → FVec F S8x512 .f32} {k : Prog (TpuEff nD τ sig (Elt F) Λ .tc) α} {S : Vec F S512x512 .f32} {P : Vec F S512x512 .bf16} :
    (owns (c : Thread nD τ) src fullShare S : sProp (MT nD τ sig Unit (Elt F) ℕ U ℕ))
      ⊢ iprop(owns (c : Thread nD τ) dst fullShare P
        -∗ (owns (c : Thread nD τ) src fullShare S -∗ owns (c : Thread nD τ) dst fullShare (probs ref S) -∗ wp frame (wpE defs 𝒱 (c : Thread nD τ) none) E k Q)
        -∗ wp frame (wpE defs 𝒱 (c : Thread nD τ) none) E (chunks src dst hd ref k) Q) := by
  unfold chunks
  iintro HS HP Hk
  iapply (wp_chunk 𝒱 c E) $$ HS HP
  iintro HS HP
  iapply (wp_chunk 𝒱 c E) $$ HS HP
  iintro HS HP
  iapply (wp_chunk 𝒱 c E) $$ HS HP
  iintro HS HP
  iapply (wp_chunk 𝒱 c E) $$ HS HP
  iintro HS HP
  iapply (wp_chunk 𝒱 c E) $$ HS HP
  iintro HS HP
  iapply (wp_chunk 𝒱 c E) $$ HS HP
  iintro HS HP
  iapply (wp_chunk 𝒱 c E) $$ HS HP
  iintro HS HP
  iapply (wp_chunk 𝒱 c E) $$ HS HP
  iintro HS HP
  rw [putChunks]
  iapply Hk $$ HS HP

/-- A tile's values accumulated. -/
theorem wp_accumulate {kv : Memref sig .tc .vmem S1x32x128x512 .bf16} {ov : Fin 4 → ℕ} {hv : ∀ a, ov a + S1x1x64x512.size a ≤ S1x32x128x512.size a}
    {p : Memref sig .tc .vmem S512x512 .bf16} {acc : Memref sig .tc .vmem S80x512 .f32} {st : Memref sig .tc .vmem S8x512 .f32} {r : Fin 8}
    {k : Prog (TpuEff nD τ sig (Elt F) Λ .tc) α} {V : Vec F S1x32x128x512 .bf16} {P : Vec F S512x512 .bf16} {A : Vec F S80x512 .f32} {X : Vec F S8x512 .f32} :
    (owns (c : Thread nD τ) kv fullShare V : sProp (MT nD τ sig Unit (Elt F) ℕ U ℕ))
      ⊢ iprop(owns (c : Thread nD τ) p fullShare P -∗ owns (c : Thread nD τ) acc fullShare A -∗ owns (c : Thread nD τ) st fullShare X
        -∗ (owns (c : Thread nD τ) kv fullShare V -∗ owns (c : Thread nD τ) p fullShare P
            -∗ owns (c : Thread nD τ) acc fullShare (accumulated (VecWindow.window V ov S1x1x64x512.size hv) (rowOf X r) A P)
            -∗ owns (c : Thread nD τ) st fullShare X -∗ wp frame (wpE defs 𝒱 (c : Thread nD τ) none) E k Q)
        -∗ wp frame (wpE defs 𝒱 (c : Thread nD τ) none) E (accumulate kv ov hv p acc st r k) Q) := by
  unfold accumulate
  iintro HV HP HA HX Hk
  iapply (wp_rd 𝒱 c E) $$ HV
  iintro HV
  iapply (wp_rdR 𝒱 c E) $$ HX
  iintro HX
  iapply (wp_rd_full 𝒱 c E) $$ HA
  iintro HA
  iapply (wp_rd_full 𝒱 c E) $$ HP
  iintro HP
  iapply (wp_rd_full 𝒱 c E) $$ HA
  iintro HA
  iapply (wp_wr_full 𝒱 c E) $$ HA
  iintro HA
  iapply Hk $$ HV HP HA HX

/-! ## A stream's buffers -/

/-- A stream's buffers at any contents. -/
def freeBufs (b : Bufs sig) : sProp (MT nD τ sig Unit (Elt F) ℕ U ℕ) :=
  iprop((∃ X, owns (c : Thread nD τ) b.s0 fullShare X) ∗ (∃ X, owns (c : Thread nD τ) b.s1 fullShare X)
    ∗ (∃ X, owns (c : Thread nD τ) b.p0 fullShare X) ∗ (∃ X, owns (c : Thread nD τ) b.p1 fullShare X)
    ∗ (∃ X, owns (c : Thread nD τ) b.acc fullShare X) ∗ (∃ X, owns (c : Thread nD τ) b.st fullShare X))

/-- A stream's buffers between two steps, at its state: the scores in `b.s1`, the probabilities in `b.p0` and their
    rescaling in row `r` of the statistics. -/
def held (b : Bufs sig) (r : Fin 8) (σ : St F) : sProp (MT nD τ sig Unit (Elt F) ℕ U ℕ) :=
  iprop((∃ X, owns (c : Thread nD τ) b.s0 fullShare X) ∗ owns (c : Thread nD τ) b.s1 fullShare σ.s
    ∗ owns (c : Thread nD τ) b.p0 fullShare σ.p ∗ (∃ X, owns (c : Thread nD τ) b.p1 fullShare X)
    ∗ owns (c : Thread nD τ) b.acc fullShare σ.acc
    ∗ (∃ X, ⌜rowOf X r = σ.al ∧ rowOf X 2 = σ.m ∧ rowOf X 3 = σ.cm ∧ rowOf X 4 = σ.c⌝ ∗ owns (c : Thread nD τ) b.st fullShare X))

/-- A stream's buffers after the closing: the accumulator at `A`, the rest at any contents. -/
def closed (b : Bufs sig) (A : Vec F S80x512 .f32) : sProp (MT nD τ sig Unit (Elt F) ℕ U ℕ) :=
  iprop((∃ X, owns (c : Thread nD τ) b.s0 fullShare X) ∗ (∃ X, owns (c : Thread nD τ) b.s1 fullShare X)
    ∗ (∃ X, owns (c : Thread nD τ) b.p0 fullShare X) ∗ (∃ X, owns (c : Thread nD τ) b.p1 fullShare X)
    ∗ owns (c : Thread nD τ) b.acc fullShare A ∗ (∃ X, owns (c : Thread nD τ) b.st fullShare X))

/-- The opening. -/
theorem wp_opening {kk : Memref sig .tc .vmem S1x16384x256 .bf16} {ok : Fin 3 → ℕ} {hk : ∀ a, ok a + S1x512x128.size a ≤ S1x16384x256.size a}
    {q : FVec F S128x512 .bf16} {b : Bufs sig} {k : Prog (TpuEff nD τ sig (Elt F) Λ .tc) α} {K : Vec F S1x16384x256 .bf16} :
    (owns (c : Thread nD τ) kk fullShare K : sProp (MT nD τ sig Unit (Elt F) ℕ U ℕ))
      ⊢ iprop(freeBufs c b
        -∗ (owns (c : Thread nD τ) kk fullShare K -∗ held c b.swap 1 (St.first q (VecWindow.window K ok S1x512x128.size hk))
            -∗ wp frame (wpE defs 𝒱 (c : Thread nD τ) none) E k Q)
        -∗ wp frame (wpE defs 𝒱 (c : Thread nD τ) none) E (opening kk ok hk q b k) Q) := by
  unfold opening freeBufs
  iintro HK ⟨⟨%s0, Hs0⟩, Hs1, Hp0, ⟨%p1, Hp1⟩, ⟨%A, HA⟩, ⟨%X, HX⟩⟩ Hk
  iapply (wp_rd 𝒱 c E) $$ HK
  iintro HK
  iapply (wp_rd_full 𝒱 c E) $$ Hs0
  iintro Hs0
  iapply (wp_wr_full 𝒱 c E) $$ Hs0
  iintro Hs0
  iapply (wp_rd_full 𝒱 c E) $$ Hp1
  iintro Hp1
  iapply (wp_wr_full 𝒱 c E) $$ Hp1
  iintro Hp1
  iapply (wp_rd_full 𝒱 c E) $$ HA
  iintro HA
  iapply (wp_wr_full 𝒱 c E) $$ HA
  iintro HA
  iapply (wp_rd 𝒱 c E) $$ HX
  iintro HX
  iapply (wp_wr 𝒱 c E) $$ HX
  iintro HX
  iapply (wp_wrR 𝒱 c E) $$ HX
  iintro HX
  iapply (wp_wrR 𝒱 c E) $$ HX
  iintro HX
  iapply (wp_wrR 𝒱 c E) $$ HX
  iintro HX
  rw [shapeCast_id, shapeCast_id, shapeCast_id, shapeCast_id]
  iapply Hk $$ HK
  unfold held
  isplitl [Hs1]; · iexact Hs1
  isplitl [Hs0]; · iexact Hs0
  isplitl [Hp1]; · iexact Hp1
  isplitl [Hp0]; · iexact Hp0
  isplitl [HA]; · iexact HA
  iexists _
  isplitr
  swap; · iexact HX
  ipureintro
  refine ⟨?_, ?_, ?_, rowOf_putRow_same _ _ _⟩
  · rw [rowOf_putRow_ne _ _ _ _ (by decide), rowOf_putRow_ne _ _ _ _ (by decide), rowOf_putRow_ne _ _ _ _ (by decide)]
    exact onesRow _
  · rw [rowOf_putRow_ne _ _ _ _ (by decide), rowOf_putRow_ne _ _ _ _ (by decide), rowOf_putRow_same]
    rfl
  · rw [rowOf_putRow_ne _ _ _ _ (by decide), rowOf_putRow_same]
    simp only [St.first]

/-- A step, reading its rescaling in row `rr` and writing the next in row `rw`. -/
theorem wp_step {zf : FVec F S8x512 .f32 → FVec F S8x512 .f32} {kk : Memref sig .tc .vmem S1x16384x256 .bf16} {ok : Fin 3 → ℕ}
    {hk : ∀ a, ok a + S1x512x128.size a ≤ S1x16384x256.size a} {kv : Memref sig .tc .vmem S1x32x128x512 .bf16} {ov : Fin 4 → ℕ}
    {hv : ∀ a, ov a + S1x1x64x512.size a ≤ S1x32x128x512.size a}
    {q : FVec F S128x512 .bf16} {b : Bufs sig} {rr rw : Fin 8} (hr : rr.val < 2) (hw : rw.val < 2) (hne : rr ≠ rw)
    {k : Prog (TpuEff nD τ sig (Elt F) Λ .tc) α} {K : Vec F S1x16384x256 .bf16} {V : Vec F S1x32x128x512 .bf16} {σ : St F} :
    (owns (c : Thread nD τ) kk fullShare K : sProp (MT nD τ sig Unit (Elt F) ℕ U ℕ))
      ⊢ iprop(owns (c : Thread nD τ) kv fullShare V -∗ held c b rr σ
        -∗ (owns (c : Thread nD τ) kk fullShare K -∗ owns (c : Thread nD τ) kv fullShare V
            -∗ held c b.swap rw (St.next zf q (VecWindow.window K ok S1x512x128.size hk) (VecWindow.window V ov S1x1x64x512.size hv) σ)
            -∗ wp frame (wpE defs 𝒱 (c : Thread nD τ) none) E k Q)
        -∗ wp frame (wpE defs 𝒱 (c : Thread nD τ) none) E (step zf kk ok hk kv ov hv q b rr rw k) Q) := by
  have ne (x y : Fin 8) (hx : x.val < 2) (hy : 2 ≤ y.val) : x ≠ y := fun e => by subst e; omega
  unfold step held
  iintro HK HV ⟨⟨%s0, Hs0⟩, Hs1, Hp0, ⟨%p1, Hp1⟩, HA, ⟨%X, %hX, HX⟩⟩ Hk
  obtain ⟨hal, hm, hcm, hc⟩ := hX
  iapply (wp_rd 𝒱 c E) $$ HK
  iintro HK
  iapply (wp_rd_full 𝒱 c E) $$ Hs0
  iintro Hs0
  iapply (wp_wr_full 𝒱 c E) $$ Hs0
  iintro Hs0
  iapply (wp_rdR 𝒱 c E) $$ HX
  iintro HX
  iapply (wp_rdR 𝒱 c E) $$ HX
  iintro HX
  iapply (wp_rdR 𝒱 c E) $$ HX
  iintro HX
  iapply (wp_chunks 𝒱 c E) $$ Hs1 Hp1
  iintro Hs1 Hp1
  iapply (wp_wrR 𝒱 c E) $$ HX
  iintro HX
  iapply (wp_wrR 𝒱 c E) $$ HX
  iintro HX
  iapply (wp_wrR 𝒱 c E) $$ HX
  iintro HX
  iapply (wp_wrR 𝒱 c E) $$ HX
  iintro HX
  iapply (wp_accumulate 𝒱 c E) $$ HV Hp0 HA HX
  iintro HV Hp0 HA HX
  rw [rowOf_putRow_ne _ 4 rr _ (ne _ _ hr (by decide)), rowOf_putRow_ne _ 3 rr _ (ne _ _ hr (by decide)), rowOf_putRow_ne _ 2 rr _ (ne _ _ hr (by decide)),
    rowOf_putRow_ne _ rw rr _ hne, hal, hm, hcm, hc, shapeCast_id]
  iapply Hk $$ HK HV
  isplitl [Hs1]; · iexists _; iexact Hs1
  isplitl [Hs0]; · iexact Hs0
  isplitl [Hp1]; · iexact Hp1
  isplitl [Hp0]; · iexists _; iexact Hp0
  isplitl [HA]; · iexact HA
  iexists _
  isplitr
  swap; · iexact HX
  ipureintro
  refine ⟨?_, ?_, ?_, rowOf_putRow_same _ _ _⟩
  · rw [rowOf_putRow_ne _ 4 rw _ (ne _ _ hw (by decide)), rowOf_putRow_ne _ 3 rw _ (ne _ _ hw (by decide)), rowOf_putRow_ne _ 2 rw _ (ne _ _ hw (by decide)), rowOf_putRow_same]
    rfl
  · rw [rowOf_putRow_ne _ _ _ _ (by decide), rowOf_putRow_ne _ _ _ _ (by decide), rowOf_putRow_same]
    rfl
  · rw [rowOf_putRow_ne _ _ _ _ (by decide), rowOf_putRow_same]
    simp only [St.next]

/-- The closing. -/
theorem wp_closing {kv : Memref sig .tc .vmem S1x32x128x512 .bf16} {o1 o2 : Fin 4 → ℕ}
    {h1 : ∀ a, o1 a + S1x1x64x512.size a ≤ S1x32x128x512.size a} {h2 : ∀ a, o2 a + S1x1x64x512.size a ≤ S1x32x128x512.size a}
    {b : Bufs sig} {k : Prog (TpuEff nD τ sig (Elt F) Λ .tc) α} {V : Vec F S1x32x128x512 .bf16} {σ : St F} :
    (owns (c : Thread nD τ) kv fullShare V : sProp (MT nD τ sig Unit (Elt F) ℕ U ℕ))
      ⊢ iprop(held c b 0 σ
        -∗ (owns (c : Thread nD τ) kv fullShare V
            -∗ closed c b (St.last (VecWindow.window V o1 S1x1x64x512.size h1) (VecWindow.window V o2 S1x1x64x512.size h2) σ)
            -∗ wp frame (wpE defs 𝒱 (c : Thread nD τ) none) E k Q)
        -∗ wp frame (wpE defs 𝒱 (c : Thread nD τ) none) E (closing kv o1 o2 h1 h2 b k) Q) := by
  unfold closing held
  iintro HV ⟨⟨%s0, Hs0⟩, Hs1, Hp0, ⟨%p1, Hp1⟩, HA, ⟨%X, %hX, HX⟩⟩ Hk
  obtain ⟨hal, hm, hcm, hc⟩ := hX
  iapply (wp_rdR 𝒱 c E) $$ HX
  iintro HX
  iapply (wp_rdR 𝒱 c E) $$ HX
  iintro HX
  iapply (wp_rdR 𝒱 c E) $$ HX
  iintro HX
  iapply (wp_chunks 𝒱 c E) $$ Hs1 Hp1
  iintro Hs1 Hp1
  iapply (wp_wrR 𝒱 c E) $$ HX
  iintro HX
  iapply (wp_wrR 𝒱 c E) $$ HX
  iintro HX
  iapply (wp_accumulate 𝒱 c E) $$ HV Hp0 HA HX
  iintro HV Hp0 HA HX
  iapply (wp_accumulate 𝒱 c E) $$ HV Hp1 HA HX
  iintro HV Hp1 HA HX
  rw [rowOf_putRow_ne _ 2 0 _ (by decide), rowOf_putRow_ne _ 1 0 _ (by decide), rowOf_putRow_ne _ 2 1 _ (by decide), rowOf_putRow_same,
    hal, hm, hcm, hc]
  iapply Hk $$ HV
  unfold closed
  isplitl [Hs0]; · iexists _; iexact Hs0
  isplitl [Hs1]; · iexists _; iexact Hs1
  isplitl [Hp0]; · iexists _; iexact Hp0
  isplitl [Hp1]; · iexists _; iexact Hp1
  isplitl [HA]; · iexact HA
  iexists _; iexact HX

end Rules

end Cert.Mla
-- ==== Proof.Run.lean ====
/-
  The body's run: the four streams opened, thirty-one steps of each, closed, and the results stored. Its value is a function
  of the three input blocks (`outBlock`), over any float interpretation.
-/
module

public import proofs.«01_k».proof.Proof.Triples

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

/-! ## Tiles of the input blocks -/

/-- Where tile `t` of the keys lies, for head `h` of the pair. -/
abbrev keyOff (h : Fin 2) (t : ℕ) : Fin 3 → ℕ := ![0, 512 * (t % 32), 128 * h.val]
/-- Where tile `t` of the values lies, for head `h` of the pair. -/
abbrev valOff (h : Fin 2) (t : ℕ) : Fin 4 → ℕ := ![0, t % 32, 64 * h.val, 0]
/-- Where half `i` of the block's queries lies, for head `h` of the pair. -/
abbrev queryOff (i h : Fin 2) : Fin 4 → ℕ := ![0, i.val, 128 * h.val, 0]

theorem keyInb (h : Fin 2) (t : ℕ) : ∀ a, keyOff h t a + S1x512x128.size a ≤ S1x16384x256.size a := by
  have h1 := h.isLt
  have h2 : t % 32 < 32 := Nat.mod_lt _ (by decide)
  intro a
  fin_cases a
  · exact Nat.le_refl 1
  · show 512 * (t % 32) + 512 ≤ 16384
    omega
  · show 128 * h.val + 128 ≤ 256
    omega
theorem valInb (h : Fin 2) (t : ℕ) : ∀ a, valOff h t a + S1x1x64x512.size a ≤ S1x32x128x512.size a := by
  have h1 := h.isLt
  have h2 : t % 32 < 32 := Nat.mod_lt _ (by decide)
  intro a
  fin_cases a
  · exact Nat.le_refl 1
  · show t % 32 + 1 ≤ 32
    omega
  · show 64 * h.val + 64 ≤ 128
    omega
  · exact Nat.le_refl 512
theorem queryInb (i h : Fin 2) : ∀ a, queryOff i h a + S1x1x128x512.size a ≤ S1x2x256x512.size a := by
  have h1 := h.isLt
  have h2 := i.isLt
  intro a
  fin_cases a
  · exact Nat.le_refl 1
  · show i.val + 1 ≤ 2
    omega
  · show 128 * h.val + 128 ≤ 256
    omega
  · exact Nat.le_refl 512

/-- Tile `t` of the keys, for head `h` of the pair. -/
def keyTile (K : Vec F S1x16384x256 .bf16) (h : Fin 2) (t : ℕ) : Vec F S1x512x128 .bf16 := VecWindow.window K (keyOff h t) S1x512x128.size (keyInb h t)
/-- Tile `t` of the values, for head `h` of the pair. -/
def valTile (V : Vec F S1x32x128x512 .bf16) (h : Fin 2) (t : ℕ) : Vec F S1x1x64x512 .bf16 := VecWindow.window V (valOff h t) S1x1x64x512.size (valInb h t)
/-- Half `i` of the block's queries, for head `h` of the pair. -/
def queryTile (X : Vec F S1x2x256x512 .bf16) (i h : Fin 2) : FVec F S128x512 .bf16 :=
  shapeCast S128x512 (VecWindow.window X (queryOff i h) S1x1x128x512.size (queryInb i h) : Vec F S1x1x128x512 .bf16) Facts₀.shapeCasts_S1x1x128x512_S128x512

/-- A stream's state after `n` steps. -/
def state (zf : FVec F S8x512 .f32 → FVec F S8x512 .f32) (q : FVec F S128x512 .bf16) (K : Vec F S1x16384x256 .bf16) (V : Vec F S1x32x128x512 .bf16) (h : Fin 2) : ℕ → St F
  | 0 => St.first q (keyTile K h 0)
  | n + 1 => St.next zf q (keyTile K h (n + 1)) (valTile V h (n - 1)) (state zf q K V h n)

/-- A stream's accumulator at the end. -/
def finalAcc (zf : FVec F S8x512 .f32 → FVec F S8x512 .f32) (q : FVec F S128x512 .bf16) (K : Vec F S1x16384x256 .bf16) (V : Vec F S1x32x128x512 .bf16) (h : Fin 2) : Vec F S80x512 .f32 :=
  St.last (valTile V h 30) (valTile V h 31) (state zf q K V h 31)

/-- Two tiles of results, one above the other. -/
def stacked (A B : FVec F S1x512x128 .bf16) : Vec F S1x1024x128 .bf16 := fun y =>
  if h : ∀ a, (![0, 512, 0] : Fin 3 → ℕ) a ≤ (y a).val ∧ (y a).val < (![0, 512, 0] : Fin 3 → ℕ) a + S1x512x128.size a
  then B (Rect.unitLocal (s := S1x1024x128) (off := ![0, 512, 0]) (size := S1x512x128.size) y h)
  else A (Rect.unitLocal (s := S1x1024x128) (off := ![0, 0, 0]) (size := S1x512x128.size) y (by
    have h0 : (y 0).val < 1 := (y 0).isLt
    have h1 : (y 1).val < 1024 := (y 1).isLt
    have h2 : (y 2).val < 128 := (y 2).isLt
    have h3 : (y 1).val < 512 := by
      by_contra hc
      refine h fun a => ?_
      fin_cases a
      · exact ⟨Nat.zero_le _, h0⟩
      · show 512 ≤ (y 1).val ∧ (y 1).val < 512 + 512
        omega
      · exact ⟨Nat.zero_le _, lt_of_lt_of_eq h2 (Nat.zero_add 128).symm⟩
    intro a
    fin_cases a
    · exact ⟨Nat.zero_le _, h0⟩
    · exact ⟨Nat.zero_le _, lt_of_lt_of_eq h3 (Nat.zero_add 512).symm⟩
    · exact ⟨Nat.zero_le _, lt_of_lt_of_eq h2 (Nat.zero_add 128).symm⟩))

/-- The two stores of results leave them stacked, whatever was there. -/
theorem put_put_stacked (X : Vec F S1x1024x128 .bf16) (A B : FVec F S1x512x128 .bf16) :
    VecWindow.put (VecWindow.put X ![0, 0, 0] S1x512x128.size A) ![0, 512, 0] S1x512x128.size B = stacked A B := by
  funext y
  unfold VecWindow.put stacked
  by_cases h : ∀ a, (![0, 512, 0] : Fin 3 → ℕ) a ≤ (y a).val ∧ (y a).val < (![0, 512, 0] : Fin 3 → ℕ) a + S1x512x128.size a
  · rw [dif_pos h, dif_pos h]
  · rw [dif_neg h, dif_neg h]
    exact dif_pos _

/-- The head a stream attends with, and the half of the queries it takes. -/
abbrev headOf : Fin 4 → Fin 2 := ![0, 1, 0, 1]
abbrev halfOf : Fin 4 → Fin 2 := ![0, 0, 1, 1]

/-- The result of stream `j`. -/
def streamOut (zf : FVec F S8x512 .f32 → FVec F S8x512 .f32) (X : Vec F S1x2x256x512 .bf16) (K : Vec F S1x16384x256 .bf16) (V : Vec F S1x32x128x512 .bf16) (i h : Fin 2) : FVec F S64x512 .f32 :=
  quotient (finalAcc zf (queryTile X i h) K V h)

/-- The block of results, from the three input blocks. -/
def outBlock (zf : FVec F S8x512 .f32 → FVec F S8x512 .f32) (X : Vec F S1x2x256x512 .bf16) (K : Vec F S1x16384x256 .bf16) (V : Vec F S1x32x128x512 .bf16) : Vec F S1x1024x128 .bf16 :=
  stacked (outTile (streamOut zf X K V 0 0) (streamOut zf X K V 0 1)) (outTile (streamOut zf X K V 1 0) (streamOut zf X K V 1 1))

/-! ## The offsets the loop computes -/

theorem trips1 : k0_t1_loop.trips = 31 := by decide +kernel
theorem trips2 : k0_t2_loop.trips = 0 := by decide +kernel

theorem cond1_eq : ∀ t : Fin k0_t1_loop.trips, k0_cond1 t = if t.val % 2 = 0 then 0#1 else 1#1 := by decide +kernel
theorem cond2_eq : ∀ t : Fin k0_t1_loop.trips, k0_cond2 t = if t.val % 2 = 0 then 1#1 else 0#1 := by decide +kernel
theorem off1_eq : ∀ t : Fin k0_t1_loop.trips, k0_off1 t = keyOff 0 (t.val + 1) := by decide +kernel
theorem off2_eq : ∀ t : Fin k0_t1_loop.trips, k0_off2 t = valOff 0 (t.val - 1) := by decide +kernel
theorem off3_eq : ∀ t : Fin k0_t1_loop.trips, k0_off3 t = keyOff 1 (t.val + 1) := by decide +kernel
theorem off4_eq : ∀ t : Fin k0_t1_loop.trips, k0_off4 t = valOff 1 (t.val - 1) := by decide +kernel
theorem off5_eq : ∀ t : Fin k0_t1_loop.trips, k0_off5 t = keyOff 0 (t.val + 1) := by decide +kernel
theorem off6_eq : ∀ t : Fin k0_t1_loop.trips, k0_off6 t = valOff 0 (t.val - 1) := by decide +kernel
theorem off7_eq : ∀ t : Fin k0_t1_loop.trips, k0_off7 t = keyOff 1 (t.val + 1) := by decide +kernel
theorem off8_eq : ∀ t : Fin k0_t1_loop.trips, k0_off8 t = valOff 1 (t.val - 1) := by decide +kernel
theorem off17_eq : k0_off17 = valOff 0 30 := by decide +kernel
theorem off18_eq : k0_off18 = valOff 1 30 := by decide +kernel

/-! ## The run -/

section Rules

variable {nD : Nat} {τ : Topo} {sig : RefSig} {Λ : Labels} {α : Type} {U : Type} [URA U]
variable {defs : Defs nD τ sig (Elt F) Λ} (𝒱 : Variants) (c : Dev nD) (E : Set ℕ) {Q : α → sProp (MT nD τ sig Unit (Elt F) ℕ U ℕ)}

/-- The four streams' steps of one tile. -/
theorem wp_steps {zf : FVec F S8x512 .f32 → FVec F S8x512 .f32} {kk : Memref sig .tc .vmem S1x16384x256 .bf16} {kv : Memref sig .tc .vmem S1x32x128x512 .bf16}
    {ka : Fin 3 → ℕ} {hka : ∀ a, ka a + S1x512x128.size a ≤ S1x16384x256.size a} {va : Fin 4 → ℕ} {hva : ∀ a, va a + S1x1x64x512.size a ≤ S1x32x128x512.size a}
    {kb : Fin 3 → ℕ} {hkb : ∀ a, kb a + S1x512x128.size a ≤ S1x16384x256.size a} {vb : Fin 4 → ℕ} {hvb : ∀ a, vb a + S1x1x64x512.size a ≤ S1x32x128x512.size a}
    {q : Fin 4 → FVec F S128x512 .bf16} {b : Fin 4 → Bufs sig} {rr rw : Fin 8} (hr : rr.val < 2) (hw : rw.val < 2) (hne : rr ≠ rw)
    (n : ℕ) (eka : ka = keyOff 0 (n + 1)) (eva : va = valOff 0 (n - 1)) (ekb : kb = keyOff 1 (n + 1)) (evb : vb = valOff 1 (n - 1))
    {k : Prog (TpuEff nD τ sig (Elt F) Λ .tc) α} {K : Vec F S1x16384x256 .bf16} {V : Vec F S1x32x128x512 .bf16} :
    (owns (c : Thread nD τ) kk fullShare K : sProp (MT nD τ sig Unit (Elt F) ℕ U ℕ))
      ⊢ iprop(owns (c : Thread nD τ) kv fullShare V
        -∗ held c (b 0) rr (state zf (q 0) K V 0 n) -∗ held c (b 1) rr (state zf (q 1) K V 1 n)
        -∗ held c (b 2) rr (state zf (q 2) K V 0 n) -∗ held c (b 3) rr (state zf (q 3) K V 1 n)
        -∗ (owns (c : Thread nD τ) kk fullShare K -∗ owns (c : Thread nD τ) kv fullShare V
            -∗ held c (b 0).swap rw (state zf (q 0) K V 0 (n + 1)) -∗ held c (b 1).swap rw (state zf (q 1) K V 1 (n + 1))
            -∗ held c (b 2).swap rw (state zf (q 2) K V 0 (n + 1)) -∗ held c (b 3).swap rw (state zf (q 3) K V 1 (n + 1))
            -∗ wp frame (wpE defs 𝒱 (c : Thread nD τ) none) E k Q)
        -∗ wp frame (wpE defs 𝒱 (c : Thread nD τ) none) E (steps zf kk kv ka hka va hva kb hkb vb hvb q b rr rw k) Q) := by
  subst eka eva ekb evb
  unfold steps
  simp only [state, keyTile, valTile]
  iintro HK HV H0 H1 H2 H3 Hk
  iapply (wp_step 𝒱 c E hr hw hne) $$ HK HV H0
  iintro HK HV H0
  iapply (wp_step 𝒱 c E hr hw hne) $$ HK HV H1
  iintro HK HV H1
  iapply (wp_step 𝒱 c E hr hw hne) $$ HK HV H2
  iintro HK HV H2
  iapply (wp_step 𝒱 c E hr hw hne) $$ HK HV H3
  iintro HK HV H3
  iapply Hk $$ HK HV H0 H1 H2 H3

/-- A stream before step `n + 1`: the buffers exchange their roles at every step. -/
def heldAt (b : Bufs sig) (n : ℕ) (σ : St F) : sProp (MT nD τ sig Unit (Elt F) ℕ U ℕ) :=
  if n % 2 = 0 then held c b.swap 1 σ else held c b 0 σ

theorem heldAt_zero (b : Bufs sig) (σ : St F) : (heldAt c b 0 σ : sProp (MT nD τ sig Unit (Elt F) ℕ U ℕ)) = held c b.swap 1 σ := if_pos rfl
theorem heldAt_last (b : Bufs sig) (σ : St F) : (heldAt c b 31 σ : sProp (MT nD τ sig Unit (Elt F) ℕ U ℕ)) = held c b 0 σ := if_neg (by decide)

/-- The opening, on the first tile of the keys. -/
theorem wp_opening_tile {zf : FVec F S8x512 .f32 → FVec F S8x512 .f32} {kk : Memref sig .tc .vmem S1x16384x256 .bf16} {ok : Fin 3 → ℕ}
    {hk : ∀ a, ok a + S1x512x128.size a ≤ S1x16384x256.size a} {h : Fin 2} (e : ok = keyOff h 0)
    {q : FVec F S128x512 .bf16} {b : Bufs sig} {k : Prog (TpuEff nD τ sig (Elt F) Λ .tc) α} {K : Vec F S1x16384x256 .bf16} {V : Vec F S1x32x128x512 .bf16} :
    (owns (c : Thread nD τ) kk fullShare K : sProp (MT nD τ sig Unit (Elt F) ℕ U ℕ))
      ⊢ iprop(freeBufs c b
        -∗ (owns (c : Thread nD τ) kk fullShare K -∗ heldAt c b 0 (state zf q K V h 0) -∗ wp frame (wpE defs 𝒱 (c : Thread nD τ) none) E k Q)
        -∗ wp frame (wpE defs 𝒱 (c : Thread nD τ) none) E (opening kk ok hk q b k) Q) := by
  subst e
  rw [heldAt_zero]
  exact wp_opening 𝒱 c E

/-- The closing, on the last two tiles of the values. -/
theorem wp_closing_tile {zf : FVec F S8x512 .f32 → FVec F S8x512 .f32} {kv : Memref sig .tc .vmem S1x32x128x512 .bf16} {o1 o2 : Fin 4 → ℕ}
    {h1 : ∀ a, o1 a + S1x1x64x512.size a ≤ S1x32x128x512.size a} {h2 : ∀ a, o2 a + S1x1x64x512.size a ≤ S1x32x128x512.size a} {h : Fin 2}
    (e1 : o1 = valOff h 30) (e2 : o2 = valOff h 31)
    {q : FVec F S128x512 .bf16} {b : Bufs sig} {k : Prog (TpuEff nD τ sig (Elt F) Λ .tc) α} {K : Vec F S1x16384x256 .bf16} {V : Vec F S1x32x128x512 .bf16} :
    (owns (c : Thread nD τ) kv fullShare V : sProp (MT nD τ sig Unit (Elt F) ℕ U ℕ))
      ⊢ iprop(heldAt c b 31 (state zf q K V h 31)
        -∗ (owns (c : Thread nD τ) kv fullShare V -∗ closed c b (finalAcc zf q K V h) -∗ wp frame (wpE defs 𝒱 (c : Thread nD τ) none) E k Q)
        -∗ wp frame (wpE defs 𝒱 (c : Thread nD τ) none) E (closing kv o1 o2 h1 h2 b k) Q) := by
  subst e1 e2
  rw [heldAt_last]
  exact wp_closing 𝒱 c E

/-- What the loop holds before step `n + 1`. -/
def loopInv (zf : FVec F S8x512 .f32 → FVec F S8x512 .f32) (kk : Memref sig .tc .vmem S1x16384x256 .bf16) (kv : Memref sig .tc .vmem S1x32x128x512 .bf16)
    (q : Fin 4 → FVec F S128x512 .bf16) (b : Fin 4 → Bufs sig) (K : Vec F S1x16384x256 .bf16) (V : Vec F S1x32x128x512 .bf16) (n : ℕ) :
    sProp (MT nD τ sig Unit (Elt F) ℕ U ℕ) :=
  iprop(owns (c : Thread nD τ) kk fullShare K ∗ owns (c : Thread nD τ) kv fullShare V
    ∗ heldAt c (b 0) n (state zf (q 0) K V 0 n) ∗ heldAt c (b 1) n (state zf (q 1) K V 1 n)
    ∗ heldAt c (b 2) n (state zf (q 2) K V 0 n) ∗ heldAt c (b 3) n (state zf (q 3) K V 1 n))

/-- One iteration keeps the loop's invariant. -/
theorem wp_trip1 (zf : FVec F S8x512 .f32 → FVec F S8x512 .f32) (kk : Memref sig .tc .vmem S1x16384x256 .bf16) (kv : Memref sig .tc .vmem S1x32x128x512 .bf16)
    (q : Fin 4 → FVec F S128x512 .bf16) (b : Fin 4 → Bufs sig) (K : Vec F S1x16384x256 .bf16) (V : Vec F S1x32x128x512 .bf16) (t : Fin k0_t1_loop.trips) :
    (loopInv c zf kk kv q b K V t.val : sProp (MT nD τ sig Unit (Elt F) ℕ U ℕ))
      ⊢ wp frame (wpE defs 𝒱 (c : Thread nD τ) none) E (trip1 zf kk kv q b t) fun _ => loopInv c zf kk kv q b K V (t.val + 1) := by
  unfold trip1 trip loopInv heldAt
  by_cases ht : t.val % 2 = 0
  · have h1 : ¬ k0_cond1 t = 1#1 := by rw [cond1_eq, if_pos ht]; decide
    have h2 : k0_cond2 t = 1#1 := by rw [cond2_eq, if_pos ht]
    have hs : ¬ (t.val + 1) % 2 = 0 := by omega
    rw [dif_neg h1, dif_pos h2]
    simp only [if_pos ht, if_neg hs]
    iintro ⟨HK, HV, H0, H1, H2, H3⟩
    iapply (wp_steps 𝒱 c E (b := fun j => (b j).swap) (by decide) (by decide) (by decide) t.val (off5_eq t) (off6_eq t) (off7_eq t) (off8_eq t)) $$ HK HV H0 H1 H2 H3
    iintro HK HV H0 H1 H2 H3
    rw [wp_pure]; imodintro
    isplitl [HK]; · iexact HK
    isplitl [HV]; · iexact HV
    isplitl [H0]; · iexact H0
    isplitl [H1]; · iexact H1
    isplitl [H2]; · iexact H2
    iexact H3
  · have h1 : k0_cond1 t = 1#1 := by rw [cond1_eq, if_neg ht]
    have h2 : ¬ k0_cond2 t = 1#1 := by rw [cond2_eq, if_neg ht]; decide
    have hs : (t.val + 1) % 2 = 0 := by omega
    rw [dif_pos h1, dif_neg h2]
    simp only [if_neg ht, if_pos hs]
    iintro ⟨HK, HV, H0, H1, H2, H3⟩
    iapply (wp_steps 𝒱 c E (b := b) (by decide) (by decide) (by decide) t.val (off1_eq t) (off2_eq t) (off3_eq t) (off4_eq t)) $$ HK HV H0 H1 H2 H3
    iintro HK HV H0 H1 H2 H3
    rw [wp_pure]; imodintro
    isplitl [HK]; · iexact HK
    isplitl [HV]; · iexact HV
    isplitl [H0]; · iexact H0
    isplitl [H1]; · iexact H1
    isplitl [H2]; · iexact H2
    iexact H3

end Rules

section Whole

variable {nD : Nat} {τ : Topo} {sig : RefSig} {Λ : Labels} {U : Type} [URA U]
variable {defs : Defs nD τ sig (Elt F) Λ} (𝒱 : Variants) (c : Dev nD) (E : Set ℕ) {Q : PUnit → sProp (MT nD τ sig Unit (Elt F) ℕ U ℕ)}

/-- The loops. -/
theorem wp_loops {zf : FVec F S8x512 .f32 → FVec F S8x512 .f32} {kk : Memref sig .tc .vmem S1x16384x256 .bf16} {kv : Memref sig .tc .vmem S1x32x128x512 .bf16}
    {q : Fin 4 → FVec F S128x512 .bf16} {b : Fin 4 → Bufs sig} {K : Vec F S1x16384x256 .bf16} {V : Vec F S1x32x128x512 .bf16}
    {k : Prog (TpuEff nD τ sig (Elt F) Λ .tc) PUnit} :
    (loopInv c zf kk kv q b K V 0 : sProp (MT nD τ sig Unit (Elt F) ℕ U ℕ))
      ⊢ iprop((loopInv c zf kk kv q b K V 31 -∗ wp frame (wpE defs 𝒱 (c : Thread nD τ) none) E k Q)
        -∗ wp frame (wpE defs 𝒱 (c : Thread nD τ) none) E (loops zf kk kv q b k) Q) := by
  unfold loops
  iintro H Hk
  iapply (Scf.wp_for_bind frame (wpE defs 𝒱 (c : Thread nD τ) none) E k0_t1_loop.lb k0_t1_loop.ub k0_t1_loop.st Facts₀.k0_t1_ok PUnit.unit
    (fun t _ => trip1 zf kk kv q b t) (fun n _ => loopInv c zf kk kv q b K V n) (fun t _ => wp_trip1 𝒱 c E zf kk kv q b K V t)) $$ H
  iintro %u H
  iapply (Scf.wp_for_bind frame (wpE defs 𝒱 (c : Thread nD τ) none) E k0_t2_loop.lb k0_t2_loop.ub k0_t2_loop.st Facts₀.k0_t2_ok PUnit.unit
    (fun t _ => trip2 zf kk kv q b t) (fun _ _ => loopInv c zf kk kv q b K V k0_t1_loop.trips) (fun t _ => absurd t.isLt (by
      have : Scf.trips k0_t2_loop.lb k0_t2_loop.ub k0_t2_loop.st = 0 := trips2
      omega))) $$ H
  iintro %u H
  rw [trips1]
  iapply Hk $$ H

/-- A stream closed gives its buffers back. -/
theorem closed_free (b : Bufs sig) (A : Vec F S80x512 .f32) : (closed c b A : sProp (MT nD τ sig Unit (Elt F) ℕ U ℕ)) ⊢ freeBufs c b := by
  unfold closed freeBufs
  iintro ⟨H0, H1, H2, H3, H4, H5⟩
  isplitl [H0]; · iexact H0
  isplitl [H1]; · iexact H1
  isplitl [H2]; · iexact H2
  isplitl [H3]; · iexact H3
  isplitl [H4]; · iexists _; iexact H4
  iexact H5

/-- The accumulator of a closed stream read. -/
theorem wp_rdClosed {b : Bufs sig} {A : Vec F S80x512 .f32} {k : Vec F S80x512 .f32 → Prog (TpuEff nD τ sig (Elt F) Λ .tc) PUnit} :
    (closed c b A : sProp (MT nD τ sig Unit (Elt F) ℕ U ℕ))
      ⊢ iprop((freeBufs c b -∗ wp frame (wpE defs 𝒱 (c : Thread nD τ) none) E (k A) Q)
        -∗ wp frame (wpE defs 𝒱 (c : Thread nD τ) none) E (rdA b.acc k) Q) := by
  unfold closed freeBufs
  iintro ⟨H0, H1, H2, H3, H4, H5⟩ Hk
  iapply (wp_rd_full 𝒱 c E) $$ H4
  iintro H4
  iapply Hk
  isplitl [H0]; · iexact H0
  isplitl [H1]; · iexact H1
  isplitl [H2]; · iexact H2
  isplitl [H3]; · iexact H3
  isplitl [H4]; · iexists _; iexact H4
  iexact H5

/-- The results stored. -/
theorem wp_results {o : Memref sig .tc .vmem S1x1024x128 .bf16} {wo : o.IsWhole} {b : Fin 4 → Bufs sig} {A0 A1 A2 A3 : Vec F S80x512 .f32}
    {X : Vec F S1x1024x128 .bf16} {k : Prog (TpuEff nD τ sig (Elt F) Λ .tc) PUnit} :
    (owns (c : Thread nD τ) o fullShare X : sProp (MT nD τ sig Unit (Elt F) ℕ U ℕ))
      ⊢ iprop(closed c (b 0) A0 -∗ closed c (b 1) A1 -∗ closed c (b 2) A2 -∗ closed c (b 3) A3
        -∗ (owns (c : Thread nD τ) o fullShare (stacked (outTile (quotient A0) (quotient A1)) (outTile (quotient A2) (quotient A3)))
            -∗ freeBufs c (b 0) -∗ freeBufs c (b 1) -∗ freeBufs c (b 2) -∗ freeBufs c (b 3) -∗ wp frame (wpE defs 𝒱 (c : Thread nD τ) none) E k Q)
        -∗ wp frame (wpE defs 𝒱 (c : Thread nD τ) none) E (results o wo b k) Q) := by
  unfold results
  iintro HO H0 H1 H2 H3 Hk
  iapply (wp_rdClosed 𝒱 c E) $$ H0
  iintro H0
  iapply (wp_rdClosed 𝒱 c E) $$ H1
  iintro H1
  iapply (wp_rdClosed 𝒱 c E) $$ H2
  iintro H2
  iapply (wp_rdClosed 𝒱 c E) $$ H3
  iintro H3
  iapply (wp_rd 𝒱 c E) $$ HO
  iintro HO
  iapply (wp_wr 𝒱 c E) $$ HO
  iintro HO
  iapply (wp_rd 𝒱 c E) $$ HO
  iintro HO
  iapply (wp_wr 𝒱 c E) $$ HO
  iintro HO
  rw [put_put_stacked]
  iapply Hk $$ HO H0 H1 H2 H3

/-- The whole body: from the three input blocks to the block of results. -/
theorem wp_whole {zf : FVec F S8x512 .f32 → FVec F S8x512 .f32} {qq : Memref sig .tc .vmem S1x2x256x512 .bf16} {kk : Memref sig .tc .vmem S1x16384x256 .bf16}
    {kv : Memref sig .tc .vmem S1x32x128x512 .bf16} {o : Memref sig .tc .vmem S1x1024x128 .bf16} {wo : o.IsWhole} {b : Fin 4 → Bufs sig}
    {X : Vec F S1x2x256x512 .bf16} {K : Vec F S1x16384x256 .bf16} {V : Vec F S1x32x128x512 .bf16} {O : Vec F S1x1024x128 .bf16} :
    (owns (c : Thread nD τ) qq fullShare X : sProp (MT nD τ sig Unit (Elt F) ℕ U ℕ))
      ⊢ iprop(owns (c : Thread nD τ) kk fullShare K -∗ owns (c : Thread nD τ) kv fullShare V -∗ owns (c : Thread nD τ) o fullShare O
        -∗ freeBufs c (b 0) -∗ freeBufs c (b 1) -∗ freeBufs c (b 2) -∗ freeBufs c (b 3)
        -∗ (owns (c : Thread nD τ) qq fullShare X -∗ owns (c : Thread nD τ) kk fullShare K -∗ owns (c : Thread nD τ) kv fullShare V
            -∗ owns (c : Thread nD τ) o fullShare (outBlock zf X K V)
            -∗ freeBufs c (b 0) -∗ freeBufs c (b 1) -∗ freeBufs c (b 2) -∗ freeBufs c (b 3) -∗ Q ⟨⟩)
        -∗ wp frame (wpE defs 𝒱 (c : Thread nD τ) none) E (whole zf qq kk kv o wo b) Q) := by
  unfold whole before openings
  iintro HX HK HV HO H0 H1 H2 H3 Hk
  iapply (wp_rd 𝒱 c E) $$ HX
  iintro HX
  iapply (wp_rd 𝒱 c E) $$ HX
  iintro HX
  iapply (wp_rd 𝒱 c E) $$ HX
  iintro HX
  iapply (wp_rd 𝒱 c E) $$ HX
  iintro HX
  iapply (wp_opening_tile 𝒱 c E (zf := zf) (V := V) (h := 0) rfl) $$ HK H0
  iintro HK H0
  iapply (wp_opening_tile 𝒱 c E (zf := zf) (V := V) (h := 1) rfl) $$ HK H1
  iintro HK H1
  iapply (wp_opening_tile 𝒱 c E (zf := zf) (V := V) (h := 0) rfl) $$ HK H2
  iintro HK H2
  iapply (wp_opening_tile 𝒱 c E (zf := zf) (V := V) (h := 1) rfl) $$ HK H3
  iintro HK H3
  iapply (wp_loops 𝒱 c E (K := K) (V := V) (b := b)) $$ [HK HV H0 H1 H2 H3]
  · unfold loopInv
    isplitl [HK]; · iexact HK
    isplitl [HV]; · iexact HV
    isplitl [H0]; · iexact H0
    isplitl [H1]; · iexact H1
    isplitl [H2]; · iexact H2
    iexact H3
  unfold loopInv
  iintro ⟨HK, HV, H0, H1, H2, H3⟩
  unfold closings
  iapply (wp_closing_tile 𝒱 c E (h := 0) off17_eq rfl) $$ HV H0
  iintro HV H0
  iapply (wp_closing_tile 𝒱 c E (h := 1) off18_eq rfl) $$ HV H1
  iintro HV H1
  iapply (wp_closing_tile 𝒱 c E (h := 0) off17_eq rfl) $$ HV H2
  iintro HV H2
  iapply (wp_closing_tile 𝒱 c E (h := 1) off18_eq rfl) $$ HV H3
  iintro HV H3
  iapply (wp_results 𝒱 c E) $$ HO H0 H1 H2 H3
  iintro HO H0 H1 H2 H3
  rw [wp_pure]; imodintro
  iapply Hk $$ HX HK HV [HO] H0 H1 H2 H3
  iexact HO

end Whole

end Cert.Mla
-- ==== Proof.IdealBody.lean ====
/-
  The idealized call's printed body is the program of `Whole.lean`, its zero being the constant one.
-/
module

public import proofs.«01_k».proof.Proof.Whole

@[expose] public section

set_option maxRecDepth 16384

noncomputable section

namespace Cert.Mla

open Idealize.ShloMosaic Idealize.ShloMosaic.TcCoe Idealize.ShloMosaic.Tactic
open Cert.KernelIdeal

variable {F : FTy → Type} [FloatOps F]

/-- The zero the idealized step adds to its references. -/
def zeroIdeal (_ : FVec F S8x512 .f32) : FVec F S8x512 .f32 := bitcastToFloat .f32 (constantI S8x512 32 0#32)

set_option maxHeartbeats 4000000 in
theorem ideal_body (i : grid0.Coords) (arg3 : Memref sig .tc .vmem S1x2x256x512 .bf16) (h3 : arg3.IsWhole)
    (arg4 : Memref sig .tc .vmem S1x16384x256 .bf16) (h4 : arg4.IsWhole) (arg5 : Memref sig .tc .vmem S1x32x128x512 .bf16) (h5 : arg5.IsWhole)
    (arg6 : Memref sig .tc .vmem S1x1024x128 .bf16) (h6 : arg6.IsWhole)
    (a7 a8 : Memref sig .tc .vmem S512x512 .f32) (a9 a10 : Memref sig .tc .vmem S512x512 .bf16) (a11 : Memref sig .tc .vmem S80x512 .f32) (a12 : Memref sig .tc .vmem S8x512 .f32)
    (h7 : a7.IsWhole) (h8 : a8.IsWhole) (h9 : a9.IsWhole) (h10 : a10.IsWhole) (h11 : a11.IsWhole) (h12 : a12.IsWhole)
    (a13 a14 : Memref sig .tc .vmem S512x512 .f32) (a15 a16 : Memref sig .tc .vmem S512x512 .bf16) (a17 : Memref sig .tc .vmem S80x512 .f32) (a18 : Memref sig .tc .vmem S8x512 .f32)
    (h13 : a13.IsWhole) (h14 : a14.IsWhole) (h15 : a15.IsWhole) (h16 : a16.IsWhole) (h17 : a17.IsWhole) (h18 : a18.IsWhole)
    (a19 a20 : Memref sig .tc .vmem S512x512 .f32) (a21 a22 : Memref sig .tc .vmem S512x512 .bf16) (a23 : Memref sig .tc .vmem S80x512 .f32) (a24 : Memref sig .tc .vmem S8x512 .f32)
    (h19 : a19.IsWhole) (h20 : a20.IsWhole) (h21 : a21.IsWhole) (h22 : a22.IsWhole) (h23 : a23.IsWhole) (h24 : a24.IsWhole)
    (a25 a26 : Memref sig .tc .vmem S512x512 .f32) (a27 a28 : Memref sig .tc .vmem S512x512 .bf16) (a29 : Memref sig .tc .vmem S80x512 .f32) (a30 : Memref sig .tc .vmem S8x512 .f32)
    (h25 : a25.IsWhole) (h26 : a26.IsWhole) (h27 : a27.IsWhole) (h28 : a28.IsWhole) (h29 : a29.IsWhole) (h30 : a30.IsWhole) :
    cc0_mla_attn (F := F) i arg3 h3 arg4 h4 arg5 h5 arg6 h6 a7 h7 a8 h8 a9 h9 a10 h10 a11 h11 a12 h12 a13 h13 a14 h14 a15 h15 a16 h16 a17 h17 a18 h18
        a19 h19 a20 h20 a21 h21 a22 h22 a23 h23 a24 h24 a25 h25 a26 h26 a27 h27 a28 h28 a29 h29 a30 h30
      = printed zeroIdeal arg3 arg4 arg5 arg6 h6
          ![⟨a7, a8, a9, a10, a11, a12, h9, h10⟩, ⟨a13, a14, a15, a16, a17, a18, h15, h16⟩,
            ⟨a19, a20, a21, a22, a23, a24, h21, h22⟩, ⟨a25, a26, a27, a28, a29, a30, h27, h28⟩] := by
  chain_rfl

end Cert.Mla
-- ==== Proof.IdealRun.lean ====
/-
  The idealized call's run: its schedule, what the body leaves at every grid point, and the launch. Every execution ends, with the
  arguments as they were, the counters at zero, and every window's array at what its blocks make of it.
-/
module

public import proofs.«01_k».proof.Proof.Gen.KernelIdeal.Frame
public import proofs.«01_k».proof.Proof.IdealBody
public import proofs.«01_k».proof.Proof.Run
public import Idealize.ShloMosaic.Lib.Claim

@[expose] public section

set_option maxRecDepth 16384

noncomputable section

namespace Cert.Mla.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four streams' buffers. -/
def scratch : Fin 4 → Bufs sig :=
  ![⟨.whole cc0_scratch0, .whole cc0_scratch1, .whole cc0_scratch2, .whole cc0_scratch3, .whole cc0_scratch4, .whole cc0_scratch5, Memref.isWhole_whole _, Memref.isWhole_whole _⟩,
    ⟨.whole cc0_scratch6, .whole cc0_scratch7, .whole cc0_scratch8, .whole cc0_scratch9, .whole cc0_scratch10, .whole cc0_scratch11, Memref.isWhole_whole _, Memref.isWhole_whole _⟩,
    ⟨.whole cc0_scratch12, .whole cc0_scratch13, .whole cc0_scratch14, .whole cc0_scratch15, .whole cc0_scratch16, .whole cc0_scratch17, Memref.isWhole_whole _, Memref.isWhole_whole _⟩,
    ⟨.whole cc0_scratch18, .whole cc0_scratch19, .whole cc0_scratch20, .whole cc0_scratch21, .whole cc0_scratch22, .whole cc0_scratch23, Memref.isWhole_whole _, Memref.isWhole_whole _⟩]

theorem sep_regroup (P Q R : sProp 𝕄) : iprop((P ∗ Q) ∗ R) = iprop(P ∗ Q ∗ R) :=
  equiv_iff.mp ⟨Idealize.SL.BI.sep_assoc, Idealize.SL.BI.sep_assoc'⟩

/-- The scoped buffers no window stages are the four streams'. -/
theorem scoped_eq (c : Dev nD) : (Pipeline.scopedRest (Val := Elt F) spec0 c : sProp 𝕄)
    = iprop(freeBufs c (scratch 0) ∗ freeBufs c (scratch 1) ∗ freeBufs c (scratch 2) ∗ freeBufs c (scratch 3)) := by
  rw [scopedRest0_eq]
  simp only [freeBufs, sep_regroup]
  simp only [scratch, Matrix.cons_val_zero, Matrix.cons_val_one, Matrix.cons_val, owns_whole]
  rfl

/-- The body at point `t` is the program of `Whole.lean` on the point's windows. -/
theorem body_eq (t : Fin cfg0.N) : bodyAt0 (F := F) t
    = whole zeroIdeal (st0_0 t) (st0_1 t) (st0_2 t) (st0_3 t) (hstage0_3 ((cfg0.slots t 3).cast nbuf0_3)) scratch :=
  (ideal_body (grid0.coords t) _ _ _ _ _ _ _ _ _ _ _ _ _ _ _ _ _ _ _ _ _ _ _ _ _ _ _ _ _ _ _ _ _ _ _ _ _ _ _ _ _ _ _ _ _ _ _ _ _ _ _ _ _ _ _ _).trans
    (printed_eq _ _ _ _ _ _ _)

/-! ## The proof data -/

/-- What the windows' buffers hold after the body at each point: the inputs' their blocks, the result's the block of results
    computed from them. The invariant is the streams' buffers at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock zeroIdeal (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_queries (c : Dev nD) (t : Fin cfg0.N) : (dats m 0 c).after 0 t = iblk m c 0 t := by dsimp only [dats]
theorem after_keys (c : Dev nD) (t : Fin cfg0.N) : (dats m 0 c).after 1 t = iblk m c 1 t := by dsimp only [dats]
theorem after_values (c : Dev nD) (t : Fin cfg0.N) : (dats m 0 c).after 2 t = iblk m c 2 t := by dsimp only [dats]
theorem after_result (c : Dev nD) (t : Fin cfg0.N) :
    (dats m 0 c).after 3 t = outBlock zeroIdeal (iblk m c 0 t) (iblk m c 1 t) (iblk m c 2 t) := by dsimp only [dats]

theorem before_queries (c : Dev nD) (t : Fin cfg0.N) (d) : (dats m 0 c).before 0 t d = iblk m c 0 t :=
  before0_0_of m (dats m 0 c) (A_eq m c 0) (after_queries m c) t d
theorem before_keys (c : Dev nD) (t : Fin cfg0.N) (d) : (dats m 0 c).before 1 t d = iblk m c 1 t :=
  before0_1_of m (dats m 0 c) (A_eq m c 1) (after_keys m c) t d
theorem before_values (c : Dev nD) (t : Fin cfg0.N) (d) : (dats m 0 c).before 2 t d = iblk m c 2 t :=
  before0_2_of m (dats m 0 c) (A_eq m c 2) (after_values m c) t d

/-! ## The body at a point -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq]
  simp only [before_queries, before_keys, before_values]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_queries, after_keys, after_values, after_result]
  unfold Pipeline.ΦA
  rw [scoped_eq]
  iintro ⟨⟨⟨HS0, HS1, HS2, HS3⟩, Hr⟩, Ho, ⟨%d0, H0⟩, ⟨%d1, H1⟩, ⟨%d2, H2⟩, ⟨%d3, H3⟩⟩
  iapply (wp_whole Variants.none c Set.univ) $$ H0 H1 H2 H3 HS0 HS1 HS2 HS3
  iintro H0 H1 H2 H3 HS0 HS1 HS2 HS3
  isplitl [HS0 HS1 HS2 HS3 Hr]
  · isplitl [HS0 HS1 HS2 HS3]
    · isplitl [HS0]; · iexact HS0
      isplitl [HS1]; · iexact HS1
      isplitl [HS2]; · iexact HS2
      iexact HS3
    iexact Hr
  isplitl [Ho]; · iexact Ho
  isplitl [H0]; · iexact H0
  isplitl [H1]; · iexact H1
  isplitl [H2]; · iexact H2
  iexact H3

/-- The table's body at point `t`'s slots is the body there. -/
theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The launch -/

set_option backward.isDefEq.respectTransparency.types false in
/-- Every execution ends, each window's array at what its blocks make of it, every other buffer as the region found it, and the
    counters at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_counters m ρ)

/-- The arguments end as they were, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_counters m ρ))

end Cert.Mla.Ideal
-- ==== Proof.ReferenceRun.lean ====
/-
  The reference's run: host operations alone, which leave the arguments and every counter as they were.
-/
module

public import proofs.«01_k».proof.Proof.Gen.ReferenceIdeal.Run
public import Idealize.ShloMosaic.Lib.Claim

@[expose] public section

noncomputable section

namespace Cert.Mla.Reference

open Cert.ReferenceIdeal
open Idealize.ShloMosaic Idealize.ShloMosaic.TcCoe Idealize.SL.Sem

variable {F : FTy → Type} [FloatOps F] (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

end Cert.Mla.Reference
-- ==== Proof.Softmax.lean ====
/-
  The arithmetic of a running softmax over extended reals: partial sums of values weighed by powers of two against a
  reference, moved from one reference to the next, and the quotient at the end, which no longer depends on the reference.
-/
module

public import Idealize.ShloMosaic.PureOps.Ideal
public import Idealize.ShloMosaic.Lib.Pointwise

@[expose] public section

noncomputable section

namespace Cert.Mla

open Idealize.ShloMosaic

/-- A real number that is not negative distributes over a sum of extended reals. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Two to a real power. -/
def pow2 (r : ℝ) : ℝ := Real.rpow 2 r

theorem pow2_pos (r : ℝ) : 0 < pow2 r := Real.rpow_pos_of_pos two_pos r

theorem pow2_mul (a b : ℝ) : pow2 a * pow2 b = pow2 (a + b) := (Real.rpow_add two_pos a b).symm

/-- The exponential of a score against a reference. -/
theorem exp2_sub (a b : ℝ) : Ideal.exp2 ((a : EReal) - (b : EReal)) = (pow2 (a - b) : EReal) := by
  rw [← EReal.coe_sub]
  rfl

/-- One tile's values weighed against the reference `μ`. -/
def tileSum (x : Fin 512 → ℝ) (v : Fin 512 → EReal) (μ : ℝ) : EReal := ∑ k, v k * (pow2 (x k - μ) : EReal)

/-- The first `n` tiles' values weighed against the reference `μ`. -/
def partSum (x : ℕ → Fin 512 → ℝ) (v : ℕ → Fin 512 → EReal) (n : ℕ) (μ : ℝ) : EReal := ∑ t ∈ Finset.range n, tileSum (x t) (v t) μ

/-- Moving to another reference scales a tile's sum. -/
theorem scale_tileSum (x : Fin 512 → ℝ) (v : Fin 512 → EReal) (μ μ' : ℝ) :
    (pow2 (μ - μ') : EReal) * tileSum x v μ = tileSum x v μ' := by
  unfold tileSum
  rw [coe_mul_sum _ (pow2_pos _).le]
  refine Finset.sum_congr rfl fun k _ => ?_
  rw [mul_left_comm, ← EReal.coe_mul, pow2_mul]
  congr 3
  ring

/-- Moving to another reference scales a partial sum. -/
theorem scale_partSum (x : ℕ → Fin 512 → ℝ) (v : ℕ → Fin 512 → EReal) (n : ℕ) (μ μ' : ℝ) :
    (pow2 (μ - μ') : EReal) * partSum x v n μ = partSum x v n μ' := by
  unfold partSum
  rw [coe_mul_sum _ (pow2_pos _).le]
  exact Finset.sum_congr rfl fun t _ => scale_tileSum _ _ _ _

/-- A step of the accumulator: rescaled, with the next tile's sum added. -/
theorem partSum_step (x : ℕ → Fin 512 → ℝ) (v : ℕ → Fin 512 → EReal) (n : ℕ) (μ μ' : ℝ) :
    (pow2 (μ - μ') : EReal) * partSum x v n μ + tileSum (x n) (v n) μ' = partSum x v (n + 1) μ' := by
  rw [scale_partSum]
  exact (Finset.sum_range_succ _ n).symm

/-- The largest of finitely many real numbers, at least one, is real. -/
theorem fold_max_real {ι : Type} [Fintype ι] [Nonempty ι] (f : ι → ℝ) :
    ∃ M : ℝ, Finset.univ.fold max (⊥ : EReal) (fun i => (f i : EReal)) = (M : EReal) := by
  classical
  have key : ∀ s : Finset ι, s.Nonempty → ∃ M : ℝ, s.fold max (⊥ : EReal) (fun i => (f i : EReal)) = (M : EReal) := by
    intro s hs
    induction hs using Finset.Nonempty.cons_induction with
    | singleton a => exact ⟨f a, by simp⟩
    | cons a s ha _ ih =>
      obtain ⟨M, hM⟩ := ih
      exact ⟨max (f a) M, by rw [Finset.fold_cons, hM]; exact (EReal.coe_strictMono.monotone.map_max).symm⟩
  exact key _ Finset.univ_nonempty

/-- Division by a positive real number is multiplication by its inverse. -/
theorem div_pos_real (a : EReal) {r : ℝ} (hr : 0 < r) : Ideal.div a (r : EReal) = a * ((r⁻¹ : ℝ) : EReal) := by
  rw [Ideal.div_coe hr.ne', one_div]

/-- A sum of weighed values over the sum of the weights: each weight over the sum. -/
theorem sum_div_real {ι : Type} (s : Finset ι) (v : ι → EReal) (w : ι → ℝ) {W : ℝ} (hW : 0 < W) :
    Ideal.div (∑ i ∈ s, v i * (w i : EReal)) (W : EReal) = ∑ i ∈ s, v i * ((w i / W : ℝ) : EReal) := by
  rw [div_pos_real _ hW, mul_comm, coe_mul_sum _ (inv_pos.mpr hW).le]
  refine Finset.sum_congr rfl fun i _ => ?_
  rw [mul_left_comm, ← EReal.coe_mul, mul_comm W⁻¹, div_eq_mul_inv]

/-- A sum of real numbers, each as an extended real. -/
theorem coe_sum_real {ι : Type} (s : Finset ι) (w : ι → ℝ) : ∑ i ∈ s, (w i : EReal) = ((∑ i ∈ s, w i : ℝ) : EReal) := by
  classical
  induction s using Finset.induction_on with
  | empty => simp
  | insert a s ha ih => rw [Finset.sum_insert ha, Finset.sum_insert ha, ih, EReal.coe_add]

/-- Attention of a query: values `v` under the softmax of the scores `x`. -/
def attend {ι : Type} [Fintype ι] (x : ι → ℝ) (v : ι → EReal) : EReal := ∑ i, v i * ((Real.exp (x i) / ∑ j, Real.exp (x j) : ℝ) : EReal)

/-- Weights that are one multiple of the exponentials give the attention. -/
theorem attend_of_scaled {ι : Type} [Fintype ι] [Nonempty ι] (x : ι → ℝ) (v : ι → EReal) (w : ι → ℝ) {c : ℝ} (hc : 0 < c)
    (hw : ∀ i, w i = c * Real.exp (x i)) :
    Ideal.div (∑ i, v i * (w i : EReal)) (∑ i, (w i : EReal)) = attend x v := by
  have hE : 0 < ∑ j, Real.exp (x j) := Finset.sum_pos (fun j _ => Real.exp_pos _) Finset.univ_nonempty
  have hW : ∑ i, w i = c * ∑ j, Real.exp (x j) := by
    rw [Finset.mul_sum]
    exact Finset.sum_congr rfl fun i _ => hw i
  rw [coe_sum_real, sum_div_real _ _ _ (by rw [hW]; exact mul_pos hc hE)]
  refine Finset.sum_congr rfl fun i _ => ?_
  rw [hW, hw i, mul_div_mul_left _ _ hc.ne']

/-- The reference's softmax, each exponential taken against a real number `M`, gives the attention. -/
theorem attend_of_shifted {ι : Type} [Fintype ι] [Nonempty ι] (x : ι → ℝ) (v : ι → EReal) (M : ℝ) :
    ∑ i, v i * Ideal.div (Ideal.exp ((x i : EReal) - (M : EReal))) (∑ j, Ideal.exp ((x j : EReal) - (M : EReal))) = attend x v := by
  have he : ∀ i, Ideal.exp ((x i : EReal) - (M : EReal)) = ((Real.exp (-M) * Real.exp (x i) : ℝ) : EReal) := by
    intro i
    rw [← EReal.coe_sub]
    show ((Real.exp (x i - M) : ℝ) : EReal) = _
    rw [← Real.exp_add]
    congr 2
    ring
  have hE : 0 < ∑ j, Real.exp (x j) := Finset.sum_pos (fun j _ => Real.exp_pos _) Finset.univ_nonempty
  have hc := Real.exp_pos (-M)
  simp only [he]
  rw [coe_sum_real, ← Finset.mul_sum]
  refine Finset.sum_congr rfl fun i _ => ?_
  rw [div_pos_real _ (mul_pos hc hE), ← EReal.coe_mul, ← div_eq_mul_inv, mul_div_mul_left _ _ hc.ne']

/-- A power of two as an exponential. -/
theorem pow2_eq_exp (s μ : ℝ) : pow2 (s / Real.log 2 - μ) = pow2 (-μ) * Real.exp s := by
  have h : Real.exp s = pow2 (s / Real.log 2) := by
    show _ = (2 : ℝ) ^ (s / Real.log 2)
    rw [Real.rpow_def_of_pos two_pos, mul_div_cancel₀ _ (Real.log_pos one_lt_two).ne']
  rw [h, pow2_mul]
  congr 1
  ring

end Cert.Mla
-- ==== Proof.Spec.lean ====
/-
  The attention over real scores, which both programs compute: its scores from a head's own entries and the shared ones,
  and the sums over 128 padded entries that give them.
-/
module

public import proofs.«01_k».proof.Proof.Softmax

@[expose] public section

noncomputable section

namespace Cert.Mla

open Idealize.ShloMosaic

/-- The scale of the scores: one over the root of ninety-six. -/
def scale : ℝ := (Real.sqrt 96)⁻¹

/-- Ninety-six, as its pattern denotes it. -/
theorem bits_96 : Ideal.ofBits .f32 0x42C00000#32 = ((96 : ℝ) : EReal) := by
  simp [Ideal.ofBits, Ideal.ieee, -EReal.coe_mul]
  norm_num

theorem rsqrt_96 : Ideal.rsqrt ((96 : ℝ) : EReal) = (scale : EReal) := by
  show (if (96 : ℝ) < 0 then (⊥ : EReal) else if (96 : ℝ) = 0 then ⊤ else (((Real.sqrt 96)⁻¹ : ℝ) : EReal)) = _
  rw [if_neg (by norm_num), if_neg (by norm_num)]
  rfl

/-- Sixty-four entries, thirty-two more, and zeros. -/
def pad (a : Fin 64 → ℝ) (b : Fin 32 → ℝ) (d : Fin 128) : ℝ :=
  if h1 : d.val < 64 then a ⟨d.val, h1⟩ else if h2 : d.val - 64 < 32 then b ⟨d.val - 64, h2⟩ else 0

/-- The product of padded entries is that of the entries. -/
theorem sum_pad (a a' : Fin 64 → ℝ) (b b' : Fin 32 → ℝ) :
    ∑ d, pad a b d * pad a' b' d = (∑ d, a d * a' d) + ∑ d, b d * b' d := by
  have h := Fin.sum_univ_add (a := 64) (b := 64) fun d : Fin (64 + 64) => pad a b d * pad a' b' d
  have h' := Fin.sum_univ_add (a := 32) (b := 32) fun d : Fin (32 + 32) => pad a b (Fin.natAdd 64 d) * pad a' b' (Fin.natAdd 64 d)
  refine h.trans (congrArg₂ (· + ·) (Finset.sum_congr rfl fun d _ => ?_) ?_)
  · show pad a b (Fin.castAdd 64 d) * pad a' b' (Fin.castAdd 64 d) = _
    have hd : (Fin.castAdd 64 d : Fin 128).val < 64 := d.isLt
    unfold pad
    rw [dif_pos hd, dif_pos hd]
    rfl
  · have hz : (∑ d, b d * b' d) + ∑ _d : Fin 32, (0 : ℝ) = ∑ d, b d * b' d := by simp
    refine (h'.trans (congrArg₂ (· + ·) (Finset.sum_congr rfl fun d _ => ?_) (Finset.sum_congr rfl fun d _ => ?_))).trans hz
    · show pad a b (Fin.natAdd 64 (Fin.castAdd 32 d)) * pad a' b' (Fin.natAdd 64 (Fin.castAdd 32 d)) = _
      have h1 : ¬(Fin.natAdd 64 (Fin.castAdd 32 d)).val < 64 := by
        show ¬64 + d.val < 64
        omega
      have h2 : (Fin.natAdd 64 (Fin.castAdd 32 d)).val - 64 < 32 := by
        show 64 + d.val - 64 < 32
        omega
      have h3 : (⟨(Fin.natAdd 64 (Fin.castAdd 32 d)).val - 64, h2⟩ : Fin 32) = d := Fin.ext (by show 64 + d.val - 64 = d.val; omega)
      unfold pad
      rw [dif_neg h1, dif_neg h1, dif_pos h2, dif_pos h2, h3]
    · show pad a b (Fin.natAdd 64 (Fin.natAdd 32 d)) * pad a' b' (Fin.natAdd 64 (Fin.natAdd 32 d)) = _
      have h1 : ¬(Fin.natAdd 64 (Fin.natAdd 32 d)).val < 64 := by
        show ¬64 + (32 + d.val) < 64
        omega
      have h2 : ¬(Fin.natAdd 64 (Fin.natAdd 32 d)).val - 64 < 32 := by
        show ¬64 + (32 + d.val) - 64 < 32
        omega
      unfold pad
      rw [dif_neg h1, dif_neg h2, zero_mul]

/-- The queries and the keys, as real numbers: each head's own entries and the rotated ones, the keys' shared by the heads. -/
structure Operands where
  qn : Fin 2 → Fin 16384 → Fin 4 → Fin 64 → ℝ
  qr : Fin 2 → Fin 16384 → Fin 4 → Fin 32 → ℝ
  kn : Fin 2 → Fin 16384 → Fin 4 → Fin 64 → ℝ
  kr : Fin 2 → Fin 16384 → Fin 32 → ℝ

/-- The score of query `n` against key `j`, in batch `b` and head `h`. -/
def Operands.score (o : Operands) (b : Fin 2) (h : Fin 4) (n j : Fin 16384) : ℝ :=
  ((∑ d, o.qn b n h d * o.kn b j h d) + ∑ d, o.qr b n h d * o.kr b j d) * scale

/-- Reordering the keys does not change the attention. -/
theorem attend_equiv {ι κ : Type} [Fintype ι] [Fintype κ] (e : κ ≃ ι) (x : ι → ℝ) (v : ι → EReal) :
    attend (fun k => x (e k)) (fun k => v (e k)) = attend x v := by
  unfold attend
  rw [Equiv.sum_comp e fun j => Real.exp (x j)]
  exact Equiv.sum_comp e fun i => v i * ((Real.exp (x i) / ∑ j, Real.exp (x j) : ℝ) : EReal)

/-- Key `k` of tile `t`. -/
def keyAt (j : Fin 32 × Fin 512) : Fin 16384 := ⟨512 * j.1.val + j.2.val, by omega⟩

/-- The keys tile by tile are the keys. -/
theorem attend_tiles (x : Fin 16384 → ℝ) (v : Fin 16384 → EReal) : attend (fun j => x (keyAt j)) (fun j => v (keyAt j)) = attend x v := by
  have h : ∀ j, keyAt j = (finProdFinEquiv : Fin 32 × Fin 512 ≃ Fin (32 * 512)) j := fun j => Fin.ext (by
    show 512 * j.1.val + j.2.val = j.2.val + 512 * j.1.val
    omega)
  simp only [h]
  exact attend_equiv (finProdFinEquiv : Fin 32 × Fin 512 ≃ Fin (32 * 512)) x v

end Cert.Mla
-- ==== Proof.Layout.lean ====
/-
  What the call finds in its operands, entry by entry: the scaled queries, the keys and the values laid out by the host.
-/
module

public import proofs.«01_k».proof.Proof.Gen.KernelIdeal.Frame
public import proofs.«01_k».proof.Proof.Spec
public import Idealize.ShloMosaic.Lib.Pointwise
public import Idealize.ShloMosaic.Lib.Claim
public import Idealize.ShloMosaic.Lib.Pipeline.ValueKit

@[expose] public section

set_option maxRecDepth 16384

noncomputable section

namespace Cert.Mla.Ideal

open Idealize.ShloMosaic Idealize.ShloMosaic.TcCoe
open Cert.KernelIdeal Cert.KernelIdeal.Gen

/-! ## The host's terms -/

section Terms

variable {F : FTy → Type} [FloatOps F]

/-- Zeros, as many as pad a head's entries to 128. -/
def padding : FVec F S2x16384x4x32 .f32 := broadcastInDim S2x16384x4x32 ![] Facts₀.bcast_S_S2x16384x4x32 (constant S_ .f32 0x00000000#32)

/-- A head's entries: those of its own, those all heads' rotations share, and zeros. -/
def padded (x : FVec F S2x16384x4x64 .f32) (y : FVec F S2x16384x4x32 .f32) : FVec F S2x16384x4x128 .f32 :=
  concatenate S2x16384x4x128 3 [⟨S2x16384x4x64, x⟩, ⟨S2x16384x4x32, y⟩, ⟨S2x16384x4x32, padding⟩] Facts₀.concatenates_S2x16384x4x64_S2x16384x4x32_S2x16384x4x32_S2x16384x4x128_d3

/-- What the queries are multiplied by. -/
def scaling : FVec F S_ .f32 := Host.divf (Host.rsqrt (constant S_ .f32 0x42C00000#32)) (Host.log (constant S_ .f32 0x40000000#32))

/-- The queries laid out for the call. -/
def hostQueries (x : FVec F S2x16384x4x64 .f32) (y : FVec F S2x16384x4x32 .f32) : FVec F S2x32x512x512 .bf16 :=
  transpose S2x32x512x512 [0, 1, 3, 2]
    (shapeCast S2x32x512x512 (truncf .bf16 (mulf (padded x y) (broadcastInDim S2x16384x4x128 ![] Facts₀.bcast_S_S2x16384x4x128 scaling)) Facts₀.bitsLt_bf16_f32)
      Facts₀.shapeCasts_S2x16384x4x128_S2x32x512x512) Facts₀.transposes_S2x32x512x512_S2x32x512x512_0_1_3_2

/-- The keys laid out for the call. -/
def hostKeys (x : FVec F S2x16384x4x64 .f32) (y : FVec F S2x16384x32 .f32) : FVec F S2x16384x512 .bf16 :=
  shapeCast S2x16384x512
    (truncf .bf16 (padded x (broadcastInDim S2x16384x4x32 ![0, 1, 2, 3] Facts₀.bcast_S2x16384x1x32_S2x16384x4x32_0_1_2_3
      (broadcastInDim S2x16384x1x32 ![0, 1, 3] Facts₀.bcast_S2x16384x32_S2x16384x1x32_0_1_3 y))) Facts₀.bitsLt_bf16_f32)
    Facts₀.shapeCasts_S2x16384x4x128_S2x16384x512

/-- The values laid out for the call. -/
def hostValues (x : FVec F S2x16384x4x64 .f32) : FVec F S2x32x256x512 .bf16 :=
  transpose S2x32x256x512 [0, 1, 3, 2]
    (shapeCast S2x32x512x256 (truncf .bf16 x Facts₀.bitsLt_bf16_f32) Facts₀.shapeCasts_S2x16384x4x64_S2x32x512x256) Facts₀.transposes_S2x32x512x256_S2x32x256x512_0_1_3_2

variable (m : (ℓ : Loc nD τ sig) → Buf (Elt F) ℓ) (c : Dev nD)

set_option maxRecDepth 200000 in
set_option maxHeartbeats 4000000 in
/-- The values the call finds are the host's. -/
theorem V_values : V m c main_v17 = hostValues (m ((c : Thread nD τ).loc main_arg4)) := by
  show StableHlo.after hostOps0 _ _ = _
  after_results
  rfl

set_option maxRecDepth 200000 in
set_option maxHeartbeats 4000000 in
/-- The keys the call finds are the host's. -/
theorem V_keys : V m c main_v14 = hostKeys (m ((c : Thread nD τ).loc main_arg2)) (m ((c : Thread nD τ).loc main_arg3)) := by
  show StableHlo.after hostOps0 _ _ = _
  after_results
  rfl

set_option maxRecDepth 200000 in
set_option maxHeartbeats 4000000 in
/-- The queries the call finds are the host's. -/
theorem V_queries : V m c main_v12 = hostQueries (m ((c : Thread nD τ).loc main_arg0)) (m ((c : Thread nD τ).loc main_arg1)) := by
  show StableHlo.after hostOps0 _ _ = _
  after_results
  rfl

end Terms

/-! ## The host's terms at an index -/

theorem hostValues_apply (x : FVec Ideal S2x16384x4x64 .f32) (b : Fin 2) (t : Fin 32) (h : Fin 4) (d : Fin 64) (k : Fin 512) :
    hostValues x (ix4 b t ⟨64 * h.val + d.val, by omega⟩ k) = x (ix4 b ⟨512 * t.val + k.val, by omega⟩ h d) := by
  pointwise [hostValues]
  congr 2
  exact Fin.ext (by show t.val * 512 + k.val = 512 * t.val + k.val; omega)

theorem padded_apply (x : FVec Ideal S2x16384x4x64 .f32) (y : FVec Ideal S2x16384x4x32 .f32) (b : Fin 2) (n : Fin 16384) (h : Fin 4) (d : Fin 128) :
    padded x y (ix4 b n h d) = if h1 : d.val < 64 then x (ix4 b n h ⟨d.val, h1⟩) else if h2 : d.val - 64 < 32 then y (ix4 b n h ⟨d.val - 64, h2⟩) else 0 := by
  pointwise [padded, padding]

theorem hostKeys_apply (x : FVec Ideal S2x16384x4x64 .f32) (y : FVec Ideal S2x16384x32 .f32) (b : Fin 2) (n : Fin 16384) (h : Fin 4) (d : Fin 128) :
    hostKeys x y (ix3 b n ⟨128 * h.val + d.val, by omega⟩)
      = if h1 : d.val < 64 then x (ix4 b n h ⟨d.val, h1⟩) else if h2 : d.val - 64 < 32 then y (ix3 b n ⟨d.val - 64, h2⟩) else 0 := by
  pointwise [hostKeys, padded, padding]

theorem hostQueries_apply (x : FVec Ideal S2x16384x4x64 .f32) (y : FVec Ideal S2x16384x4x32 .f32) (b : Fin 2) (t : Fin 32) (h : Fin 4) (d : Fin 128) (r : Fin 512) :
    hostQueries x y (ix4 b t ⟨128 * h.val + d.val, by omega⟩ r)
      = (padded x y (ix4 b ⟨512 * t.val + r.val, by omega⟩ h d) : EReal) * ((scaling : FVec Ideal S_ .f32) ix0 : EReal) := by
  pointwise [hostQueries]
  congr 3
  exact Fin.ext (by show t.val * 512 + r.val = 512 * t.val + r.val; omega)

theorem scaling_apply : (scaling : FVec Ideal S_ .f32) ix0 = Ideal.div (Ideal.rsqrt (Ideal.ofBits .f32 0x42C00000#32)) (Ideal.log (Ideal.ofBits .f32 0x40000000#32)) := by
  pointwise [scaling]

/-- Two, as its pattern denotes it. -/
theorem bits_2 : Ideal.ofBits .f32 0x40000000#32 = ((2 : ℝ) : EReal) := by
  simp [Ideal.ofBits, Ideal.ieee, -EReal.coe_mul]
  norm_num

/-- The queries' multiplier is the scale over the logarithm of two. -/
theorem scaling_value : (scaling : FVec Ideal S_ .f32) ix0 = ((scale / Real.log 2 : ℝ) : EReal) := by
  rw [scaling_apply, bits_96, bits_2, rsqrt_96]
  have h : Ideal.log ((2 : ℝ) : EReal) = (Real.log 2 : EReal) := by
    show (if (2 : ℝ) ≤ 0 then (⊥ : EReal) else (Real.log 2 : EReal)) = _
    rw [if_neg (by norm_num)]
  rw [h, Ideal.div_coe (Real.log_pos one_lt_two).ne', ← EReal.coe_mul]
  congr 1
  ring

end Cert.Mla.Ideal
-- ==== Proof.Blocks.lean ====
/-
  The blocks a grid point reads, entry by entry, in the host's layout, and where its block of results lies.
-/
module

public import proofs.«01_k».proof.Proof.IdealRun
public import proofs.«01_k».proof.Proof.Layout

@[expose] public section

set_option maxRecDepth 16384

noncomputable section

namespace Cert.Mla.Ideal

open Idealize.ShloMosaic Idealize.ShloMosaic.TcCoe
open Cert.KernelIdeal Cert.KernelIdeal.Gen

/-- Where each window's block lies, by the point's coordinates: batch, pair of heads, block of queries. -/
theorem idx : ∀ t : Fin grid0.N, win0_0.index t = ![(grid0.coords t 0).val, (grid0.coords t 2).val, (grid0.coords t 1).val, 0]
    ∧ win0_1.index t = ![(grid0.coords t 0).val, 0, (grid0.coords t 1).val]
    ∧ win0_2.index t = ![(grid0.coords t 0).val, 0, (grid0.coords t 1).val, 0]
    ∧ win0_3.index t = ![(grid0.coords t 0).val, (grid0.coords t 2).val, (grid0.coords t 1).val] := by decide +kernel

/-- The blocks of results make up the array of results. -/
theorem covers : win0_3.Covers := by decide +kernel

section Reads

variable {c : Dev nD} (t : Fin cfg0.N)

theorem read_queries (X : Buf (Elt Ideal) ((c : Thread nD τ).loc main_v12)) (i : Fin 2) (e : Fin 256) (r : Fin 512) (j : S2x32x512x512.Idx)
    (h0 : (j 0).val = (grid0.coords t 0).val) (h1 : (j 1).val = 2 * (grid0.coords t 2).val + i.val)
    (h2 : (j 2).val = 256 * (grid0.coords t 1).val + e.val) (h3 : (j 3).val = r.val) :
    (((cfg0.win 0).blk t).view.read (Elt Ideal) X : Vec Ideal S1x2x256x512 .bf16) (ix4 0 i e r) = X j := by
  have hi := (idx t).1
  rw [View.read_apply]
  show X _ = X _
  congr 1
  funext a
  apply Fin.ext
  match a with
  | ⟨0, _⟩ => show win0_0.index t 0 * 1 + 1 * 0 = (j 0).val; rw [hi, h0]; show (grid0.coords t 0).val * 1 + 1 * 0 = _; omega
  | ⟨1, _⟩ => show win0_0.index t 1 * 2 + 1 * i.val = (j 1).val; rw [hi, h1]; show (grid0.coords t 2).val * 2 + 1 * i.val = _; omega
  | ⟨2, _⟩ => show win0_0.index t 2 * 256 + 1 * e.val = (j 2).val; rw [hi, h2]; show (grid0.coords t 1).val * 256 + 1 * e.val = _; omega
  | ⟨3, _⟩ => show win0_0.index t 3 * 512 + 1 * r.val = (j 3).val; rw [hi, h3]; show 0 * 512 + 1 * r.val = _; omega

theorem read_keys (X : Buf (Elt Ideal) ((c : Thread nD τ).loc main_v14)) (n : Fin 16384) (e : Fin 256) (j : S2x16384x512.Idx)
    (h0 : (j 0).val = (grid0.coords t 0).val) (h1 : (j 1).val = n.val) (h2 : (j 2).val = 256 * (grid0.coords t 1).val + e.val) :
    (((cfg0.win 1).blk t).view.read (Elt Ideal) X : Vec Ideal S1x16384x256 .bf16) (ix3 0 n e) = X j := by
  have hi := (idx t).2.1
  rw [View.read_apply]
  show X _ = X _
  congr 1
  funext a
  apply Fin.ext
  match a with
  | ⟨0, _⟩ => show win0_1.index t 0 * 1 + 1 * 0 = (j 0).val; rw [hi, h0]; show (grid0.coords t 0).val * 1 + 1 * 0 = _; omega
  | ⟨1, _⟩ => show win0_1.index t 1 * 16384 + 1 * n.val = (j 1).val; rw [hi, h1]; show 0 * 16384 + 1 * n.val = _; omega
  | ⟨2, _⟩ => show win0_1.index t 2 * 256 + 1 * e.val = (j 2).val; rw [hi, h2]; show (grid0.coords t 1).val * 256 + 1 * e.val = _; omega

theorem read_values (X : Buf (Elt Ideal) ((c : Thread nD τ).loc main_v17)) (s : Fin 32) (e : Fin 128) (k : Fin 512) (j : S2x32x256x512.Idx)
    (h0 : (j 0).val = (grid0.coords t 0).val) (h1 : (j 1).val = s.val) (h2 : (j 2).val = 128 * (grid0.coords t 1).val + e.val) (h3 : (j 3).val = k.val) :
    (((cfg0.win 2).blk t).view.read (Elt Ideal) X : Vec Ideal S1x32x128x512 .bf16) (ix4 0 s e k) = X j := by
  have hi := (idx t).2.2.1
  rw [View.read_apply]
  show X _ = X _
  congr 1
  funext a
  apply Fin.ext
  match a with
  | ⟨0, _⟩ => show win0_2.index t 0 * 1 + 1 * 0 = (j 0).val; rw [hi, h0]; show (grid0.coords t 0).val * 1 + 1 * 0 = _; omega
  | ⟨1, _⟩ => show win0_2.index t 1 * 32 + 1 * s.val = (j 1).val; rw [hi, h1]; show 0 * 32 + 1 * s.val = _; omega
  | ⟨2, _⟩ => show win0_2.index t 2 * 128 + 1 * e.val = (j 2).val; rw [hi, h2]; show (grid0.coords t 1).val * 128 + 1 * e.val = _; omega
  | ⟨3, _⟩ => show win0_2.index t 3 * 512 + 1 * k.val = (j 3).val; rw [hi, h3]; show 0 * 512 + 1 * k.val = _; omega

end Reads

end Cert.Mla.Ideal
-- ==== Proof.StepValue.lean ====
/-
  The values of a step at an index, floats read as extended reals: the scores, the exponentials, the accumulator and the
  quotient, entry by entry.
-/
module

public import proofs.«01_k».proof.Proof.IdealBody
public import proofs.«01_k».proof.Proof.Run
public import Idealize.ShloMosaic.Lib.Pointwise

@[expose] public section

set_option maxRecDepth 16384

noncomputable section

namespace Cert.Mla

open Idealize.ShloMosaic
open Cert.KernelIdeal

/-- A score: a key against a query, over the 128 entries of each. -/
theorem scores_apply (q : FVec Ideal S128x512 .bf16) (k : Vec Ideal S1x512x128 .bf16) (a r : Fin 512) :
    scores q k (ix2 a r) = ∑ d : Fin 128, k (ix3 0 a d) * q (ix2 d r) := by
  pointwise [scores]

/-- The largest score of a query over a tile. -/
theorem tileMax_apply (s : FVec Ideal S512x512 .f32) (r : Fin 512) :
    tileMax s (ix2 0 r) = Finset.univ.fold max (Ideal.ofBits .f32 0xFF800000#32) fun k : Fin 512 => s (ix2 k r) := by
  pointwise [tileMax]

/-- Every copy of the row of references is the row. -/
theorem refRows_apply (m c : FVec Ideal S1x512 .f32) (i : Fin 8) (r : Fin 512) :
    refRows m c (ix2 i r) = m (ix2 0 r) - c (ix2 0 r) := by
  pointwise [refRows]

/-- An exponential against its query's reference. -/
theorem expRows_apply (g : FVec Ideal S8x512 .f32) (s : Vec Ideal S64x512 .f32) (a : Fin 64) (r : Fin 512) :
    expRows g s (ix2 a r) = Ideal.exp2 (s (ix2 a r) - g (ix2 ⟨a.val % 8, Nat.mod_lt _ (by decide)⟩ r)) := by
  pointwise [expRows]
  rfl

/-- The values with ones under them. -/
theorem augmented_apply (v : Vec Ideal S1x1x64x512 .bf16) (d : Fin 80) (k : Fin 512) :
    augmented v (ix2 d k) = if h : d.val < 64 then v (ix4 0 0 ⟨d.val, h⟩ k) else 1 := by
  pointwise [augmented, ones]

/-- The accumulator after a tile. -/
theorem accumulated_apply (v : Vec Ideal S1x1x64x512 .bf16) (al : Vec Ideal S1x512 .f32) (acc : Vec Ideal S80x512 .f32) (p : Vec Ideal S512x512 .bf16) (d : Fin 80) (r : Fin 512) :
    accumulated v al acc p (ix2 d r) = al (ix2 0 r) * acc (ix2 d r) + ∑ k : Fin 512, augmented v (ix2 d k) * p (ix2 k r) := by
  pointwise [accumulated]

/-- A result: an accumulated value over the accumulated sum. -/
theorem quotient_apply (a : Vec Ideal S80x512 .f32) (d : Fin 64) (r : Fin 512) :
    quotient a (ix2 d r) = Ideal.div (a (ix2 ⟨d.val, by omega⟩ r)) (a (ix2 ⟨64, by decide⟩ r)) := by
  pointwise [quotient]

/-- A tile of results: the first head's 64 entries of a query, then the second's. -/
theorem outTile_apply (a b : FVec Ideal S64x512 .f32) (r : Fin 512) (d : Fin 128) :
    outTile a b (ix3 0 r d) = if h : d.val < 64 then a (ix2 ⟨d.val, h⟩ r) else b (ix2 ⟨d.val - 64, by omega⟩ r) := by
  pointwise [outTile]

theorem zeroRow_apply (r : Fin 512) : (zeroRow : FVec Ideal S1x512 .f32) (ix2 0 r) = 0 := by
  pointwise [zeroRow]

theorem zeroIdeal_apply (x : FVec Ideal S8x512 .f32) (j : S8x512.Idx) : zeroIdeal x j = 0 := by
  unfold zeroIdeal bitcastToFloat constantI
  exact Ideal.ofBits_zero_f32

/-- A step's references are the row's. -/
theorem stepRef_apply (s : FVec Ideal S512x512 .f32) (m c : FVec Ideal S1x512 .f32) (i i' : Fin 8) (r : Fin 512) :
    stepRef (F := Ideal) zeroIdeal s m c i (ix2 i' r) = m (ix2 0 r) - c (ix2 0 r) := by
  have h : stepRef (F := Ideal) zeroIdeal s m c i (ix2 i' r) = refRows m c (ix2 i' r) + 0 := by
    show refRows m c (ix2 i' r) + zeroIdeal _ _ = _
    rw [zeroIdeal_apply]
  rw [h, refRows_apply, add_zero]

/-- The exponentials of a tile, against references that agree with one row. -/
theorem probs_apply (ref : Fin 8 → FVec Ideal S8x512 .f32) (s : Vec Ideal S512x512 .f32) (g : Fin 512 → EReal)
    (hg : ∀ i i' r, ref i (ix2 i' r) = g r) (a r : Fin 512) : probs ref s (ix2 a r) = Ideal.exp2 (s (ix2 a r) - g r) := by
  have h0 : (ix2 a r : S512x512.Idx) = ix2 a r := rfl
  have hy : (Rect.unitLocal (s := S512x512) (off := ![64 * (chunkOf (ix2 a r)).val, 0]) (size := S64x512.size) (ix2 a r) (chunkOf_in (ix2 a r)))
      = ix2 (n0 := 64) (n1 := 512) ⟨a.val % 64, Nat.mod_lt _ (by decide)⟩ r := by
    funext b
    apply Fin.ext
    fin_cases b
    · show a.val - 64 * (a.val / 64) = a.val % 64
      omega
    · show r.val - 0 = r.val
      omega
  unfold probs
  rw [hy, expRows_apply, hg]
  congr 2
  show s _ = _
  congr 1
  funext b
  apply Fin.ext
  fin_cases b
  · show 64 * (a.val / 64) + 1 * (a.val % 64) = a.val
    omega
  · show 0 + 1 * r.val = r.val
    omega

/-! ## Tiles of the blocks at an index -/

theorem keyTile_apply (K : Vec Ideal S1x16384x256 .bf16) (h : Fin 2) (t : Fin 32) (a : Fin 512) (d : Fin 128) :
    keyTile K h t.val (ix3 0 a d) = K (ix3 0 ⟨512 * t.val + a.val, by omega⟩ ⟨128 * h.val + d.val, by omega⟩) := by
  show K _ = K _
  congr 1
  funext b
  apply Fin.ext
  have := t.isLt
  fin_cases b
  · rfl
  · show 512 * (t.val % 32) + 1 * a.val = 512 * t.val + a.val
    omega
  · show 128 * h.val + 1 * d.val = 128 * h.val + d.val
    omega

theorem valTile_apply (V : Vec Ideal S1x32x128x512 .bf16) (h : Fin 2) (t : Fin 32) (d : Fin 64) (k : Fin 512) :
    valTile V h t.val (ix4 0 0 d k) = V (ix4 0 t ⟨64 * h.val + d.val, by omega⟩ k) := by
  show V _ = V _
  congr 1
  funext b
  apply Fin.ext
  have := t.isLt
  fin_cases b
  · rfl
  · show t.val % 32 + 1 * 0 = t.val
    omega
  · show 64 * h.val + 1 * d.val = 64 * h.val + d.val
    omega
  · show 0 + 1 * k.val = k.val
    omega

theorem squeezed_apply (w : Vec Ideal S1x1x128x512 .bf16) (d : Fin 128) (r : Fin 512) :
    shapeCast S128x512 w Facts₀.shapeCasts_S1x1x128x512_S128x512 (ix2 d r) = w (ix4 0 0 d r) := by
  pointwise

theorem queryTile_apply (X : Vec Ideal S1x2x256x512 .bf16) (i h : Fin 2) (d : Fin 128) (r : Fin 512) :
    queryTile X i h (ix2 d r) = X (ix4 0 i ⟨128 * h.val + d.val, by omega⟩ r) := by
  have e : queryTile X i h (ix2 d r) = (VecWindow.window X (queryOff i h) S1x1x128x512.size (queryInb i h) : Vec Ideal S1x1x128x512 .bf16) (ix4 0 0 d r) :=
    squeezed_apply _ d r
  rw [e]
  show X _ = X _
  congr 1
  funext b
  apply Fin.ext
  fin_cases b
  · rfl
  · show i.val + 1 * 0 = i.val
    omega
  · show 128 * h.val + 1 * d.val = 128 * h.val + d.val
    omega
  · show 0 + 1 * r.val = r.val
    omega

/-- The two tiles of results one above the other, at an index. -/
theorem stacked_apply (A B : FVec Ideal S1x512x128 .bf16) (i : Fin 2) (r : Fin 512) (d : Fin 128) :
    stacked A B (ix3 0 ⟨512 * i.val + r.val, by omega⟩ d) = if i.val = 0 then A (ix3 0 r d) else B (ix3 0 r d) := by
  unfold stacked
  split
  next h =>
    have h1 := (h 1).1
    have h1 : 512 ≤ 512 * i.val + r.val := h1
    rw [if_neg (by omega)]
    congr 1
    funext b
    apply Fin.ext
    fin_cases b
    · rfl
    · show 512 * i.val + r.val - 512 = r.val
      omega
    · rfl
  next h =>
    have hi : i.val = 0 := by
      by_contra hc
      refine h fun a => ?_
      fin_cases a
      · exact ⟨Nat.zero_le _, Nat.zero_lt_one⟩
      · show 512 ≤ 512 * i.val + r.val ∧ 512 * i.val + r.val < 512 + 512
        omega
      · exact ⟨Nat.zero_le _, lt_of_lt_of_eq d.isLt (Nat.zero_add 128).symm⟩
    rw [if_pos hi]
    congr 1
    funext b
    apply Fin.ext
    fin_cases b
    · rfl
    · show 512 * i.val + r.val - 0 = r.val
      omega
    · rfl

end Cert.Mla
-- ==== Proof.StreamValue.lean ====
/-
  A stream's value: whatever the maxima it takes its exponentials against, its accumulator ends as the values weighed by
  powers of two, and its result is the attention of each query.
-/
module

public import proofs.«01_k».proof.Proof.StepValue
public import proofs.«01_k».proof.Proof.Softmax

@[expose] public section

set_option maxRecDepth 16384

noncomputable section

namespace Cert.Mla

open Idealize.ShloMosaic
open Cert.KernelIdeal

/-- The pattern of minus infinity. -/
theorem bits_bot : Ideal.ofBits .f32 0xFF800000#32 = ⊥ := by
  simp [Ideal.ofBits, Ideal.ieee]

/-- The pattern the maxima start from denotes a real number. -/
theorem bits_start : ∃ μ : ℝ, Ideal.ofBits .f32 0xF149F2CA#32 = (μ : EReal) := by
  simp only [Ideal.ofBits, Ideal.ieee]
  norm_num
  exact ⟨_, rfl⟩

/-- The largest real score of a tile is real. -/
theorem tileMax_real (s : FVec Ideal S512x512 .f32) (x : Fin 512 → ℝ) (r : Fin 512) (h : ∀ k, s (ix2 k r) = (x k : EReal)) :
    ∃ M : ℝ, tileMax s (ix2 0 r) = (M : EReal) := by
  rw [tileMax_apply, bits_bot]
  simp only [h]
  exact fold_max_real x

/-- The values of tile `t` with ones under them, as the rows of the accumulator weigh them. -/
def rowsOf (V : Vec Ideal S1x32x128x512 .bf16) (h : Fin 2) (d : Fin 80) (t : ℕ) (k : Fin 512) : EReal := augmented (valTile V h t) (ix2 d k)

/-- What is known of column `r` of a stream's state after `n` steps: the scores of tile `n`, real maxima, and that the next
    accumulation gives the partial sum of the first `n` tiles. -/
structure ColAt (V : Vec Ideal S1x32x128x512 .bf16) (h : Fin 2) (x : ℕ → Fin 512 → ℝ) (n : ℕ) (r : Fin 512) (σ : St Ideal) (μ M : ℝ) : Prop where
  s : ∀ k, σ.s (ix2 k r) = (x n k : EReal)
  m : σ.m (ix2 0 r) = (μ : EReal)
  cm : σ.cm (ix2 0 r) = (M : EReal)
  c : σ.c (ix2 0 r) = 0
  acc : ∀ d, accumulated (valTile V h (n - 1)) σ.al σ.acc σ.p (ix2 d r) = partSum x (rowsOf V h d) n μ

variable {q : FVec Ideal S128x512 .bf16} {K : Vec Ideal S1x16384x256 .bf16} {V : Vec Ideal S1x32x128x512 .bf16} {h : Fin 2} {x : ℕ → Fin 512 → ℝ}

/-- The new maximum is real. -/
theorem ColAt.mn {n : ℕ} {r : Fin 512} {σ : St Ideal} {μ M : ℝ} (H : ColAt V h x n r σ μ M) : σ.mn (ix2 0 r) = ((max μ M : ℝ) : EReal) := by
  show max (σ.m (ix2 0 r)) (σ.cm (ix2 0 r) + σ.c (ix2 0 r)) = _
  rw [H.m, H.cm, H.c, add_zero]
  exact (EReal.coe_strictMono.monotone.map_max).symm

/-- The accumulation of tile `n`, the exponentials taken against the new maximum. -/
theorem ColAt.accumulate {n : ℕ} {r : Fin 512} {σ : St Ideal} {μ M : ℝ} (H : ColAt V h x n r σ μ M) (v : Vec Ideal S1x1x64x512 .bf16) (hv : v = valTile V h n)
    (al : FVec Ideal S1x512 .f32) (hal : al = exp2 (subf σ.m σ.mn)) (acc : Vec Ideal S80x512 .f32) (hacc : acc = accumulated (valTile V h (n - 1)) σ.al σ.acc σ.p)
    (p : Vec Ideal S512x512 .bf16) (hp : ∀ k, p (ix2 k r) = Ideal.exp2 (σ.s (ix2 k r) - (σ.mn (ix2 0 r) - σ.c (ix2 0 r)))) (d : Fin 80) :
    accumulated v al acc p (ix2 d r) = partSum x (rowsOf V h d) (n + 1) (max μ M) := by
  subst hv hal hacc
  rw [accumulated_apply, H.acc d]
  have h1 : (exp2 (F := Ideal) (subf (F := Ideal) (φ := .f32) σ.m σ.mn) : FVec Ideal S1x512 .f32) (ix2 0 r) = (pow2 (μ - max μ M) : EReal) := by
    show Ideal.exp2 (σ.m (ix2 0 r) - σ.mn (ix2 0 r)) = _
    rw [H.m, H.mn, exp2_sub]
  rw [h1, ← partSum_step]
  congr 1
  refine Finset.sum_congr rfl fun k _ => ?_
  rw [hp, H.s, H.mn, H.c, sub_zero, exp2_sub]
  rfl

/-- The accumulator starts at zero, and so do the probabilities. -/
theorem first_acc (q : FVec Ideal S128x512 .bf16) (kt : Vec Ideal S1x512x128 .bf16) (d : Fin 80) (r : Fin 512) : (St.first q kt).acc (ix2 d r) = 0 := by
  pointwise [St.first]

theorem first_p (q : FVec Ideal S128x512 .bf16) (kt : Vec Ideal S1x512x128 .bf16) (k r : Fin 512) : (St.first q kt).p (ix2 k r) = 0 := by
  pointwise [St.first]

/-- The parts of a state given by its parts. -/
theorem mk_parts {F : FTy → Type} (s : Vec F S512x512 .f32) (p : Vec F S512x512 .bf16) (acc : Vec F S80x512 .f32) (al m cm c : Vec F S1x512 .f32) :
    (St.mk s p acc al m cm c).s = s ∧ (St.mk s p acc al m cm c).m = m ∧ (St.mk s p acc al m cm c).cm = cm ∧ (St.mk s p acc al m cm c).c = c
      ∧ (St.mk s p acc al m cm c).p = p ∧ (St.mk s p acc al m cm c).acc = acc ∧ (St.mk s p acc al m cm c).al = al :=
  ⟨rfl, rfl, rfl, rfl, rfl, rfl, rfl⟩

/-- The parts of a state at the opening and after a step, one by one. -/
theorem first_parts (q : FVec Ideal S128x512 .bf16) (kt : Vec Ideal S1x512x128 .bf16) :
    (St.first q kt).s = scores q kt ∧ (St.first q kt).m = broadcast S1x512 (Scalar.ofBits (F := Ideal) .f32 0xF149F2CA#32)
      ∧ (St.first q kt).cm = tileMax (F := Ideal) (scores (F := Ideal) q kt) ∧ (St.first q kt).c = zeroRow (F := Ideal) := by
  unfold St.first
  exact ⟨(mk_parts _ _ _ _ _ _ _).1, (mk_parts _ _ _ _ _ _ _).2.1, (mk_parts _ _ _ _ _ _ _).2.2.1, (mk_parts _ _ _ _ _ _ _).2.2.2.1⟩

theorem next_parts (q : FVec Ideal S128x512 .bf16) (kt : Vec Ideal S1x512x128 .bf16) (vt : Vec Ideal S1x1x64x512 .bf16) (σ : St Ideal) :
    (St.next zeroIdeal q kt vt σ).s = scores q kt ∧ (St.next zeroIdeal q kt vt σ).m = σ.mn ∧ (St.next zeroIdeal q kt vt σ).cm = tileMax (F := Ideal) (scores (F := Ideal) q kt)
      ∧ (St.next zeroIdeal q kt vt σ).c = zeroRow (F := Ideal) ∧ (St.next zeroIdeal q kt vt σ).p = probs (stepRef zeroIdeal (scores q kt) σ.mn σ.c) σ.s
      ∧ (St.next zeroIdeal q kt vt σ).acc = accumulated vt σ.al σ.acc σ.p ∧ (St.next zeroIdeal q kt vt σ).al = exp2 (F := Ideal) (subf (F := Ideal) (φ := .f32) σ.m σ.mn) := by
  unfold St.next
  exact mk_parts _ _ _ _ _ _ _

/-- Column `r` at the opening. -/
theorem first_col (r : Fin 512) (hs : ∀ k, scores q (keyTile K h 0) (ix2 k r) = (x 0 k : EReal)) :
    ∃ μ M : ℝ, ColAt V h x 0 r (St.first q (keyTile K h 0)) μ M := by
  obtain ⟨μ, hμ⟩ := bits_start
  obtain ⟨M, hM⟩ := tileMax_real (scores q (keyTile K h 0)) (x 0) r hs
  obtain ⟨e1, e2, e3, e4⟩ := first_parts q (keyTile K h 0)
  refine ⟨μ, M, ?_, ?_, ?_, ?_, fun d => ?_⟩
  · rw [e1]
    exact hs
  · rw [e2]
    exact hμ
  · rw [e3]
    exact hM
  · rw [e4]
    exact zeroRow_apply r
  rw [accumulated_apply, first_acc, mul_zero, zero_add]
  simp only [first_p, mul_zero, Finset.sum_const_zero]
  rfl

/-- Column `r` after one more step. -/
theorem next_col {n : ℕ} (r : Fin 512) {σ : St Ideal} {μ M : ℝ} (H : ColAt V h x n r σ μ M)
    (hs : ∀ k, scores q (keyTile K h (n + 1)) (ix2 k r) = (x (n + 1) k : EReal)) :
    ∃ μ' M' : ℝ, ColAt V h x (n + 1) r (St.next zeroIdeal q (keyTile K h (n + 1)) (valTile V h (n - 1)) σ) μ' M' := by
  obtain ⟨M', hM'⟩ := tileMax_real (scores q (keyTile K h (n + 1))) (x (n + 1)) r hs
  obtain ⟨e1, e2, e3, e4, e5, e6, e7⟩ := next_parts q (keyTile K h (n + 1)) (valTile V h (n - 1)) σ
  refine ⟨max μ M, M', ?_, ?_, ?_, ?_, fun d => ?_⟩
  · rw [e1]
    exact hs
  · rw [e2]
    exact H.mn
  · rw [e3]
    exact hM'
  · rw [e4]
    exact zeroRow_apply r
  rw [e5, e6, e7, Nat.add_sub_cancel]
  refine H.accumulate _ rfl _ rfl _ rfl _ (fun k => ?_) d
  exact probs_apply _ _ (fun r => σ.mn (ix2 0 r) - σ.c (ix2 0 r)) (fun i i' r => stepRef_apply _ _ _ _ _ _) k r

/-- The state after `n` steps, column by column. -/
theorem state_col (r : Fin 512) (hx : ∀ t < 32, ∀ k, scores q (keyTile K h t) (ix2 k r) = (x t k : EReal)) :
    ∀ n < 32, ∃ μ M : ℝ, ColAt V h x n r (state zeroIdeal q K V h n) μ M := by
  intro n
  induction n with
  | zero => exact fun hn => first_col r (hx 0 hn)
  | succ n ih =>
    intro hn
    obtain ⟨μ, M, H⟩ := ih (by omega)
    exact next_col r H (hx (n + 1) hn)

/-- The accumulator at the end: every tile's values, weighed against one real number. -/
theorem finalAcc_col (r : Fin 512) (hx : ∀ t < 32, ∀ k, scores q (keyTile K h t) (ix2 k r) = (x t k : EReal)) :
    ∃ μ : ℝ, ∀ d, finalAcc zeroIdeal q K V h (ix2 d r) = partSum x (rowsOf V h d) 32 μ := by
  obtain ⟨μ, M, H⟩ := state_col (V := V) r hx 31 (by decide)
  refine ⟨max μ M, fun d => ?_⟩
  unfold finalAcc St.last
  refine H.accumulate _ rfl _ rfl _ rfl _ (fun k => ?_) d
  exact probs_apply _ _ (fun r => (state zeroIdeal q K V h 31).mn (ix2 0 r) - (state zeroIdeal q K V h 31).c (ix2 0 r)) (fun i i' r => refRows_apply _ _ _ _) k r

/-- A sum over the tiles, as one over pairs of a tile and a key. -/
theorem partSum_pairs (x : ℕ → Fin 512 → ℝ) (v : ℕ → Fin 512 → EReal) (μ : ℝ) :
    partSum x v 32 μ = ∑ i : Fin 32 × Fin 512, v i.1.val i.2 * (pow2 (x i.1.val i.2 - μ) : EReal) := by
  rw [Fintype.sum_prod_type]
  exact Finset.sum_range fun t => tileSum (x t) (v t) μ

/-- A stream's result: the attention of each query, its scores being `s / log 2`. -/
theorem streamOut_apply {X : Vec Ideal S1x2x256x512 .bf16} {i : Fin 2} (s : Fin 32 × Fin 512 → ℝ) (r : Fin 512)
    (hx : ∀ t : Fin 32, ∀ k, scores (queryTile X i h) (keyTile K h t.val) (ix2 k r) = ((s (t, k) / Real.log 2 : ℝ) : EReal)) (d : Fin 64) :
    streamOut zeroIdeal X K V i h (ix2 d r) = attend s fun j => valTile V h j.1.val (ix4 0 0 d j.2) := by
  obtain ⟨μ, hμ⟩ := finalAcc_col (q := queryTile X i h) (K := K) (V := V) (h := h)
    (x := fun t k => if ht : t < 32 then s (⟨t, ht⟩, k) / Real.log 2 else 0) r
    (fun t ht k => by rw [dif_pos ht]; exact hx ⟨t, ht⟩ k)
  unfold streamOut
  rw [quotient_apply, hμ, hμ, partSum_pairs, partSum_pairs]
  have hd : ∀ j : Fin 32 × Fin 512, rowsOf V h ⟨d.val, by omega⟩ j.1.val j.2 = valTile V h j.1.val (ix4 0 0 d j.2) := fun j => by
    unfold rowsOf
    rw [augmented_apply, dif_pos d.isLt]
  have h1 : ∀ j : Fin 32 × Fin 512, rowsOf V h ⟨64, by decide⟩ j.1.val j.2 = 1 := fun j => by
    unfold rowsOf
    rw [augmented_apply, dif_neg (by decide)]
  simp only [hd, h1, one_mul, Fin.is_lt, dite_true, Fin.eta, Prod.mk.eta]
  exact attend_of_scaled s _ _ (pow2_pos (-μ)) fun j => pow2_eq_exp _ _

end Cert.Mla
-- ==== Proof.BlockValue.lean ====
/-
  What a grid point leaves: the attention of its queries, for its two heads, from blocks of real queries and keys.
-/
module

public import proofs.«01_k».proof.Proof.StreamValue
public import proofs.«01_k».proof.Proof.Spec

@[expose] public section

set_option maxRecDepth 16384

noncomputable section

namespace Cert.Mla

open Idealize.ShloMosaic Idealize.ShloMosaic.TcCoe
open Cert.KernelIdeal Cert.KernelIdeal.Gen

/-- Head `h` of pair `p`. -/
abbrev headAt (p h : Fin 2) : Fin 4 := ⟨2 * p.val + h.val, by omega⟩

/-- Query `r` of half `i` of block `I`. -/
abbrev queryAt (I : Fin 16) (i : Fin 2) (r : Fin 512) : Fin 16384 := ⟨512 * (2 * I.val + i.val) + r.val, by omega⟩

section Point

variable (o : Operands) (v : FVec Ideal S2x16384x4x64 .f32) (b p : Fin 2) (I : Fin 16)
variable {X : Vec Ideal S1x2x256x512 .bf16} {K : Vec Ideal S1x16384x256 .bf16} {V : Vec Ideal S1x32x128x512 .bf16}

/-- A stream's result is the attention of its queries for its head. -/
theorem stream_value
    (hX : ∀ (i h : Fin 2) (d : Fin 128) (r : Fin 512), X (ix4 0 i ⟨128 * h.val + d.val, by omega⟩ r)
      = ((pad (o.qn b (queryAt I i r) (headAt p h)) (o.qr b (queryAt I i r) (headAt p h)) d * (scale / Real.log 2) : ℝ) : EReal))
    (hK : ∀ (n : Fin 16384) (h : Fin 2) (d : Fin 128), K (ix3 0 n ⟨128 * h.val + d.val, by omega⟩) = ((pad (o.kn b n (headAt p h)) (o.kr b n) d : ℝ) : EReal))
    (hV : ∀ (t : Fin 32) (h : Fin 2) (d : Fin 64) (k : Fin 512), V (ix4 0 t ⟨64 * h.val + d.val, by omega⟩ k) = v (ix4 b (keyAt (t, k)) (headAt p h) d))
    (i h : Fin 2) (r : Fin 512) (d : Fin 64) :
    streamOut zeroIdeal X K V i h (ix2 d r) = attend (o.score b (headAt p h) (queryAt I i r)) fun j => v (ix4 b j (headAt p h) d) := by
  refine (streamOut_apply (fun j => o.score b (headAt p h) (queryAt I i r) (keyAt j)) r (fun t k => ?_) d).trans ?_
  · rw [scores_apply]
    have hterm : ∀ e : Fin 128, (keyTile K h t.val (ix3 0 k e) : EReal) * (queryTile X i h (ix2 e r) : EReal)
        = ((pad (o.kn b (keyAt (t, k)) (headAt p h)) (o.kr b (keyAt (t, k))) e
          * (pad (o.qn b (queryAt I i r) (headAt p h)) (o.qr b (queryAt I i r) (headAt p h)) e * (scale / Real.log 2)) : ℝ) : EReal) := fun e => by
      rw [keyTile_apply, queryTile_apply, hX]
      exact (congrArg (fun z : EReal => z * _) (hK (keyAt (t, k)) h e)).trans (EReal.coe_mul _ _).symm
    rw [Finset.sum_congr rfl fun e _ => hterm e, coe_sum_real]
    congr 1
    have hs := sum_pad (o.qn b (queryAt I i r) (headAt p h)) (o.kn b (keyAt (t, k)) (headAt p h)) (o.qr b (queryAt I i r) (headAt p h)) (o.kr b (keyAt (t, k)))
    unfold Operands.score
    rw [← hs, mul_div_assoc, Finset.sum_mul]
    exact Finset.sum_congr rfl fun e _ => by ring
  · rw [← attend_tiles (o.score b (headAt p h) (queryAt I i r)) fun j => v (ix4 b j (headAt p h) d)]
    congr 1
    funext j
    rw [valTile_apply]
    exact hV _ _ _ _

/-- The block of results is the attention of the point's queries for its two heads. -/
theorem block_value
    (hX : ∀ (i h : Fin 2) (d : Fin 128) (r : Fin 512), X (ix4 0 i ⟨128 * h.val + d.val, by omega⟩ r)
      = ((pad (o.qn b (queryAt I i r) (headAt p h)) (o.qr b (queryAt I i r) (headAt p h)) d * (scale / Real.log 2) : ℝ) : EReal))
    (hK : ∀ (n : Fin 16384) (h : Fin 2) (d : Fin 128), K (ix3 0 n ⟨128 * h.val + d.val, by omega⟩) = ((pad (o.kn b n (headAt p h)) (o.kr b n) d : ℝ) : EReal))
    (hV : ∀ (t : Fin 32) (h : Fin 2) (d : Fin 64) (k : Fin 512), V (ix4 0 t ⟨64 * h.val + d.val, by omega⟩ k) = v (ix4 b (keyAt (t, k)) (headAt p h) d))
    (R : Fin 1024) (E : Fin 128) (n : Fin 16384) (H : Fin 4) (d : Fin 64)
    (hn : n.val = 1024 * I.val + R.val) (hE : 64 * H.val + d.val = 128 * p.val + E.val) :
    outBlock zeroIdeal X K V (ix3 0 R E) = attend (o.score b H n) fun j => v (ix4 b j H d) := by
  obtain ⟨i, r, hR⟩ : ∃ (i : Fin 2) (r : Fin 512), R = ⟨512 * i.val + r.val, by omega⟩ :=
    ⟨⟨R.val / 512, by omega⟩, ⟨R.val % 512, by omega⟩, Fin.ext (by show R.val = 512 * (R.val / 512) + R.val % 512; omega)⟩
  have hn' : n = queryAt I i r := Fin.ext (by
    have : R.val = 512 * i.val + r.val := congrArg Fin.val hR
    show n.val = 512 * (2 * I.val + i.val) + r.val
    omega)
  have hout : outBlock zeroIdeal X K V (ix3 0 R E) = outTile (streamOut zeroIdeal X K V i 0) (streamOut zeroIdeal X K V i 1) (ix3 0 r E) := by
    rw [hR]
    unfold outBlock
    rw [stacked_apply]
    match i with
    | ⟨0, _⟩ => exact if_pos rfl
    | ⟨1, _⟩ => exact if_neg one_ne_zero
  rw [hout, outTile_apply, hn']
  by_cases hd : E.val < 64
  · rw [dif_pos hd]
    have hH : H = headAt p 0 := Fin.ext (by show H.val = 2 * p.val + 0; omega)
    have hD : d = ⟨E.val, hd⟩ := Fin.ext (by show d.val = E.val; omega)
    rw [hH, hD]
    exact stream_value o v b p I hX hK hV i 0 r _
  · rw [dif_neg hd]
    have hH : H = headAt p 1 := Fin.ext (by show H.val = 2 * p.val + 1; omega)
    have hD : d = ⟨E.val - 64, by omega⟩ := Fin.ext (by show d.val = E.val - 64; omega)
    rw [hH, hD]
    exact stream_value o v b p I hX hK hV i 1 r _

end Point

end Cert.Mla
-- ==== Proof.PointValue.lean ====
/-
  What each grid point of the call leaves, in terms of the arguments.
-/
module

public import proofs.«01_k».proof.Proof.Blocks
public import proofs.«01_k».proof.Proof.BlockValue

@[expose] public section

set_option maxRecDepth 16384

noncomputable section

namespace Cert.Mla.Ideal

open Idealize.ShloMosaic Idealize.ShloMosaic.TcCoe
open Cert.KernelIdeal Cert.KernelIdeal.Gen

variable (m : (ℓ : Loc nD τ sig) → Buf (Elt Ideal) ℓ) (c : Dev nD)

/-- An input's block, of whatever array the call finds. -/
theorem block_queries (t : Fin cfg0.N) (Y : Buf (Elt Ideal) ((c : Thread nD τ).loc main_v12)) (h : V m c main_v12 = Y) :
    iblk m c 0 t = ((cfg0.win 0).blk t).view.read (Elt Ideal) Y := by
  subst h
  rfl
theorem block_keys (t : Fin cfg0.N) (Y : Buf (Elt Ideal) ((c : Thread nD τ).loc main_v14)) (h : V m c main_v14 = Y) :
    iblk m c 1 t = ((cfg0.win 1).blk t).view.read (Elt Ideal) Y := by
  subst h
  rfl
theorem block_values (t : Fin cfg0.N) (Y : Buf (Elt Ideal) ((c : Thread nD τ).loc main_v17)) (h : V m c main_v17 = Y) :
    iblk m c 2 t = ((cfg0.win 2).blk t).view.read (Elt Ideal) Y := by
  subst h
  rfl

/-- The grid's extents. -/
theorem coords_lt : ∀ t : Fin grid0.N, (grid0.coords t 0).val < 2 ∧ (grid0.coords t 1).val < 2 ∧ (grid0.coords t 2).val < 16 := by decide +kernel

variable {m c}

section Point

variable (o : Operands) (qn : FVec Ideal S2x16384x4x64 .f32) (qr : FVec Ideal S2x16384x4x32 .f32) (kn : FVec Ideal S2x16384x4x64 .f32) (kr : FVec Ideal S2x16384x32 .f32) (v : FVec Ideal S2x16384x4x64 .f32)

/-- Padded real entries are real. -/
theorem padded_real (hqn : ∀ b n h d, qn (ix4 b n h d) = (o.qn b n h d : EReal)) (hqr : ∀ b n h d, qr (ix4 b n h d) = (o.qr b n h d : EReal))
    (b : Fin 2) (n : Fin 16384) (h : Fin 4) (d : Fin 128) : padded qn qr (ix4 b n h d) = ((pad (o.qn b n h) (o.qr b n h) d : ℝ) : EReal) := by
  rw [padded_apply]
  unfold pad
  split
  · exact hqn _ _ _ _
  · split
    · exact hqr _ _ _ _
    · exact EReal.coe_zero.symm

theorem hostKeys_real (hkn : ∀ b n h d, kn (ix4 b n h d) = (o.kn b n h d : EReal)) (hkr : ∀ b n d, kr (ix3 b n d) = (o.kr b n d : EReal))
    (b : Fin 2) (n : Fin 16384) (h : Fin 4) (d : Fin 128) : hostKeys kn kr (ix3 b n ⟨128 * h.val + d.val, by omega⟩) = ((pad (o.kn b n h) (o.kr b n) d : ℝ) : EReal) := by
  rw [hostKeys_apply]
  unfold pad
  split
  · exact hkn _ _ _ _
  · split
    · exact hkr _ _ _
    · exact EReal.coe_zero.symm

theorem hostQueries_real (hqn : ∀ b n h d, qn (ix4 b n h d) = (o.qn b n h d : EReal)) (hqr : ∀ b n h d, qr (ix4 b n h d) = (o.qr b n h d : EReal))
    (b : Fin 2) (s : Fin 32) (h : Fin 4) (d : Fin 128) (r : Fin 512) :
    hostQueries qn qr (ix4 b s ⟨128 * h.val + d.val, by omega⟩ r)
      = ((pad (o.qn b ⟨512 * s.val + r.val, by omega⟩ h) (o.qr b ⟨512 * s.val + r.val, by omega⟩ h) d * (scale / Real.log 2) : ℝ) : EReal) := by
  rw [hostQueries_apply, padded_real o qn qr hqn hqr, scaling_value, EReal.coe_mul]

/-- A point's block of results is the attention of its queries for its heads. -/
theorem point_value (hqn : ∀ b n h d, qn (ix4 b n h d) = (o.qn b n h d : EReal)) (hqr : ∀ b n h d, qr (ix4 b n h d) = (o.qr b n h d : EReal))
    (hkn : ∀ b n h d, kn (ix4 b n h d) = (o.kn b n h d : EReal)) (hkr : ∀ b n d, kr (ix3 b n d) = (o.kr b n d : EReal))
    (hQ : V m c main_v12 = hostQueries qn qr) (hK : V m c main_v14 = hostKeys kn kr) (hV : V m c main_v17 = hostValues v)
    (t : Fin cfg0.N) (R : Fin 1024) (E : Fin 128) (b : Fin 2) (n : Fin 16384) (H : Fin 4) (d : Fin 64)
    (hb : b.val = (grid0.coords t 0).val) (hn : n.val = 1024 * (grid0.coords t 2).val + R.val) (hE : 64 * H.val + d.val = 128 * (grid0.coords t 1).val + E.val) :
    outBlock zeroIdeal (iblk m c 0 t) (iblk m c 1 t) (iblk m c 2 t) (ix3 0 R E) = attend (o.score b H n) fun j => v (ix4 b j H d) := by
  obtain ⟨_, h1, h2⟩ := coords_lt t
  rw [block_queries m c t _ hQ, block_keys m c t _ hK, block_values m c t _ hV]
  refine block_value o v b ⟨_, h1⟩ ⟨_, h2⟩ (fun i h e r => ?_) (fun n h e => ?_) (fun s h e k => ?_) R E n H d hn hE
  · refine (read_queries (c := c) t _ i _ r (ix4 b ⟨2 * (grid0.coords t 2).val + i.val, by omega⟩ ⟨128 * (2 * (grid0.coords t 1).val + h.val) + e.val, by omega⟩ r) hb rfl ?_ rfl).trans ?_
    · show 128 * (2 * (grid0.coords t 1).val + h.val) + e.val = 256 * (grid0.coords t 1).val + (128 * h.val + e.val)
      omega
    · exact hostQueries_real o qn qr hqn hqr b ⟨2 * (grid0.coords t 2).val + i.val, by omega⟩ ⟨2 * (grid0.coords t 1).val + h.val, by omega⟩ e r
  · refine (read_keys (c := c) t _ n _ (ix3 b n ⟨128 * (2 * (grid0.coords t 1).val + h.val) + e.val, by omega⟩) hb rfl ?_).trans ?_
    · show 128 * (2 * (grid0.coords t 1).val + h.val) + e.val = 256 * (grid0.coords t 1).val + (128 * h.val + e.val)
      omega
    · exact hostKeys_real o kn kr hkn hkr b n ⟨2 * (grid0.coords t 1).val + h.val, by omega⟩ e
  · refine (read_values (c := c) t _ s _ k (ix4 b s ⟨64 * (2 * (grid0.coords t 1).val + h.val) + e.val, by omega⟩ k) hb rfl ?_ rfl).trans ?_
    · show 64 * (2 * (grid0.coords t 1).val + h.val) + e.val = 128 * (grid0.coords t 1).val + (64 * h.val + e.val)
      omega
    · exact hostValues_apply v b s ⟨2 * (grid0.coords t 1).val + h.val, by omega⟩ e k

end Point

end Cert.Mla.Ideal
-- ==== Proof.ArrayValue.lean ====
/-
  The array of results after the call: the attention of every query.
-/
module

public import proofs.«01_k».proof.Proof.PointValue

@[expose] public section

set_option maxRecDepth 16384

noncomputable section

namespace Cert.Mla.Ideal

open Idealize.ShloMosaic Idealize.ShloMosaic.TcCoe Idealize.SL.Sem
open Cert.KernelIdeal Cert.KernelIdeal.Gen

/-- The attention of every query, head by head, laid out as the result. -/
def attention (o : Operands) (v : FVec Ideal S2x16384x4x64 .f32) : Vec Ideal S2x16384x256 .bf16 := fun j =>
  attend (o.score (j 0) ⟨(j 2).val / 64, Nat.div_lt_of_lt_mul (j 2).isLt⟩ (j 1)) fun k => v (ix4 (j 0) k ⟨(j 2).val / 64, Nat.div_lt_of_lt_mul (j 2).isLt⟩ ⟨(j 2).val % 64, Nat.mod_lt _ (by decide)⟩)

variable (m : (ℓ : Loc nD τ sig) → Buf (Elt Ideal) ℓ) (ρ : Dev nD → PrngReg) (c : Dev nD)

/-- Where a block's element lies in the array of results. -/
theorem emb_result (t : Fin cfg0.N) (y : S1x1024x128.Idx) :
    ((((cfg0.win 3).blk t).view.emb y : S2x16384x256.Idx) 0).val = (grid0.coords t 0).val
    ∧ ((((cfg0.win 3).blk t).view.emb y : S2x16384x256.Idx) 1).val = 1024 * (grid0.coords t 2).val + (y 1).val
    ∧ ((((cfg0.win 3).blk t).view.emb y : S2x16384x256.Idx) 2).val = 128 * (grid0.coords t 1).val + (y 2).val := by
  have hi := (idx t).2.2.2
  refine ⟨?_, ?_, ?_⟩
  · show win0_3.index t 0 * 1 + 1 * (y 0).val = _
    have h0 : (y 0).val < 1 := (y 0).isLt
    rw [hi]
    show (grid0.coords t 0).val * 1 + 1 * (y 0).val = _
    omega
  · show win0_3.index t 1 * 1024 + 1 * (y 1).val = _
    rw [hi]
    show (grid0.coords t 2).val * 1024 + 1 * (y 1).val = _
    omega
  · show win0_3.index t 2 * 128 + 1 * (y 2).val = _
    rw [hi]
    show (grid0.coords t 1).val * 128 + 1 * (y 2).val = _
    omega

/-- A point's block is that part of the attention. -/
theorem point_attention (o : Operands) (v : FVec Ideal S2x16384x4x64 .f32) (t : Fin cfg0.N) (B : Vec Ideal S1x1024x128 .bf16)
    (hB : ∀ (R : Fin 1024) (E : Fin 128) (b : Fin 2) (n : Fin 16384) (H : Fin 4) (d : Fin 64), b.val = (grid0.coords t 0).val →
      n.val = 1024 * (grid0.coords t 2).val + R.val → 64 * H.val + d.val = 128 * (grid0.coords t 1).val + E.val → B (ix3 0 R E) = attend (o.score b H n) fun j => v (ix4 b j H d))
    (y : S1x1024x128.Idx) : B y = attention o v (((cfg0.win 3).blk t).view.emb y) := by
  obtain ⟨h0, h1, h2⟩ := emb_result t y
  generalize (((cfg0.win 3).blk t).view.emb y : S2x16384x256.Idx) = z at h0 h1 h2 ⊢
  have hy : y = ix3 0 (y 1) (y 2) := (eq_ix3 y).trans (congrArg (fun k => ix3 k (y 1) (y 2)) (Subsingleton.elim (α := Fin 1) _ _))
  rw [hy]
  exact hB (y 1) (y 2) (z 0) (z 1) ⟨(z 2).val / 64, Nat.div_lt_of_lt_mul (z 2).isLt⟩ ⟨(z 2).val % 64, Nat.mod_lt _ (by decide)⟩ h0 h1 (by
    rw [← h2]
    exact Nat.div_add_mod _ 64)

/-- After the call the array of results holds the attention. -/
theorem array_value (o : Operands) (v : FVec Ideal S2x16384x4x64 .f32)
    (hB : ∀ (t : Fin cfg0.N) (R : Fin 1024) (E : Fin 128) (b : Fin 2) (n : Fin 16384) (H : Fin 4) (d : Fin 64), b.val = (grid0.coords t 0).val →
      n.val = 1024 * (grid0.coords t 2).val + R.val → 64 * H.val + d.val = 128 * (grid0.coords t 1).val + E.val →
      outBlock zeroIdeal (iblk m c 0 t) (iblk m c 1 t) (iblk m c 2 t) (ix3 0 R E) = attend (o.score b H n) fun j => v (ix4 b j H d)) :
    (dats m 0 c).arrAt 3 cfg0.N = attention o v := by
  refine (dats m 0 c).arrAt_eq_of_covers 3 _ covers fun t _ y => ?_
  have h := after_result m c t
  generalize (dats m 0 c).after 3 t = Z at h ⊢
  subst h
  exact point_attention o v t _ (hB t) y

end Cert.Mla.Ideal
-- ==== Proof.ReferenceTerms.lean ====
/-
  The reference's result, entry by entry: the attention of each query.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Mla.Reference

open Cert.ReferenceIdeal Cert.ReferenceIdeal.Gen
open Idealize.ShloMosaic Idealize.ShloMosaic.TcCoe Idealize.SL.Sem

/-! ## The reference's terms -/

section Terms

variable {F : FTy → Type} [FloatOps F]

/-- The scores. -/
def scoresOf (qn : FVec F S2x16384x4x64 .f32) (qr : FVec F S2x16384x4x32 .f32) (kn : FVec F S2x16384x4x64 .f32) (kr : FVec F S2x16384x32 .f32) : FVec F S2x4x16384x16384 .f32 :=
  mulf (addf (Host.dotGeneral dot_S2x16384x4x64_S2x16384x4x64_S2x4x16384x16384_3_3_1_1_02_02 none qn kn)
      (transpose S2x4x16384x16384 [0, 3, 2, 1] (Host.dotGeneral dot_S2x16384x32_S2x16384x4x32_S2x16384x16384x4_2_3_1_12_0_0 none kr qr) transposes_S2x16384x16384x4_S2x4x16384x16384_0_3_2_1))
    (broadcastInDim S2x4x16384x16384 ![] bcast_S_S2x4x16384x16384 (Host.rsqrt (constant S_ .f32 0x42C00000#32)))

/-- The largest score of each query. -/
def rowMax (s : FVec F S2x4x16384x16384 .f32) : FVec F S2x4x16384 .f32 :=
  Host.reduce FloatOps.maximumf s (constant S_ .f32 0xFF800000#32) reducesTo_S2x4x16384x16384_S2x4x16384_d3 h_S_

/-- The same, were there no scores. -/
def aboveBottom (t : FVec F S2x4x16384 .f32) : FVec F S2x4x16384 .f32 :=
  maximumf (broadcastInDim S2x4x16384 ![] bcast_S_S2x4x16384 (constant S_ .f32 0xFF800000#32)) t

/-- One number for each query, along its row. -/
def alongRow (t : FVec F S2x4x16384 .f32) : FVec F S2x4x16384x16384 .f32 :=
  broadcastInDim S2x4x16384x16384 ![0, 1, 2, 3] bcast_S2x4x16384x1_S2x4x16384x16384_0_1_2_3 (broadcastInDim S2x4x16384x1 ![0, 1, 2] bcast_S2x4x16384_S2x4x16384x1_0_1_2 t)

/-- The sum of each query's exponentials. -/
def sumOf (e : FVec F S2x4x16384x16384 .f32) : FVec F S2x4x16384 .f32 :=
  Host.reduceAdd e (constant S_ .f32 0x00000000#32) reducesTo_S2x4x16384x16384_S2x4x16384_d3 h_S_

/-- The exponentials, against each query's largest score. -/
def expsOf (s : FVec F S2x4x16384x16384 .f32) : FVec F S2x4x16384x16384 .f32 := Host.exp (subf s (alongRow (aboveBottom (rowMax s))))

/-- The softmax of the scores. -/
def weightsOf (e : FVec F S2x4x16384x16384 .f32) : FVec F S2x4x16384x16384 .f32 := Host.divf e (alongRow (sumOf e))

/-- The values under the softmax. -/
def weighted (w : FVec F S2x4x16384x16384 .f32) (v : FVec F S2x16384x4x64 .f32) : FVec F S2x4x64x16384 .f32 :=
  Host.dotGeneral dot_S2x16384x4x64_S2x4x16384x16384_S2x4x64x16384_1_3_3_2_02_01 none v w

/-- The heads side by side. -/
def laidOut (o : FVec F S2x4x64x16384 .f32) : FVec F S2x16384x256 .bf16 :=
  truncf .bf16 (shapeCast S2x16384x256 (transpose S2x16384x4x64 [0, 3, 1, 2] o transposes_S2x4x64x16384_S2x16384x4x64_0_3_1_2) shapeCasts_S2x16384x4x64_S2x16384x256) bitsLt_bf16_f32

end Terms

end Cert.Mla.Reference
-- ==== Proof.ReferenceValue.lean ====
/-
  The reference's result, entry by entry: the attention of each query.
-/
module

public import proofs.«01_k».proof.Proof.ReferenceTerms
public import Idealize.ShloMosaic.PureOps.Ideal.Laws
public import proofs.«01_k».proof.Proof.Spec
public import Idealize.ShloMosaic.Lib.Pointwise

@[expose] public section

set_option maxRecDepth 16384

noncomputable section

namespace Cert.Mla.Reference

open Cert.ReferenceIdeal Cert.ReferenceIdeal.Gen
open Idealize.ShloMosaic Idealize.ShloMosaic.TcCoe Idealize.SL.Sem

theorem aboveBottom_apply (t : FVec Ideal S2x4x16384 .f32) (b : Fin 2) (h : Fin 4) (n : Fin 16384) : aboveBottom t (ix3 b h n) = max (Ideal.ofBits .f32 0xFF800000#32) (t (ix3 b h n)) := by
  pointwise [aboveBottom]

/-- The largest of real numbers, reduced along one axis from no number at all, is a real number. -/
theorem reduce_max_real {s t u : Shape} {a : Fin s.rank} (x : FVec Ideal s .f32) (init : FVec Ideal u .f32) (h' : s.ReducesTo [a] t) (h : s.Reduces [a] t) (hu : 0 < u.numel)
    (hi : init (Shape.Idx.first hu) = (⊥ : EReal)) [Nonempty (Fin (s.size a))] (f : s.Idx → ℝ) (hf : ∀ i, x i = (f i : EReal)) (j : t.Idx) :
    ∃ M : ℝ, Host.reduce FloatOps.maximumf x init h' hu j = (M : EReal) := by
  obtain ⟨M, hM⟩ := fold_max_real fun k : Fin (s.size a) => f (h.lift j k)
  refine ⟨M, (Host.reduce_eq_fold_single FloatOps.maximumf x init h' h hu j).trans (Eq.trans ?_ hM)⟩
  rw [hi]
  have e : (x ∘ h.lift j : Fin (s.size a) → EReal) = fun k => (f (h.lift j k) : EReal) := funext fun k => hf _
  rw [e]
  rfl

theorem init_bot {u : Shape} (j : u.Idx) : (constant u .f32 0xFF800000#32 : FVec Ideal u .f32) j = (⊥ : EReal) := by
  show Ideal.ofBits .f32 0xFF800000#32 = (⊥ : EReal)
  simp [Ideal.ofBits, Ideal.ieee]

/-- There is a key. -/
instance {a : Nat} {b c d : Nat} : Nonempty (Fin ((⟨4, ![a, b, c, d + 1]⟩ : Shape).size 3)) := ⟨(0 : Fin (d + 1))⟩

/-- The rows of scores are reduced along the keys. -/
theorem reducesRow : S2x4x16384x16384.Reduces [3] S2x4x16384 := ⟨rfl, Nat.succ_pos _, reducesTo_S2x4x16384x16384_S2x4x16384_d3.2⟩

theorem rowMax_real (s : FVec Ideal S2x4x16384x16384 .f32) (f : S2x4x16384x16384.Idx → ℝ) (hf : ∀ i, s i = (f i : EReal)) (j : S2x4x16384.Idx) :
    ∃ M : ℝ, rowMax s j = (M : EReal) := by
  unfold rowMax
  exact reduce_max_real s _ _ reducesRow _ (init_bot _) f hf j

theorem scoresOf_apply (qn : FVec Ideal S2x16384x4x64 .f32) (qr : FVec Ideal S2x16384x4x32 .f32) (kn : FVec Ideal S2x16384x4x64 .f32) (kr : FVec Ideal S2x16384x32 .f32)
    (b : Fin 2) (h : Fin 4) (n j : Fin 16384) :
    scoresOf qn qr kn kr (ix4 b h n j) = ((∑ d : Fin 64, qn (ix4 b n h d) * kn (ix4 b j h d)) + ∑ d : Fin 32, kr (ix3 b j d) * qr (ix4 b n h d)) * Ideal.rsqrt (Ideal.ofBits .f32 0x42C00000#32) := by
  pointwise [scoresOf]

theorem alongRow_apply (s : FVec Ideal S2x4x16384 .f32) (b : Fin 2) (h : Fin 4) (n j : Fin 16384) :
    alongRow s (ix4 b h n j) = s (ix3 b h n) := by
  pointwise [alongRow]

theorem sumOf_apply (e : FVec Ideal S2x4x16384x16384 .f32) (b : Fin 2) (h : Fin 4) (n : Fin 16384) :
    sumOf e (ix3 b h n) = ∑ j : Fin 16384, e (ix4 b h n j) := by
  pointwise [sumOf]

theorem expsOf_apply (s : FVec Ideal S2x4x16384x16384 .f32) (b : Fin 2) (h : Fin 4) (n j : Fin 16384) :
    expsOf s (ix4 b h n j) = Ideal.exp (s (ix4 b h n j) - alongRow (aboveBottom (rowMax s)) (ix4 b h n j)) := by
  unfold expsOf
  generalize alongRow (aboveBottom (rowMax s)) = y
  rfl

theorem weightsOf_apply (e : FVec Ideal S2x4x16384x16384 .f32) (b : Fin 2) (h : Fin 4) (n j : Fin 16384) :
    weightsOf e (ix4 b h n j) = Ideal.div (e (ix4 b h n j)) (alongRow (sumOf e) (ix4 b h n j)) := by
  unfold weightsOf
  generalize alongRow (sumOf e) = y
  rfl

theorem weighted_apply (w : FVec Ideal S2x4x16384x16384 .f32) (v : FVec Ideal S2x16384x4x64 .f32) (b : Fin 2) (h : Fin 4) (d : Fin 64) (n : Fin 16384) :
    weighted w v (ix4 b h d n) = ∑ j : Fin 16384, v (ix4 b j h d) * w (ix4 b h n j) := by
  pointwise [weighted]

theorem laidOut_apply (o : FVec Ideal S2x4x64x16384 .f32) (b : Fin 2) (n : Fin 16384) (e : Fin 256) :
    laidOut o (ix3 b n e) = o (ix4 b ⟨e.val / 64, by omega⟩ ⟨e.val % 64, by omega⟩ n) := by
  pointwise [laidOut]

/-! ## The result -/

/-- Scores of real numbers are the attention's. -/
theorem scoresOf_real (o : Operands) (qn : FVec Ideal S2x16384x4x64 .f32) (qr : FVec Ideal S2x16384x4x32 .f32) (kn : FVec Ideal S2x16384x4x64 .f32) (kr : FVec Ideal S2x16384x32 .f32)
    (hqn : ∀ b n h d, qn (ix4 b n h d) = (o.qn b n h d : EReal)) (hqr : ∀ b n h d, qr (ix4 b n h d) = (o.qr b n h d : EReal))
    (hkn : ∀ b n h d, kn (ix4 b n h d) = (o.kn b n h d : EReal)) (hkr : ∀ b n d, kr (ix3 b n d) = (o.kr b n d : EReal))
    (b : Fin 2) (h : Fin 4) (n j : Fin 16384) : scoresOf qn qr kn kr (ix4 b h n j) = (o.score b h n j : EReal) := by
  rw [scoresOf_apply, bits_96, rsqrt_96]
  unfold Operands.score
  rw [EReal.coe_mul, EReal.coe_add]
  congr 2
  · rw [← coe_sum_real]
    exact Finset.sum_congr rfl fun d _ => by rw [hqn, hkn, EReal.coe_mul]
  · rw [← coe_sum_real]
    exact Finset.sum_congr rfl fun d _ => by rw [hqr, hkr, EReal.coe_mul, mul_comm]

/-- The softmax of real scores, taken with the values, is the attention. -/
theorem softmax_real (s : FVec Ideal S2x4x16384x16384 .f32) (v : FVec Ideal S2x16384x4x64 .f32) (x : Fin 2 → Fin 4 → Fin 16384 → Fin 16384 → ℝ)
    (hs : ∀ b h n j, s (ix4 b h n j) = (x b h n j : EReal)) (b : Fin 2) (h : Fin 4) (n : Fin 16384) (d : Fin 64) :
    weighted (weightsOf (expsOf s)) v (ix4 b h d n) = attend (x b h n) fun j => v (ix4 b j h d) := by
  obtain ⟨M, hM⟩ := rowMax_real s (fun i => x (i 0) (i 1) (i 2) (i 3)) (fun i => (congrArg s (eq_ix4 i)).trans (hs _ _ _ _)) (ix3 b h n)
  have he : ∀ j, expsOf s (ix4 b h n j) = Ideal.exp ((x b h n j : EReal) - (M : EReal)) := fun j => by
    rw [expsOf_apply, alongRow_apply, aboveBottom_apply, hM, hs, show Ideal.ofBits .f32 0xFF800000#32 = (⊥ : EReal) by simp [Ideal.ofBits, Ideal.ieee], bot_sup_eq]
  rw [weighted_apply, ← attend_of_shifted (x b h n) (fun j => v (ix4 b j h d)) M]
  refine Finset.sum_congr rfl fun j _ => ?_
  rw [weightsOf_apply, alongRow_apply, sumOf_apply, he, Finset.sum_congr rfl fun j _ => he j]

end Cert.Mla.Reference
-- ==== Proof.Finite.lean ====
/-
  The precondition, read: the scores' operands are real numbers.
-/
module

public import proofs.«01_k».proof.Defs
public import proofs.«01_k».proof.Proof.Spec
public import Idealize.ShloMosaic.Lib.ReduceAll
public import Idealize.ShloMosaic.Lib.Pointwise

@[expose] public section

set_option maxRecDepth 16384

noncomputable section

namespace Cert.Mla

open Idealize.ShloMosaic Idealize.ShloMosaic.TcCoe

/-- An extended real whose difference with itself is zero is a real number. -/
theorem real_of_sub_self {x : EReal} (h : x - x = 0) : x = (x.toReal : EReal) := by
  refine (EReal.coe_toReal ?_ ?_).symm
  · rintro rfl
    exact absurd h (by simp)
  · rintro rfl
    exact absurd h (by simp)

/-- One operand's test: every element's difference with itself is zero. -/
theorem real_of_test {s u : Shape} {axes : List (Fin s.rank)} (x : FVec Ideal s .f32) (b : (⟨0, ![]⟩ : Shape).BroadcastsInDim s (![] : Fin 0 → Fin s.rank))
    (h : s.ReducesTo axes u) (hu : 0 < (⟨0, ![]⟩ : Shape).numel) [Subsingleton u.Idx] (j : u.Idx)
    (e : Host.reduce IntOp.andi (cmpf .oeq (subf x x) (broadcastInDim s ![] b (constant ⟨0, ![]⟩ .f32 0x00000000#32))) (constantI ⟨0, ![]⟩ 1 1#1) h hu j = 1#1) (i : s.Idx) :
    x i = ((x i : EReal).toReal : EReal) := by
  have h1 : BitVec.ofBool (decide ((x i : EReal) - x i = Ideal.ofBits .f32 0x00000000#32)) = 1#1 := Host.reduce_andi_all _ _ h hu j e i
  rw [Ideal.ofBits_zero_f32] at h1
  refine real_of_sub_self ?_
  by_contra hne
  rw [decide_eq_false hne] at h1
  exact absurd h1 (by decide)

/-- The side conditions of the precondition's operations. -/
theorem preFacts : Cert.Pre_finite_scores.Facts where
  bcast_S_S2x16384x4x64 := by decide
  reducesTo_S2x16384x4x64_S_d0_1_2_3 := by decide
  h_S_ := by decide
  bcast_S_S2x16384x4x32 := by decide
  reducesTo_S2x16384x4x32_S_d0_1_2_3 := by decide
  bcast_S_S2x16384x32 := by decide
  reducesTo_S2x16384x32_S_d0_1_2 := by decide

section Pre

open Cert.Pre_finite_scores

variable [Cert.Pre_finite_scores.Facts]

/-- Two tests that both hold. -/
theorem both {a b : BitVec 1} (h : IntOp.andi a b = 1#1) : a = 1#1 ∧ b = 1#1 := by
  revert a b
  decide

instance : Subsingleton S_.Idx := ⟨fun a b => funext fun k => k.elim0⟩

/-- Under the precondition every entry of the queries and the keys is a real number. -/
theorem operands_real (qn : FVec Ideal S2x16384x4x64 .f32) (qr : FVec Ideal S2x16384x4x32 .f32) (kn : FVec Ideal S2x16384x4x64 .f32) (kr : FVec Ideal S2x16384x32 .f32) (v : FVec Ideal S2x16384x4x64 .f32)
    (h : fn qn qr kn kr v = fun _ => 1#1) :
    ∃ o : Operands, (∀ b n h d, qn (ix4 b n h d) = (o.qn b n h d : EReal)) ∧ (∀ b n h d, qr (ix4 b n h d) = (o.qr b n h d : EReal))
      ∧ (∀ b n h d, kn (ix4 b n h d) = (o.kn b n h d : EReal)) ∧ ∀ b n d, kr (ix3 b n d) = (o.kr b n d : EReal) := by
  obtain ⟨h01, h23⟩ := both (congrFun h ix0)
  obtain ⟨h0, h1⟩ := both h01
  obtain ⟨h2, h3⟩ := both h23
  exact ⟨⟨fun b n h d => (qn (ix4 b n h d) : EReal).toReal, fun b n h d => (qr (ix4 b n h d) : EReal).toReal, fun b n h d => (kn (ix4 b n h d) : EReal).toReal,
      fun b n d => (kr (ix3 b n d) : EReal).toReal⟩,
    fun b n h d => real_of_test qn _ _ _ ix0 h0 _, fun b n h d => real_of_test qr _ _ _ ix0 h1 _,
    fun b n h d => real_of_test kn _ _ _ ix0 h2 _, fun b n d => real_of_test kr _ _ _ ix0 h3 _⟩

end Pre

end Cert.Mla
-- ==== Proof.Algebraic.lean ====
/-
  The value claim: on real queries and keys the idealized call and the reference end with the same attention.
-/
module

public import proofs.«01_k».proof.Defs
public import proofs.«01_k».proof.Proof.ArrayValue
public import proofs.«01_k».proof.Proof.ReferenceValue
public import proofs.«01_k».proof.Proof.Finite

@[expose] public section

set_option maxRecDepth 16384

noncomputable section

namespace Cert.Mla

open Idealize.ShloMosaic Idealize.ShloMosaic.TcCoe Idealize.SL.Sem
open Cert.Mla.Ideal (attention)

/-- The entries `o` are those of the queries and the keys. -/
structure Operands.Of (o : Operands) (qn : FVec Ideal KernelIdeal.S2x16384x4x64 .f32) (qr : FVec Ideal KernelIdeal.S2x16384x4x32 .f32) (kn : FVec Ideal KernelIdeal.S2x16384x4x64 .f32)
    (kr : FVec Ideal KernelIdeal.S2x16384x32 .f32) : Prop where
  qn : ∀ b n h d, qn (ix4 b n h d) = (o.qn b n h d : EReal)
  qr : ∀ b n h d, qr (ix4 b n h d) = (o.qr b n h d : EReal)
  kn : ∀ b n h d, kn (ix4 b n h d) = (o.kn b n h d : EReal)
  kr : ∀ b n d, kr (ix3 b n d) = (o.kr b n d : EReal)

section Reference

open Cert.ReferenceIdeal Cert.Mla.Reference

/-- The reference's composed term is the attention. -/
theorem reference_attention (o : Operands) (qn : FVec Ideal S2x16384x4x64 .f32) (qr : FVec Ideal S2x16384x4x32 .f32) (kn : FVec Ideal S2x16384x4x64 .f32) (kr : FVec Ideal S2x16384x32 .f32) (v : FVec Ideal S2x16384x4x64 .f32)
    (h : o.Of qn qr kn kr) : laidOut (weighted (weightsOf (expsOf (scoresOf qn qr kn kr))) v) = attention o v := by
  have entry : ∀ (b : Fin 2) (n : Fin 16384) (e : Fin 256), laidOut (weighted (weightsOf (expsOf (scoresOf qn qr kn kr))) v) (ix3 b n e) = attention o v (ix3 b n e) := fun b n e => by
    rw [laidOut_apply, softmax_real _ _ o.score (scoresOf_real o qn qr kn kr h.qn h.qr h.kn h.kr)]
    rfl
  exact funext fun j => (congrArg _ (eq_ix3 j)).trans ((entry (j 0) (j 1) (j 2)).trans (congrArg _ (eq_ix3 j).symm))

/-- The reference ends with the attention. -/
theorem reference_run (m : (ℓ : Loc nD τ sig) → Buf (Elt Ideal) ℓ) (ρ : Dev nD → PrngReg) (o : Dev nD → Operands)
    (h : ∀ c : Dev nD, (o c).Of (m ((c.tc : Thread nD τ).loc main_arg0)) (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v21) = attention (o c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨(hr c).1.trans (reference_attention (o c) _ _ _ _ _ (h c)), (hr c).2⟩) (ReferenceIdeal.Value.run m ρ)

end Reference

section Call

open Cert.KernelIdeal Cert.KernelIdeal.Gen Cert.Mla.Ideal

/-- The idealized call ends with the attention. -/
theorem call_run (m : (ℓ : Loc nD τ sig) → Buf (Elt Ideal) ℓ) (ρ : Dev nD → PrngReg) (o : Dev nD → Operands)
    (h : ∀ c : Dev nD, (o c).Of (m ((c.tc : Thread nD τ).loc main_arg0)) (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v18) = attention (o c) (m ((c.tc : Thread nD τ).loc main_arg4))) :=
  (θ_run defs _ _).mono (fun _ hr c => ((hr c).1 3).trans (array_value m c (o c) _
    (point_value (o c) _ _ _ _ _ (h c).qn (h c).qr (h c).kn (h c).kr (V_queries m c) (V_keys m c) (V_values m c)))) (run_arrays m ρ)

end Call

section Claim

/-- On real queries and keys the two programs end with equal results. -/
theorem algebraic : Cert.algebraic_KernelIdeal_ReferenceIdeal_pre_finite_scores (hKernelIdeal := KernelIdeal.Gen.facts) (hReferenceIdeal := ReferenceIdeal.Gen.facts) (hPre_finite_scores := preFacts) := by
  intro m g m' g' hpre hargs
  have := preFacts
  have hreal : ∀ c : Dev KernelIdeal.nD, ∃ o : Operands, o.Of (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3)) := fun c => by
    obtain ⟨o, h0, h1, h2, h3⟩ := operands_real _ _ _ _ _ (hpre c)
    exact ⟨o, h0, h1, h2, h3⟩
  choose o ho using hreal
  refine ⟨fun c => attention (o c) (m ((c.tc : Thread KernelIdeal.nD KernelIdeal.τ).loc KernelIdeal.main_arg4)), ?_, ?_⟩
  · exact (θ_run _ _ _).mono (fun _ h c => ⟨h.1 c, h.2.1 c⟩) (θ_run_and (call_run m g o ho) (Ideal.frame m g))
  · have hr := reference_run m' g' o fun c => by
      obtain ⟨e0, e1, e2, e3, _⟩ := hargs c
      rw [e0, e1, e2, e3]
      exact ho c
    refine (θ_run _ _ _).mono (fun _ h c => ⟨(h c).1.trans ?_, (h c).2⟩) hr
    rw [(hargs c).2.2.2.2]

end Claim

end Cert.Mla
-- ==== Proof.PostCases.lean ====
/-
  What a grid point of the projections' call leaves in its buffers, by its place among the two points of its tile of tokens.
-/
module

public import proofs.«01_k».proof.Proof.Gen.Kernel2Ideal.Value
public import Idealize.ShloMosaic.Lib.Tactic

@[expose] public section

set_option maxRecDepth 16384

noncomputable section

namespace Cert.Post

open Cert.Kernel2Ideal Cert.Kernel2Ideal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The tokens' own rows plus their mixers' outputs under the output projection. -/
def residual (x0 : Vec F S512x1024 .f32) (x1 x2 x3 x4 : Vec F S512x256 .bf16) (x5 : Vec F S4x256x1024 .bf16) : FVec F S512x1024 .f32 :=
  k0_pay4 x0 x1 (View.ld x5 (Rect.unit (s := S4x256x1024) ![0, 0, 0] S1x256x1024.size inb_S4x256x1024_S1x256x1024_0_0_0)) x2 (View.ld x5 (Rect.unit (s := S4x256x1024) ![1, 0, 0] S1x256x1024.size inb_S4x256x1024_S1x256x1024_1_0_0)) x3 (View.ld x5 (Rect.unit (s := S4x256x1024) ![2, 0, 0] S1x256x1024.size inb_S4x256x1024_S1x256x1024_2_0_0)) x4 (View.ld x5 (Rect.unit (s := S4x256x1024) ![3, 0, 0] S1x256x1024.size inb_S4x256x1024_S1x256x1024_3_0_0))

section Cases

variable (c : Dev nD) (i : grid0.Coords) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S4x256x1024 .bf16) (harg7 : arg7.IsWhole) (arg8 : Memref sig .tc .vmem S1x1024 .f32) (harg8 : arg8.IsWhole) (arg9 : Memref sig .tc .vmem S1024x1408 .bf16) (harg9 : arg9.IsWhole) (arg10 : Memref sig .tc .vmem S1024x1408 .bf16) (harg10 : arg10.IsWhole) (arg11 : Memref sig .tc .vmem S1408x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole)

/-- The first point leaves the tokens' rows, normalized. -/
theorem first_rows (hc0 : cond0_0 i) (hc1 : ¬cond0_1 i) (x0 : Vec F S512x1024 .f32) (x1 x2 x3 x4 : Vec F S512x256 .bf16) (x5 : Vec F S4x256x1024 .bf16) (x6 : Vec F S1x1024 .f32) (x7 x8 : Vec F S1024x1408 .bf16) (x9 : Vec F S1408x1024 .bf16) (x10 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay1 (residual x0 x1 x2 x3 x4 x5) x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S512x256) hz, View.ld_unit_zero (S := S1x1024) hz]
  rfl

/-- The first point leaves the tokens' rows plus the first half of the feed-forward. -/
theorem first_sum (hc0 : cond0_0 i) (hc1 : ¬cond0_1 i) (x0 : Vec F S512x1024 .f32) (x1 x2 x3 x4 : Vec F S512x256 .bf16) (x5 : Vec F S4x256x1024 .bf16) (x6 : Vec F S1x1024 .f32) (x7 x8 : Vec F S1024x1408 .bf16) (x9 : Vec F S1408x1024 .bf16) (x10 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay2 (k0_pay1 (residual x0 x1 x2 x3 x4 x5) x6) x7 x8 (k0_pay5 x0 x1 (View.ld x5 (Rect.unit (s := S4x256x1024) ![0, 0, 0] S1x256x1024.size inb_S4x256x1024_S1x256x1024_0_0_0)) x2 (View.ld x5 (Rect.unit (s := S4x256x1024) ![1, 0, 0] S1x256x1024.size inb_S4x256x1024_S1x256x1024_1_0_0)) x3 (View.ld x5 (Rect.unit (s := S4x256x1024) ![2, 0, 0] S1x256x1024.size inb_S4x256x1024_S1x256x1024_2_0_0)) x4 (View.ld x5 (Rect.unit (s := S4x256x1024) ![3, 0, 0] S1x256x1024.size inb_S4x256x1024_S1x256x1024_3_0_0))) x9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x1024) hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S512x256) hz, View.ld_unit_zero (S := S1x1024) hz,
    View.ld_unit_zero (S := S1024x1408) hz, View.ld_unit_zero (S := S1408x1024) hz]
  rfl

/-- The second point writes back the sum with the second half added, normalized. -/
theorem second_out (hc0 : ¬cond0_0 i) (hc1 : cond0_1 i) (x0 : Vec F S512x1024 .f32) (x1 x2 x3 x4 : Vec F S512x256 .bf16) (x5 : Vec F S4x256x1024 .bf16) (x6 : Vec F S1x1024 .f32) (x7 x8 : Vec F S1024x1408 .bf16) (x9 : Vec F S1408x1024 .bf16) (x10 : Vec F S1x1024 .f32) (xs0 : Vec F S512x1024 .f32) (xs1 : Vec F S512x1024 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay3 (k0_pay2 xs1 x7 x8 xs0 x9) x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readCov_unit_zero (S := S512x1024) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1x1024) hz,
    View.ld_unit_zero (S := S1024x1408) hz, View.ld_unit_zero (S := S1408x1024) hz]

end Cases

end Cert.Post
-- ==== Proof.PostSpec.lean ====
/-
  What a layer's last half makes of one token: its mixers' outputs under the output projection, added to it; the gated
  feed-forward of the normalized sum, added again; and the final normalization.
-/
module

public import Idealize.ShloMosaic.Lib.ValueIdxCore
public import Idealize.ShloMosaic.PureOps.Ideal

@[expose] public section

noncomputable section

namespace Cert.Post

open Idealize.ShloMosaic

/-- A row over the root of the mean of its squares, times the gains. -/
def rms (y g : Fin 1024 → EReal) (e : Fin 1024) : EReal :=
  y e * Ideal.rsqrt (Ideal.div (∑ k, y k * y k) (Ideal.ofBits .f32 0x44800000#32) + Ideal.ofBits .f32 0x358637BD#32) * g e

/-- A number times its logistic. -/
def swish (z : EReal) : EReal := Ideal.div z (1 + Ideal.exp (-z))

/-- A number over one that is at least one is the number times that one's reciprocal. -/
theorem mul_reciprocal (z : EReal) : z * Ideal.div 1 (1 + Ideal.exp (-z)) = swish z := by
  have h : (1 : EReal) + Ideal.exp (-z) ≠ 0 := by
    have h0 : (0 : EReal) ≤ Ideal.exp (-z) := by
      induction (-z) with
      | bot => exact le_refl _
      | top => exact le_top
      | coe r => exact EReal.coe_nonneg.mpr (Real.exp_pos r).le
    have h1 : (1 : EReal) ≤ 1 + Ideal.exp (-z) := le_add_of_nonneg_right h0
    exact (lt_of_lt_of_le zero_lt_one h1).ne'
  unfold swish Ideal.div
  rw [if_neg h, if_neg h, one_mul]

/-- The token's row plus its mixers' outputs under the output projection. -/
def mixed (x : Fin 1024 → EReal) (a b c d : Fin 256 → EReal) (w : Fin 1024 → Fin 1024 → EReal) (e : Fin 1024) : EReal :=
  x e + (∑ k : Fin 256, a k * w ⟨k.val, by omega⟩ e) + (∑ k : Fin 256, b k * w ⟨256 + k.val, by omega⟩ e)
    + (∑ k : Fin 256, c k * w ⟨512 + k.val, by omega⟩ e) + ∑ k : Fin 256, d k * w ⟨768 + k.val, by omega⟩ e

/-- The feed-forward's hidden entry. -/
def hidden (h : Fin 1024 → EReal) (wg wu : Fin 1024 → EReal) : EReal := swish (∑ k, h k * wg k) * ∑ k, h k * wu k

/-- The token's result. -/
def token (x : Fin 1024 → EReal) (a b c d : Fin 256 → EReal) (w : Fin 1024 → Fin 1024 → EReal) (g : Fin 1024 → EReal)
    (wg wu : Fin 1024 → Fin 2816 → EReal) (wd : Fin 2816 → Fin 1024 → EReal) (gf : Fin 1024 → EReal) : Fin 1024 → EReal :=
  rms (fun e => mixed x a b c d w e + ∑ j : Fin 2816, hidden (rms (mixed x a b c d w) g) (fun k => wg k j) (fun k => wu k j) * wd j e) gf

/-- A sum over 1024 entries in four parts. -/
theorem sum_four (f : Fin 1024 → EReal) :
    ∑ k, f k = (∑ k : Fin 256, f ⟨k.val, by omega⟩) + (∑ k : Fin 256, f ⟨256 + k.val, by omega⟩)
      + (∑ k : Fin 256, f ⟨512 + k.val, by omega⟩) + ∑ k : Fin 256, f ⟨768 + k.val, by omega⟩ := by
  have h1 := Fin.sum_univ_add (a := 512) (b := 512) (fun k : Fin (512 + 512) => f k)
  have h2 := Fin.sum_univ_add (a := 256) (b := 256) (fun k : Fin (256 + 256) => f (Fin.castAdd 512 k))
  have h3 := Fin.sum_univ_add (a := 256) (b := 256) (fun k : Fin (256 + 256) => f (Fin.natAdd 512 k))
  refine (h1.trans (congrArg₂ (· + ·) h2 h3)).trans ((add_assoc _ _ _).symm.trans ?_)
  refine congrArg₂ (· + ·) (congrArg₂ (· + ·) rfl (Finset.sum_congr rfl fun k _ => rfl)) (Finset.sum_congr rfl fun k _ => congrArg f (Fin.ext ?_))
  show 512 + (256 + k.val) = 768 + k.val
  omega

/-- A sum over 2816 entries in two parts. -/
theorem sum_two (f : Fin 2816 → EReal) :
    ∑ k, f k = (∑ k : Fin 1408, f ⟨k.val, by omega⟩) + ∑ k : Fin 1408, f ⟨1408 + k.val, by omega⟩ :=
  Fin.sum_univ_add (a := 1408) (b := 1408) (fun k : Fin (1408 + 1408) => f k)

end Cert.Post
-- ==== Proof.PostValue.lean ====
/-
  The call's arithmetic on a tile of tokens, entry by entry.
-/
module

public import proofs.«01_k».proof.Proof.Gen.Kernel2Ideal.Skeleton
public import proofs.«01_k».proof.Proof.PostSpec
public import Idealize.ShloMosaic.Lib.Pointwise
public import Idealize.ShloMosaic.Lib.Pipeline.ValueKit

@[expose] public section

set_option maxRecDepth 16384

noncomputable section

namespace Cert.Post

open Cert.Kernel2Ideal Cert.Kernel2Ideal.Gen
open Idealize.ShloMosaic Idealize.ShloMosaic.TcCoe

/-! ## The terms -/

section Terms

variable {F : FTy → Type} [FloatOps F]

/-- A mixer's outputs under its quarter of the output projection. -/
def under (o : FVec F S512x256 .bf16) (w : FVec F S1x256x1024 .bf16) : FVec F S512x1024 .f32 :=
  matmul dot_S512x256_S256x1024_S512x1024_1_0_0_1_n_n none o (shapeCast S256x1024 w shapeCasts_S1x256x1024_S256x1024 : FVec F S256x1024 .bf16) (constant S512x1024 .f32 0x00000000#32)

/-- The sum of each row's squares. -/
def squareSums (y : FVec F S512x1024 .f32) : FVec F S512 .f32 := multiReduction .add [1] S512 (mulf y y) 0x00000000#32 reduces_S512x1024_S512 (.inl rfl) rfl

/-- The rows over the root of the mean of their squares, times the gains, from the sums of squares. -/
def normRows (y : FVec F S512x1024 .f32) (s : FVec F S512 .f32) (g : FVec F S1x1024 .f32) : FVec F S512x1024 .f32 :=
  mulf (mulf y (broadcastTo S512x1024 (rsqrt (addf (divf (shapeCast S512x1 s shapeCasts_S512_S512x1 : FVec F S512x1 .f32)
      (broadcast S512x1 (Scalar.ofBits .f32 0x44800000#32))) (broadcast S512x1 (Scalar.ofBits .f32 0x358637BD#32)))) broadcasts_S512x1_S512x1024))
    (broadcastTo S512x1024 g broadcasts_S1x1024_S512x1024)

/-- The rows against half of a matrix of the feed-forward. -/
def againstHalf (h : FVec F S512x1024 .bf16) (w : FVec F S1024x1408 .bf16) : FVec F S512x1408 .f32 :=
  matmul dot_S512x1024_S1024x1408_S512x1408_1_0_0_1_n_n none h w (constant S512x1408 .f32 0x00000000#32)

/-- The hidden entries. -/
def gatedHalf (z u : FVec F S512x1408 .f32) : FVec F S512x1408 .bf16 :=
  truncf .bf16 (mulf (divf z (addf (broadcast S512x1408 (Scalar.ofBits .f32 0x3F800000#32)) (exp (subf (broadcast S512x1408 (Scalar.ofBits .f32 0x00000000#32)) z)))) u) bitsLt_bf16_f32

/-- The rows plus half of the feed-forward. -/
def fedHalf (y : FVec F S512x1024 .f32) (z : FVec F S512x1408 .bf16) (w : FVec F S1408x1024 .bf16) : FVec F S512x1024 .f32 :=
  addf y (matmul dot_S512x1408_S1408x1024_S512x1024_1_0_0_1_n_n none z w (constant S512x1024 .f32 0x00000000#32))

end Terms

variable {F : FTy → Type} [FloatOps F]

theorem norm_eq (y : FVec F S512x1024 .f32) (g : Vec F S1x1024 .f32) : k0_pay3 y g = normRows y (squareSums y) g := by
  unfold k0_pay3 normRows squareSums
  simp only [shapeCast_self]

theorem first_norm_eq (y : FVec F S512x1024 .f32) (g : Vec F S1x1024 .f32) : k0_pay1 y g = truncf .bf16 (normRows y (squareSums y) g) bitsLt_bf16_f32 := by
  unfold k0_pay1 normRows squareSums
  simp only [shapeCast_self]

theorem half_eq (h : Vec F S512x1024 .bf16) (wg wu : Vec F S1024x1408 .bf16) (y : Vec F S512x1024 .f32) (wd : Vec F S1408x1024 .bf16) :
    k0_pay2 h wg wu y wd = fedHalf y (gatedHalf (againstHalf h wg) (againstHalf h wu)) wd := by
  unfold k0_pay2 fedHalf gatedHalf againstHalf
  simp only [shapeCast_self]

theorem sum_eq (x : Vec F S512x1024 .f32) (a : Vec F S512x256 .bf16) (wa : Vec F S1x256x1024 .bf16) (b : Vec F S512x256 .bf16) (wb : Vec F S1x256x1024 .bf16)
    (c : Vec F S512x256 .bf16) (wc : Vec F S1x256x1024 .bf16) (d : Vec F S512x256 .bf16) (wd : Vec F S1x256x1024 .bf16) :
    k0_pay4 x a wa b wb c wc d wd = addf (addf (addf (addf x (under a wa)) (under b wb)) (under c wc)) (under d wd) := by
  unfold k0_pay4 under
  simp only [shapeCast_self]

/-! ## At an entry -/

theorem under_apply (o : FVec Ideal S512x256 .bf16) (w : FVec Ideal S1x256x1024 .bf16) (r : Fin 512) (e : Fin 1024) :
    under o w (ix2 r e) = ∑ k : Fin 256, o (ix2 r k) * w (ix3 0 k e) := by
  pointwise [under]

theorem squareSums_apply (y : FVec Ideal S512x1024 .f32) (r : Fin 512) : squareSums y (ix1 r) = ∑ k : Fin 1024, y (ix2 r k) * y (ix2 r k) := by
  pointwise [squareSums]

theorem normRows_apply (y : FVec Ideal S512x1024 .f32) (s : FVec Ideal S512 .f32) (g : FVec Ideal S1x1024 .f32) (r : Fin 512) (e : Fin 1024) :
    normRows y s g (ix2 r e) = y (ix2 r e) * Ideal.rsqrt (Ideal.div (s (ix1 r)) (Ideal.ofBits .f32 0x44800000#32) + Ideal.ofBits .f32 0x358637BD#32) * g (ix2 0 e) := by
  pointwise [normRows]

theorem againstHalf_apply (h : FVec Ideal S512x1024 .bf16) (w : FVec Ideal S1024x1408 .bf16) (r : Fin 512) (j : Fin 1408) :
    againstHalf h w (ix2 r j) = ∑ k : Fin 1024, h (ix2 r k) * w (ix2 k j) := by
  pointwise [againstHalf]

theorem one_bits : Ideal.ofBits .f32 0x3F800000#32 = 1 := by
  refine Eq.trans ?_ EReal.coe_one
  simp [Ideal.ofBits, Ideal.ieee, -EReal.coe_mul]
  norm_num

theorem gatedHalf_apply (z u : FVec Ideal S512x1408 .f32) (r : Fin 512) (j : Fin 1408) : gatedHalf z u (ix2 r j) = swish (z (ix2 r j)) * u (ix2 r j) := by
  unfold swish
  rw [← one_bits, ← zero_sub]
  pointwise [gatedHalf]

theorem fedHalf_apply (y : FVec Ideal S512x1024 .f32) (z : FVec Ideal S512x1408 .bf16) (w : FVec Ideal S1408x1024 .bf16) (r : Fin 512) (e : Fin 1024) :
    fedHalf y z w (ix2 r e) = y (ix2 r e) + ∑ j : Fin 1408, z (ix2 r j) * w (ix2 j e) := by
  pointwise [fedHalf]

theorem norm_value (y : FVec Ideal S512x1024 .f32) (g : FVec Ideal S1x1024 .f32) (r : Fin 512) (e : Fin 1024) :
    k0_pay3 (F := Ideal) y g (ix2 r e) = rms (fun k => y (ix2 r k)) (fun k => g (ix2 0 k)) e := by
  rw [norm_eq, normRows_apply, squareSums_apply]
  rfl

theorem first_norm_value (y : FVec Ideal S512x1024 .f32) (g : FVec Ideal S1x1024 .f32) (r : Fin 512) (e : Fin 1024) :
    k0_pay1 (F := Ideal) y g (ix2 r e) = rms (fun k => y (ix2 r k)) (fun k => g (ix2 0 k)) e := by
  rw [first_norm_eq]
  show normRows (F := Ideal) y (squareSums y) g (ix2 r e) = _
  rw [normRows_apply, squareSums_apply]
  rfl

theorem half_value (h : FVec Ideal S512x1024 .bf16) (wg wu : FVec Ideal S1024x1408 .bf16) (y : FVec Ideal S512x1024 .f32) (wd : FVec Ideal S1408x1024 .bf16) (r : Fin 512) (e : Fin 1024) :
    k0_pay2 (F := Ideal) h wg wu y wd (ix2 r e)
      = y (ix2 r e) + ∑ j : Fin 1408, hidden (fun k => h (ix2 r k)) (fun k => wg (ix2 k j)) (fun k => wu (ix2 k j)) * wd (ix2 j e) := by
  rw [half_eq, fedHalf_apply]
  refine congrArg (y (ix2 r e) + ·) (Finset.sum_congr rfl fun j _ => ?_)
  rw [gatedHalf_apply, againstHalf_apply, againstHalf_apply]
  rfl

theorem sum_value (x : FVec Ideal S512x1024 .f32) (a : FVec Ideal S512x256 .bf16) (wa : FVec Ideal S1x256x1024 .bf16) (b : FVec Ideal S512x256 .bf16) (wb : FVec Ideal S1x256x1024 .bf16)
    (c : FVec Ideal S512x256 .bf16) (wc : FVec Ideal S1x256x1024 .bf16) (d : FVec Ideal S512x256 .bf16) (wd : FVec Ideal S1x256x1024 .bf16) (r : Fin 512) (e : Fin 1024) :
    k0_pay4 (F := Ideal) x a wa b wb c wc d wd (ix2 r e)
      = x (ix2 r e) + (∑ k : Fin 256, a (ix2 r k) * wa (ix3 0 k e)) + (∑ k : Fin 256, b (ix2 r k) * wb (ix3 0 k e)) + (∑ k : Fin 256, c (ix2 r k) * wc (ix3 0 k e))
        + ∑ k : Fin 256, d (ix2 r k) * wd (ix3 0 k e) := by
  rw [sum_eq]
  simp only [addf_apply, under_apply]
  rfl

end Cert.Post
-- ==== Proof.PostBlocks.lean ====
/-
  What the call finds in its operands and what each grid point stages of them, entry by entry.
-/
module

public import proofs.«01_k».proof.Proof.Gen.Kernel2Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Post

open Idealize.ShloMosaic Idealize.ShloMosaic.TcCoe
open Cert.Kernel2Ideal Cert.Kernel2Ideal.Gen

/-! ## The host's terms -/

section Terms

variable {F : FTy → Type} [FloatOps F]

/-- The tokens' rows. -/
def hostRows (x : FVec F S2x16384x1024 .f32) : FVec F S32768x1024 .f32 := shapeCast S32768x1024 x Facts₀.shapeCasts_S2x16384x1024_S32768x1024

/-- A mixer's outputs. -/
def hostMixer (x : FVec F S2x16384x256 .f32) : FVec F S32768x256 .bf16 := shapeCast S32768x256 (truncf .bf16 x bitsLt_bf16_f32) Facts₀.shapeCasts_S2x16384x256_S32768x256

/-- The output projection, a quarter for each mixer. -/
def hostOutput (x : FVec F S1024x1024 .f32) : FVec F S4x256x1024 .bf16 := truncf .bf16 (shapeCast S4x256x1024 x Facts₀.shapeCasts_S1024x1024_S4x256x1024) bitsLt_bf16_f32

/-- Gains. -/
def hostGains (x : FVec F S1024 .f32) : FVec F S1x1024 .f32 := shapeCast S1x1024 x Facts₀.shapeCasts_S1024_S1x1024

/-- The feed-forward's first two matrices. -/
def hostUp (x : FVec F S1024x2816 .f32) : FVec F S1024x2816 .bf16 := truncf .bf16 x bitsLt_bf16_f32

/-- The feed-forward's last matrix. -/
def hostDown (x : FVec F S2816x1024 .f32) : FVec F S2816x1024 .bf16 := truncf .bf16 x bitsLt_bf16_f32

variable (m : (ℓ : Loc nD τ sig) → Buf (Elt F) ℓ) (c : Dev nD)

set_option maxRecDepth 200000 in
set_option maxHeartbeats 4000000 in
theorem V_rows : V m c main_v6 = hostRows (m ((c : Thread nD τ).loc main_arg0)) := by
  show StableHlo.after hostOps0 _ _ = _
  after_results
  rfl

set_option maxRecDepth 200000 in
set_option maxHeartbeats 4000000 in
theorem V_mixer1 : V m c main_v8 = hostMixer (m ((c : Thread nD τ).loc main_arg1)) := by
  show StableHlo.after hostOps0 _ _ = _
  after_results
  rfl

set_option maxRecDepth 200000 in
set_option maxHeartbeats 4000000 in
theorem V_mixer2 : V m c main_v10 = hostMixer (m ((c : Thread nD τ).loc main_arg2)) := by
  show StableHlo.after hostOps0 _ _ = _
  after_results
  rfl

set_option maxRecDepth 200000 in
set_option maxHeartbeats 4000000 in
theorem V_mixer3 : V m c main_v12 = hostMixer (m ((c : Thread nD τ).loc main_arg3)) := by
  show StableHlo.after hostOps0 _ _ = _
  after_results
  rfl

set_option maxRecDepth 200000 in
set_option maxHeartbeats 4000000 in
theorem V_mixer4 : V m c main_v14 = hostMixer (m ((c : Thread nD τ).loc main_arg4)) := by
  show StableHlo.after hostOps0 _ _ = _
  after_results
  rfl

set_option maxRecDepth 200000 in
set_option maxHeartbeats 4000000 in
theorem V_output : V m c main_v1 = hostOutput (m ((c : Thread nD τ).loc main_arg5)) := by
  show StableHlo.after hostOps0 _ _ = _
  after_results
  rfl

set_option maxRecDepth 200000 in
set_option maxHeartbeats 4000000 in
theorem V_gains : V m c main_v5 = hostGains (m ((c : Thread nD τ).loc main_arg6)) := by
  show StableHlo.after hostOps0 _ _ = _
  after_results
  rfl

set_option maxRecDepth 200000 in
set_option maxHeartbeats 4000000 in
theorem V_gate : V m c main_v2 = hostUp (m ((c : Thread nD τ).loc main_arg7)) := by
  show StableHlo.after hostOps0 _ _ = _
  after_results
  rfl

set_option maxRecDepth 200000 in
set_option maxHeartbeats 4000000 in
theorem V_up : V m c main_v3 = hostUp (m ((c : Thread nD τ).loc main_arg8)) := by
  show StableHlo.after hostOps0 _ _ = _
  after_results
  rfl

set_option maxRecDepth 200000 in
set_option maxHeartbeats 4000000 in
theorem V_down : V m c main_v4 = hostDown (m ((c : Thread nD τ).loc main_arg9)) := by
  show StableHlo.after hostOps0 _ _ = _
  after_results
  rfl

set_option maxRecDepth 200000 in
set_option maxHeartbeats 4000000 in
theorem V_last : V m c main_v15 = hostGains (m ((c : Thread nD τ).loc main_arg10)) := by
  show StableHlo.after hostOps0 _ _ = _
  after_results
  rfl

end Terms

/-! ## The host's terms at an index -/

theorem hostRows_apply (x : FVec Ideal S2x16384x1024 .f32) (i : Fin 2) (n : Fin 16384) (e : Fin 1024) : hostRows x (ix2 ⟨16384 * i.val + n.val, by omega⟩ e) = x (ix3 i n e) := by
  pointwise [hostRows]

theorem hostMixer_apply (x : FVec Ideal S2x16384x256 .f32) (i : Fin 2) (n : Fin 16384) (k : Fin 256) : hostMixer x (ix2 ⟨16384 * i.val + n.val, by omega⟩ k) = x (ix3 i n k) := by
  pointwise [hostMixer]

theorem hostOutput_apply (x : FVec Ideal S1024x1024 .f32) (q : Fin 4) (k : Fin 256) (e : Fin 1024) : hostOutput x (ix3 q k e) = x (ix2 ⟨256 * q.val + k.val, by omega⟩ e) := by
  pointwise [hostOutput]
  congr 2
  exact Fin.ext (by show q.val * 256 + k.val = 256 * q.val + k.val; omega)

theorem hostGains_apply (x : FVec Ideal S1024 .f32) (k : Fin 1024) : hostGains x (ix2 0 k) = x (ix1 k) := by
  pointwise [hostGains]

/-! ## A point's blocks -/

/-- Which block of each array a point stages. -/
theorem idx : ∀ t : Fin grid0.N, win0_0.index t = ![t.val / 2, 0] ∧ win0_1.index t = ![t.val / 2, 0] ∧ win0_2.index t = ![t.val / 2, 0] ∧ win0_3.index t = ![t.val / 2, 0]
    ∧ win0_4.index t = ![t.val / 2, 0] ∧ win0_5.index t = ![0, 0, 0] ∧ win0_6.index t = ![0, 0] ∧ win0_7.index t = ![0, t.val % 2] ∧ win0_8.index t = ![0, t.val % 2]
    ∧ win0_9.index t = ![t.val % 2, 0] ∧ win0_10.index t = ![0, 0] := by decide +kernel

section Blocks

variable (t : Fin cfg0.N)

theorem read_rows (X : FVec Ideal S32768x1024 .f32) (r : Fin 512) (k : Fin 1024) (j : S32768x1024.Idx) (h0 : (j 0).val = 512 * (t.val / 2) + r.val) (h1 : (j 1).val = k.val) :
    (((cfg0.win 0).blk t).view.read (Elt Ideal) X : Vec Ideal S512x1024 .f32) (ix2 r k) = X j := by
  have hi := (idx t).1
  rw [View.read_apply]
  show X _ = X _
  congr 1
  funext a
  apply Fin.ext
  match a with
  | ⟨0, _⟩ => show win0_0.index t 0 * 512 + 1 * r.val = (j 0).val; rw [hi, h0]; show (t.val / 2) * 512 + 1 * r.val = _; omega
  | ⟨1, _⟩ => show win0_0.index t 1 * 1024 + 1 * k.val = (j 1).val; rw [hi, h1]; show (0) * 1024 + 1 * k.val = _; omega

theorem read_mixer1 (X : FVec Ideal S32768x256 .bf16) (r : Fin 512) (k : Fin 256) (j : S32768x256.Idx) (h0 : (j 0).val = 512 * (t.val / 2) + r.val) (h1 : (j 1).val = k.val) :
    (((cfg0.win 1).blk t).view.read (Elt Ideal) X : Vec Ideal S512x256 .bf16) (ix2 r k) = X j := by
  have hi := (idx t).2.1
  rw [View.read_apply]
  show X _ = X _
  congr 1
  funext a
  apply Fin.ext
  match a with
  | ⟨0, _⟩ => show win0_1.index t 0 * 512 + 1 * r.val = (j 0).val; rw [hi, h0]; show (t.val / 2) * 512 + 1 * r.val = _; omega
  | ⟨1, _⟩ => show win0_1.index t 1 * 256 + 1 * k.val = (j 1).val; rw [hi, h1]; show (0) * 256 + 1 * k.val = _; omega

theorem read_mixer2 (X : FVec Ideal S32768x256 .bf16) (r : Fin 512) (k : Fin 256) (j : S32768x256.Idx) (h0 : (j 0).val = 512 * (t.val / 2) + r.val) (h1 : (j 1).val = k.val) :
    (((cfg0.win 2).blk t).view.read (Elt Ideal) X : Vec Ideal S512x256 .bf16) (ix2 r k) = X j := by
  have hi := (idx t).2.2.1
  rw [View.read_apply]
  show X _ = X _
  congr 1
  funext a
  apply Fin.ext
  match a with
  | ⟨0, _⟩ => show win0_2.index t 0 * 512 + 1 * r.val = (j 0).val; rw [hi, h0]; show (t.val / 2) * 512 + 1 * r.val = _; omega
  | ⟨1, _⟩ => show win0_2.index t 1 * 256 + 1 * k.val = (j 1).val; rw [hi, h1]; show (0) * 256 + 1 * k.val = _; omega

theorem read_mixer3 (X : FVec Ideal S32768x256 .bf16) (r : Fin 512) (k : Fin 256) (j : S32768x256.Idx) (h0 : (j 0).val = 512 * (t.val / 2) + r.val) (h1 : (j 1).val = k.val) :
    (((cfg0.win 3).blk t).view.read (Elt Ideal) X : Vec Ideal S512x256 .bf16) (ix2 r k) = X j := by
  have hi := (idx t).2.2.2.1
  rw [View.read_apply]
  show X _ = X _
  congr 1
  funext a
  apply Fin.ext
  match a with
  | ⟨0, _⟩ => show win0_3.index t 0 * 512 + 1 * r.val = (j 0).val; rw [hi, h0]; show (t.val / 2) * 512 + 1 * r.val = _; omega
  | ⟨1, _⟩ => show win0_3.index t 1 * 256 + 1 * k.val = (j 1).val; rw [hi, h1]; show (0) * 256 + 1 * k.val = _; omega

theorem read_mixer4 (X : FVec Ideal S32768x256 .bf16) (r : Fin 512) (k : Fin 256) (j : S32768x256.Idx) (h0 : (j 0).val = 512 * (t.val / 2) + r.val) (h1 : (j 1).val = k.val) :
    (((cfg0.win 4).blk t).view.read (Elt Ideal) X : Vec Ideal S512x256 .bf16) (ix2 r k) = X j := by
  have hi := (idx t).2.2.2.2.1
  rw [View.read_apply]
  show X _ = X _
  congr 1
  funext a
  apply Fin.ext
  match a with
  | ⟨0, _⟩ => show win0_4.index t 0 * 512 + 1 * r.val = (j 0).val; rw [hi, h0]; show (t.val / 2) * 512 + 1 * r.val = _; omega
  | ⟨1, _⟩ => show win0_4.index t 1 * 256 + 1 * k.val = (j 1).val; rw [hi, h1]; show (0) * 256 + 1 * k.val = _; omega

theorem read_output (X : FVec Ideal S4x256x1024 .bf16) (r : Fin 4) (k : Fin 256) (e : Fin 1024) (j : S4x256x1024.Idx) (h0 : (j 0).val = r.val) (h1 : (j 1).val = k.val) (h2 : (j 2).val = e.val) :
    (((cfg0.win 5).blk t).view.read (Elt Ideal) X : Vec Ideal S4x256x1024 .bf16) (ix3 r k e) = X j := by
  have hi := (idx t).2.2.2.2.2.1
  rw [View.read_apply]
  show X _ = X _
  congr 1
  funext a
  apply Fin.ext
  match a with
  | ⟨0, _⟩ => show win0_5.index t 0 * 4 + 1 * r.val = (j 0).val; rw [hi, h0]; show (0) * 4 + 1 * r.val = _; omega
  | ⟨1, _⟩ => show win0_5.index t 1 * 256 + 1 * k.val = (j 1).val; rw [hi, h1]; show (0) * 256 + 1 * k.val = _; omega
  | ⟨2, _⟩ => show win0_5.index t 2 * 1024 + 1 * e.val = (j 2).val; rw [hi, h2]; show (0) * 1024 + 1 * e.val = _; omega

theorem read_gains (X : FVec Ideal S1x1024 .f32) (r : Fin 1) (k : Fin 1024) (j : S1x1024.Idx) (h0 : (j 0).val = r.val) (h1 : (j 1).val = k.val) :
    (((cfg0.win 6).blk t).view.read (Elt Ideal) X : Vec Ideal S1x1024 .f32) (ix2 r k) = X j := by
  have hi := (idx t).2.2.2.2.2.2.1
  rw [View.read_apply]
  show X _ = X _
  congr 1
  funext a
  apply Fin.ext
  match a with
  | ⟨0, _⟩ => show win0_6.index t 0 * 1 + 1 * r.val = (j 0).val; rw [hi, h0]; show (0) * 1 + 1 * r.val = _; omega
  | ⟨1, _⟩ => show win0_6.index t 1 * 1024 + 1 * k.val = (j 1).val; rw [hi, h1]; show (0) * 1024 + 1 * k.val = _; omega

theorem read_gate (X : FVec Ideal S1024x2816 .bf16) (r : Fin 1024) (k : Fin 1408) (j : S1024x2816.Idx) (h0 : (j 0).val = r.val) (h1 : (j 1).val = 1408 * (t.val % 2) + k.val) :
    (((cfg0.win 7).blk t).view.read (Elt Ideal) X : Vec Ideal S1024x1408 .bf16) (ix2 r k) = X j := by
  have hi := (idx t).2.2.2.2.2.2.2.1
  rw [View.read_apply]
  show X _ = X _
  congr 1
  funext a
  apply Fin.ext
  match a with
  | ⟨0, _⟩ => show win0_7.index t 0 * 1024 + 1 * r.val = (j 0).val; rw [hi, h0]; show (0) * 1024 + 1 * r.val = _; omega
  | ⟨1, _⟩ => show win0_7.index t 1 * 1408 + 1 * k.val = (j 1).val; rw [hi, h1]; show (t.val % 2) * 1408 + 1 * k.val = _; omega

theorem read_up (X : FVec Ideal S1024x2816 .bf16) (r : Fin 1024) (k : Fin 1408) (j : S1024x2816.Idx) (h0 : (j 0).val = r.val) (h1 : (j 1).val = 1408 * (t.val % 2) + k.val) :
    (((cfg0.win 8).blk t).view.read (Elt Ideal) X : Vec Ideal S1024x1408 .bf16) (ix2 r k) = X j := by
  have hi := (idx t).2.2.2.2.2.2.2.2.1
  rw [View.read_apply]
  show X _ = X _
  congr 1
  funext a
  apply Fin.ext
  match a with
  | ⟨0, _⟩ => show win0_8.index t 0 * 1024 + 1 * r.val = (j 0).val; rw [hi, h0]; show (0) * 1024 + 1 * r.val = _; omega
  | ⟨1, _⟩ => show win0_8.index t 1 * 1408 + 1 * k.val = (j 1).val; rw [hi, h1]; show (t.val % 2) * 1408 + 1 * k.val = _; omega

theorem read_down (X : FVec Ideal S2816x1024 .bf16) (r : Fin 1408) (k : Fin 1024) (j : S2816x1024.Idx) (h0 : (j 0).val = 1408 * (t.val % 2) + r.val) (h1 : (j 1).val = k.val) :
    (((cfg0.win 9).blk t).view.read (Elt Ideal) X : Vec Ideal S1408x1024 .bf16) (ix2 r k) = X j := by
  have hi := (idx t).2.2.2.2.2.2.2.2.2.1
  rw [View.read_apply]
  show X _ = X _
  congr 1
  funext a
  apply Fin.ext
  match a with
  | ⟨0, _⟩ => show win0_9.index t 0 * 1408 + 1 * r.val = (j 0).val; rw [hi, h0]; show (t.val % 2) * 1408 + 1 * r.val = _; omega
  | ⟨1, _⟩ => show win0_9.index t 1 * 1024 + 1 * k.val = (j 1).val; rw [hi, h1]; show (0) * 1024 + 1 * k.val = _; omega

theorem read_last (X : FVec Ideal S1x1024 .f32) (r : Fin 1) (k : Fin 1024) (j : S1x1024.Idx) (h0 : (j 0).val = r.val) (h1 : (j 1).val = k.val) :
    (((cfg0.win 10).blk t).view.read (Elt Ideal) X : Vec Ideal S1x1024 .f32) (ix2 r k) = X j := by
  have hi := (idx t).2.2.2.2.2.2.2.2.2.2
  rw [View.read_apply]
  show X _ = X _
  congr 1
  funext a
  apply Fin.ext
  match a with
  | ⟨0, _⟩ => show win0_10.index t 0 * 1 + 1 * r.val = (j 0).val; rw [hi, h0]; show (0) * 1 + 1 * r.val = _; omega
  | ⟨1, _⟩ => show win0_10.index t 1 * 1024 + 1 * k.val = (j 1).val; rw [hi, h1]; show (0) * 1024 + 1 * k.val = _; omega

end Blocks

end Cert.Post
-- ==== Proof.PostTile.lean ====
/-
  What the two points of a tile of tokens write back: each token's result.
-/
module

public import proofs.«01_k».proof.Proof.PostCases
public import proofs.«01_k».proof.Proof.PostValue
public import proofs.«01_k».proof.Proof.PostBlocks

@[expose] public section

set_option maxRecDepth 16384

noncomputable section

namespace Cert.Post

open Idealize.ShloMosaic Idealize.ShloMosaic.TcCoe
open Cert.Kernel2Ideal Cert.Kernel2Ideal.Gen

/-! ## Over any blocks -/

theorem slab_0 (x : Vec Ideal S4x256x1024 .bf16) (k : Fin 256) (e : Fin 1024) :
    View.ld (Val := Elt Ideal) (e' := .bf16) x (Rect.unit (s := S4x256x1024) ![0, 0, 0] S1x256x1024.size inb_S4x256x1024_S1x256x1024_0_0_0) (ix3 0 k e) = x (ix3 0 k e) := by
  show x _ = x _
  congr 1
  funext a
  apply Fin.ext
  match a with
  | ⟨0, _⟩ => rfl
  | ⟨1, _⟩ => show 0 + 1 * k.val = k.val; omega
  | ⟨2, _⟩ => show 0 + 1 * e.val = e.val; omega

theorem slab_1 (x : Vec Ideal S4x256x1024 .bf16) (k : Fin 256) (e : Fin 1024) :
    View.ld (Val := Elt Ideal) (e' := .bf16) x (Rect.unit (s := S4x256x1024) ![1, 0, 0] S1x256x1024.size inb_S4x256x1024_S1x256x1024_1_0_0) (ix3 0 k e) = x (ix3 1 k e) := by
  show x _ = x _
  congr 1
  funext a
  apply Fin.ext
  match a with
  | ⟨0, _⟩ => rfl
  | ⟨1, _⟩ => show 0 + 1 * k.val = k.val; omega
  | ⟨2, _⟩ => show 0 + 1 * e.val = e.val; omega

theorem slab_2 (x : Vec Ideal S4x256x1024 .bf16) (k : Fin 256) (e : Fin 1024) :
    View.ld (Val := Elt Ideal) (e' := .bf16) x (Rect.unit (s := S4x256x1024) ![2, 0, 0] S1x256x1024.size inb_S4x256x1024_S1x256x1024_2_0_0) (ix3 0 k e) = x (ix3 2 k e) := by
  show x _ = x _
  congr 1
  funext a
  apply Fin.ext
  match a with
  | ⟨0, _⟩ => rfl
  | ⟨1, _⟩ => show 0 + 1 * k.val = k.val; omega
  | ⟨2, _⟩ => show 0 + 1 * e.val = e.val; omega

theorem slab_3 (x : Vec Ideal S4x256x1024 .bf16) (k : Fin 256) (e : Fin 1024) :
    View.ld (Val := Elt Ideal) (e' := .bf16) x (Rect.unit (s := S4x256x1024) ![3, 0, 0] S1x256x1024.size inb_S4x256x1024_S1x256x1024_3_0_0) (ix3 0 k e) = x (ix3 3 k e) := by
  show x _ = x _
  congr 1
  funext a
  apply Fin.ext
  match a with
  | ⟨0, _⟩ => rfl
  | ⟨1, _⟩ => show 0 + 1 * k.val = k.val; omega
  | ⟨2, _⟩ => show 0 + 1 * e.val = e.val; omega

/-- The residual sum again. -/
theorem residual_again (x0 : Vec Ideal S512x1024 .f32) (x1 x2 x3 x4 : Vec Ideal S512x256 .bf16) (x5 : Vec Ideal S4x256x1024 .bf16) :
    k0_pay5 x0 x1 (View.ld x5 (Rect.unit (s := S4x256x1024) ![0, 0, 0] S1x256x1024.size inb_S4x256x1024_S1x256x1024_0_0_0)) x2 (View.ld x5 (Rect.unit (s := S4x256x1024) ![1, 0, 0] S1x256x1024.size inb_S4x256x1024_S1x256x1024_1_0_0)) x3 (View.ld x5 (Rect.unit (s := S4x256x1024) ![2, 0, 0] S1x256x1024.size inb_S4x256x1024_S1x256x1024_2_0_0)) x4 (View.ld x5 (Rect.unit (s := S4x256x1024) ![3, 0, 0] S1x256x1024.size inb_S4x256x1024_S1x256x1024_3_0_0))
      = residual x0 x1 x2 x3 x4 x5 := by
  unfold k0_pay5
  rw [shapeCast_self]
  rfl

section Tile

variable {x : Fin 1024 → EReal} {a b c d : Fin 256 → EReal} {w : Fin 1024 → Fin 1024 → EReal} {g : Fin 1024 → EReal} {wg wu : Fin 1024 → Fin 2816 → EReal}
  {wd : Fin 2816 → Fin 1024 → EReal} {gf : Fin 1024 → EReal}

theorem residual_value (r : Fin 512) (x0 : FVec Ideal S512x1024 .f32) (x1 x2 x3 x4 : FVec Ideal S512x256 .bf16) (x5 : FVec Ideal S4x256x1024 .bf16)
    (h0 : ∀ k, x0 (ix2 r k) = x k) (h1 : ∀ k, x1 (ix2 r k) = a k) (h2 : ∀ k, x2 (ix2 r k) = b k) (h3 : ∀ k, x3 (ix2 r k) = c k) (h4 : ∀ k, x4 (ix2 r k) = d k)
    (h5 : ∀ (q : Fin 4) k e, x5 (ix3 q k e) = w ⟨256 * q.val + k.val, by omega⟩ e) (e : Fin 1024) :
    residual (F := Ideal) x0 x1 x2 x3 x4 x5 (ix2 r e) = mixed x a b c d w e := by
  unfold residual
  refine (sum_value _ _ _ _ _ _ _ _ _ r e).trans ?_
  unfold mixed
  refine congrArg₂ (· + ·) (congrArg₂ (· + ·) (congrArg₂ (· + ·) (congrArg₂ (· + ·) (h0 e) ?_) ?_) ?_) ?_
  · refine Finset.sum_congr rfl fun k _ => congrArg₂ (· * ·) (h1 k) ((slab_0 x5 k e).trans ((h5 0 k e).trans (congrArg (w · e) (Fin.ext ?_))))
    show 256 * 0 + k.val = k.val
    omega
  · exact Finset.sum_congr rfl fun k _ => congrArg₂ (· * ·) (h2 k) ((slab_1 x5 k e).trans (h5 1 k e))
  · exact Finset.sum_congr rfl fun k _ => congrArg₂ (· * ·) (h3 k) ((slab_2 x5 k e).trans (h5 2 k e))
  · exact Finset.sum_congr rfl fun k _ => congrArg₂ (· * ·) (h4 k) ((slab_3 x5 k e).trans (h5 3 k e))

/-- The two points together. -/
theorem token_value (r : Fin 512) (h : FVec Ideal S512x1024 .bf16) (y : FVec Ideal S512x1024 .f32) (x7 x8 z7 z8 : FVec Ideal S1024x1408 .bf16) (x9 z9 : FVec Ideal S1408x1024 .bf16) (x10 : FVec Ideal S1x1024 .f32)
    (hy : ∀ e, y (ix2 r e) = mixed x a b c d w e) (hh : ∀ e, h (ix2 r e) = rms (mixed x a b c d w) g e)
    (h7 : ∀ k (j : Fin 1408), x7 (ix2 k j) = wg k ⟨j.val, by omega⟩) (h8 : ∀ k (j : Fin 1408), x8 (ix2 k j) = wu k ⟨j.val, by omega⟩) (h9 : ∀ (j : Fin 1408) e, x9 (ix2 j e) = wd ⟨j.val, by omega⟩ e)
    (g7 : ∀ k (j : Fin 1408), z7 (ix2 k j) = wg k ⟨1408 + j.val, by omega⟩) (g8 : ∀ k (j : Fin 1408), z8 (ix2 k j) = wu k ⟨1408 + j.val, by omega⟩) (g9 : ∀ (j : Fin 1408) e, z9 (ix2 j e) = wd ⟨1408 + j.val, by omega⟩ e)
    (h10 : ∀ k, x10 (ix2 0 k) = gf k) (e : Fin 1024) :
    k0_pay3 (F := Ideal) (k0_pay2 (F := Ideal) h z7 z8 (k0_pay2 (F := Ideal) h x7 x8 y x9) z9) x10 (ix2 r e) = token x a b c d w g wg wu wd gf e := by
  refine (norm_value _ _ r e).trans ?_
  unfold token
  refine congrArg₂ (fun p q => rms p q e) (funext fun k => ?_) (funext h10)
  refine (half_value _ _ _ _ _ r k).trans ?_
  refine (congrArg (· + _) (half_value _ _ _ _ _ r k)).trans ?_
  rw [hy k, sum_two, ← add_assoc]
  have hh' : (fun k => h (ix2 r k)) = rms (mixed x a b c d w) g := funext hh
  refine congrArg₂ (· + ·) (congrArg (mixed x a b c d w k + ·) (Finset.sum_congr rfl fun j _ => ?_)) (Finset.sum_congr rfl fun j _ => ?_)
  · rw [hh', h9 j k, funext fun k => h7 k j, funext fun k => h8 k j]
  · rw [hh', g9 j k, funext fun k => g7 k j, funext fun k => g8 k j]

end Tile

/-! ## At the grid's points -/

section Points

variable (m : (ℓ : Loc nD τ sig) → Buf (Elt Ideal) ℓ) (c : Dev nD)

/-- What the second point of a tile writes back, from the blocks the two points stage. -/
theorem second_point (t p : Fin cfg0.N) (h1 : t.val % 2 = 1) (hp : p.val = t.val - 1) :
    (outsAt0 m c t.val t.isLt).1 = k0_pay3 (k0_pay2 (k0_pay1 (residual (iblk m c 0 p) (iblk m c 1 p) (iblk m c 2 p) (iblk m c 3 p) (iblk m c 4 p) (iblk m c 5 p)) (iblk m c 6 p)) (iblk m c 7 t) (iblk m c 8 t)
      (k0_pay2 (k0_pay1 (residual (iblk m c 0 p) (iblk m c 1 p) (iblk m c 2 p) (iblk m c 3 p) (iblk m c 4 p) (iblk m c 5 p)) (iblk m c 6 p)) (iblk m c 7 p) (iblk m c 8 p)
        (residual (iblk m c 0 p) (iblk m c 1 p) (iblk m c 2 p) (iblk m c 3 p) (iblk m c 4 p) (iblk m c 5 p)) (iblk m c 9 p)) (iblk m c 9 t)) (iblk m c 10 t) := by
  have ht : ¬t.val % 2 = 0 := by omega
  have hp0 : p.val % 2 = 0 := by omega
  have hp1 : ¬p.val % 2 = 1 := by omega
  have hs0 : (outsAt0 m c p.val p.isLt).2.1 = k0_pay2 (k0_pay1 (residual (iblk m c 0 p) (iblk m c 1 p) (iblk m c 2 p) (iblk m c 3 p) (iblk m c 4 p) (iblk m c 5 p)) (iblk m c 6 p)) (iblk m c 7 p) (iblk m c 8 p)
      (residual (iblk m c 0 p) (iblk m c 1 p) (iblk m c 2 p) (iblk m c 3 p) (iblk m c 4 p) (iblk m c 5 p)) (iblk m c 9 p) := by
    rw [outsAt0_A m c p hp0 hp1]
    dsimp only
    rw [first_sum, residual_again]
  have hs1 : (outsAt0 m c p.val p.isLt).2.2 = k0_pay1 (residual (iblk m c 0 p) (iblk m c 1 p) (iblk m c 2 p) (iblk m c 3 p) (iblk m c 4 p) (iblk m c 5 p)) (iblk m c 6 p) := by
    rw [outsAt0_A m c p hp0 hp1]
    dsimp only
    rw [first_rows]
  have hq : ∀ (n : ℕ) (hn : n < cfg0.N), n = p.val → outsAt0 m c n hn = outsAt0 m c p.val p.isLt := fun n hn h => by subst h; rfl
  rw [outsAt0_B m c t ht h1]
  dsimp only
  rw [second_out, hq _ _ hp.symm, hs0, hs1]

theorem block_rows (t : Fin cfg0.N) (Y : Buf (Elt Ideal) ((c : Thread nD τ).loc main_v6)) (h : V m c main_v6 = Y) : iblk m c 0 t = ((cfg0.win 0).blk t).view.read (Elt Ideal) Y := by
  subst h
  rfl
theorem block_mixer1 (t : Fin cfg0.N) (Y : Buf (Elt Ideal) ((c : Thread nD τ).loc main_v8)) (h : V m c main_v8 = Y) : iblk m c 1 t = ((cfg0.win 1).blk t).view.read (Elt Ideal) Y := by
  subst h
  rfl
theorem block_mixer2 (t : Fin cfg0.N) (Y : Buf (Elt Ideal) ((c : Thread nD τ).loc main_v10)) (h : V m c main_v10 = Y) : iblk m c 2 t = ((cfg0.win 2).blk t).view.read (Elt Ideal) Y := by
  subst h
  rfl
theorem block_mixer3 (t : Fin cfg0.N) (Y : Buf (Elt Ideal) ((c : Thread nD τ).loc main_v12)) (h : V m c main_v12 = Y) : iblk m c 3 t = ((cfg0.win 3).blk t).view.read (Elt Ideal) Y := by
  subst h
  rfl
theorem block_mixer4 (t : Fin cfg0.N) (Y : Buf (Elt Ideal) ((c : Thread nD τ).loc main_v14)) (h : V m c main_v14 = Y) : iblk m c 4 t = ((cfg0.win 4).blk t).view.read (Elt Ideal) Y := by
  subst h
  rfl
theorem block_output (t : Fin cfg0.N) (Y : Buf (Elt Ideal) ((c : Thread nD τ).loc main_v1)) (h : V m c main_v1 = Y) : iblk m c 5 t = ((cfg0.win 5).blk t).view.read (Elt Ideal) Y := by
  subst h
  rfl
theorem block_gains (t : Fin cfg0.N) (Y : Buf (Elt Ideal) ((c : Thread nD τ).loc main_v5)) (h : V m c main_v5 = Y) : iblk m c 6 t = ((cfg0.win 6).blk t).view.read (Elt Ideal) Y := by
  subst h
  rfl
theorem block_gate (t : Fin cfg0.N) (Y : Buf (Elt Ideal) ((c : Thread nD τ).loc main_v2)) (h : V m c main_v2 = Y) : iblk m c 7 t = ((cfg0.win 7).blk t).view.read (Elt Ideal) Y := by
  subst h
  rfl
theorem block_up (t : Fin cfg0.N) (Y : Buf (Elt Ideal) ((c : Thread nD τ).loc main_v3)) (h : V m c main_v3 = Y) : iblk m c 8 t = ((cfg0.win 8).blk t).view.read (Elt Ideal) Y := by
  subst h
  rfl
theorem block_down (t : Fin cfg0.N) (Y : Buf (Elt Ideal) ((c : Thread nD τ).loc main_v4)) (h : V m c main_v4 = Y) : iblk m c 9 t = ((cfg0.win 9).blk t).view.read (Elt Ideal) Y := by
  subst h
  rfl
theorem block_last (t : Fin cfg0.N) (Y : Buf (Elt Ideal) ((c : Thread nD τ).loc main_v15)) (h : V m c main_v15 = Y) : iblk m c 10 t = ((cfg0.win 10).blk t).view.read (Elt Ideal) Y := by
  subst h
  rfl

/-- A token's result, from the arguments. -/
def tokenAt (x : FVec Ideal S2x16384x1024 .f32) (a b c d : FVec Ideal S2x16384x256 .f32) (w : FVec Ideal S1024x1024 .f32) (g : FVec Ideal S1024 .f32)
    (wg wu : FVec Ideal S1024x2816 .f32) (wd : FVec Ideal S2816x1024 .f32) (gf : FVec Ideal S1024 .f32) (i : Fin 2) (n : Fin 16384) : Fin 1024 → EReal :=
  token (fun k => x (ix3 i n k)) (fun k => a (ix3 i n k)) (fun k => b (ix3 i n k)) (fun k => c (ix3 i n k)) (fun k => d (ix3 i n k)) (fun k e => w (ix2 k e))
    (fun k => g (ix1 k)) (fun k j => wg (ix2 k j)) (fun k j => wu (ix2 k j)) (fun j e => wd (ix2 j e)) (fun k => gf (ix1 k))

/-- The second point of a tile writes back the results of its tokens. -/
theorem point_token (t : Fin cfg0.N) (h1 : t.val % 2 = 1) (r : Fin 512) (e : Fin 1024) (i : Fin 2) (n : Fin 16384) (hr : 16384 * i.val + n.val = 512 * (t.val / 2) + r.val) :
    (outsAt0 m c t.val t.isLt).1 (ix2 r e) = tokenAt (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))
      (m ((c : Thread nD τ).loc main_arg9)) (m ((c : Thread nD τ).loc main_arg10)) i n e := by
  have hlt : t.val - 1 < cfg0.N := Nat.lt_of_le_of_lt (Nat.sub_le _ _) t.isLt
  have hr' : 16384 * i.val + n.val = 512 * ((t.val - 1) / 2) + r.val := by omega
  have hm : (t.val - 1) % 2 = 0 := by omega
  rw [second_point m c t ⟨t.val - 1, hlt⟩ h1 rfl]
  rw [block_rows m c _ _ (V_rows m c), block_mixer1 m c _ _ (V_mixer1 m c), block_mixer2 m c _ _ (V_mixer2 m c), block_mixer3 m c _ _ (V_mixer3 m c), block_mixer4 m c _ _ (V_mixer4 m c),
    block_output m c _ _ (V_output m c), block_gains m c _ _ (V_gains m c), block_gate m c t _ (V_gate m c), block_gate m c ⟨t.val - 1, hlt⟩ _ (V_gate m c), block_up m c t _ (V_up m c),
    block_up m c ⟨t.val - 1, hlt⟩ _ (V_up m c), block_down m c t _ (V_down m c), block_down m c ⟨t.val - 1, hlt⟩ _ (V_down m c), block_last m c _ _ (V_last m c)]
  have hres := residual_value (w := fun k e => (m ((c : Thread nD τ).loc main_arg5) : FVec Ideal S1024x1024 .f32) (ix2 k e)) r _ _ _ _ _ _
    (fun k => (read_rows ⟨t.val - 1, hlt⟩ _ r k (ix2 ⟨16384 * i.val + n.val, by omega⟩ k) hr' rfl).trans (hostRows_apply (m ((c : Thread nD τ).loc main_arg0)) i n k))
    (fun k => (read_mixer1 ⟨t.val - 1, hlt⟩ _ r k (ix2 ⟨16384 * i.val + n.val, by omega⟩ k) hr' rfl).trans (hostMixer_apply (m ((c : Thread nD τ).loc main_arg1)) i n k))
    (fun k => (read_mixer2 ⟨t.val - 1, hlt⟩ _ r k (ix2 ⟨16384 * i.val + n.val, by omega⟩ k) hr' rfl).trans (hostMixer_apply (m ((c : Thread nD τ).loc main_arg2)) i n k))
    (fun k => (read_mixer3 ⟨t.val - 1, hlt⟩ _ r k (ix2 ⟨16384 * i.val + n.val, by omega⟩ k) hr' rfl).trans (hostMixer_apply (m ((c : Thread nD τ).loc main_arg3)) i n k))
    (fun k => (read_mixer4 ⟨t.val - 1, hlt⟩ _ r k (ix2 ⟨16384 * i.val + n.val, by omega⟩ k) hr' rfl).trans (hostMixer_apply (m ((c : Thread nD τ).loc main_arg4)) i n k))
    (fun q k e => (read_output ⟨t.val - 1, hlt⟩ _ q k e (ix3 q k e) rfl rfl rfl).trans (hostOutput_apply (m ((c : Thread nD τ).loc main_arg5)) q k e))
  unfold tokenAt
  refine token_value r _ _ _ _ _ _ _ _ _ hres (fun e => (first_norm_value _ _ r e).trans (congrArg₂ (fun p q => rms p q e) (funext hres)
      (funext fun k => (read_gains ⟨t.val - 1, hlt⟩ _ 0 k (ix2 0 k) rfl rfl).trans (hostGains_apply (m ((c : Thread nD τ).loc main_arg6)) k))))
    (fun k j => (read_gate ⟨t.val - 1, hlt⟩ (hostUp (m ((c : Thread nD τ).loc main_arg7))) k j (ix2 k ⟨j.val, by omega⟩) rfl ?_).trans rfl)
    (fun k j => (read_up ⟨t.val - 1, hlt⟩ (hostUp (m ((c : Thread nD τ).loc main_arg8))) k j (ix2 k ⟨j.val, by omega⟩) rfl ?_).trans rfl)
    (fun j e => (read_down ⟨t.val - 1, hlt⟩ (hostDown (m ((c : Thread nD τ).loc main_arg9))) j e (ix2 ⟨j.val, by omega⟩ e) ?_ rfl).trans rfl)
    (fun k j => (read_gate t (hostUp (m ((c : Thread nD τ).loc main_arg7))) k j (ix2 k ⟨1408 + j.val, by omega⟩) rfl ?_).trans rfl)
    (fun k j => (read_up t (hostUp (m ((c : Thread nD τ).loc main_arg8))) k j (ix2 k ⟨1408 + j.val, by omega⟩) rfl ?_).trans rfl)
    (fun j e => (read_down t (hostDown (m ((c : Thread nD τ).loc main_arg9))) j e (ix2 ⟨1408 + j.val, by omega⟩ e) ?_ rfl).trans rfl)
    (fun k => (read_last t _ 0 k (ix2 0 k) rfl rfl).trans (hostGains_apply (m ((c : Thread nD τ).loc main_arg10)) k)) e
  · show j.val = 1408 * ((t.val - 1) % 2) + j.val
    omega
  · show j.val = 1408 * ((t.val - 1) % 2) + j.val
    omega
  · show j.val = 1408 * ((t.val - 1) % 2) + j.val
    omega
  · show 1408 + j.val = 1408 * (t.val % 2) + j.val
    omega
  · show 1408 + j.val = 1408 * (t.val % 2) + j.val
    omega
  · show 1408 + j.val = 1408 * (t.val % 2) + j.val
    omega

end Points

end Cert.Post
-- ==== Proof.PostReference.lean ====
/-
  The reference's result, token by token.
-/
module

public import proofs.«01_k».proof.Proof.Gen.Reference2Ideal.Run
public import proofs.«01_k».proof.Proof.PostSpec
public import Idealize.ShloMosaic.Lib.Pointwise
public import Idealize.ShloMosaic.Lib.Claim

@[expose] public section

set_option maxRecDepth 16384

noncomputable section

namespace Cert.Post.Reference

open Cert.Reference2Ideal Cert.Reference2Ideal.Gen
open Idealize.ShloMosaic Idealize.ShloMosaic.TcCoe Idealize.SL.Sem

/-! ## The reference's terms -/

section Terms

variable {F : FTy → Type} [FloatOps F]

/-- The mixers' outputs side by side. -/
def sideBySide (a b c d : FVec F S2x16384x256 .f32) : FVec F S2x16384x1024 .f32 :=
  concatenate S2x16384x1024 2 [⟨S2x16384x256, a⟩, ⟨S2x16384x256, b⟩, ⟨S2x16384x256, c⟩, ⟨S2x16384x256, d⟩] concatenates_S2x16384x256_S2x16384x256_S2x16384x256_S2x16384x256_S2x16384x1024_d2

/-- The tokens' rows plus the projected outputs. -/
def projected (x y : FVec F S2x16384x1024 .f32) (w : FVec F S1024x1024 .f32) : FVec F S2x16384x1024 .f32 :=
  addf x (Host.dotGeneral dot_S2x16384x1024_S1024x1024_S2x16384x1024_2_0_01_1_n_n none y w)

/-- The sum of each row's squares. -/
def squares (y : FVec F S2x16384x1024 .f32) : FVec F S2x16384 .f32 :=
  Host.reduceAdd (mulf y y) (constant S_ .f32 0x00000000#32) reducesTo_S2x16384x1024_S2x16384_d2 h_S_

/-- Each row over the root of the mean of its squares, times the gains, from the sums of squares. -/
def normalized (y : FVec F S2x16384x1024 .f32) (s : FVec F S2x16384 .f32) (g : FVec F S1024 .f32) : FVec F S2x16384x1024 .f32 :=
  mulf (mulf y (broadcastInDim S2x16384x1024 ![0, 1, 2] bcast_S2x16384x1_S2x16384x1024_0_1_2
      (Host.rsqrt (addf (Host.divf (broadcastInDim S2x16384x1 ![0, 1] bcast_S2x16384_S2x16384x1_0_1 s)
        (broadcastInDim S2x16384x1 ![] bcast_S_S2x16384x1 (constant S_ .f32 0x44800000#32)))
        (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The rows against a matrix of the feed-forward. -/
def against (h : FVec F S2x16384x1024 .f32) (w : FVec F S1024x2816 .f32) : FVec F S2x16384x2816 .f32 :=
  Host.dotGeneral dot_S2x16384x1024_S1024x2816_S2x16384x2816_2_0_01_1_n_n none h w

/-- The hidden entries. -/
def gatedBy (z u : FVec F S2x16384x2816 .f32) : FVec F S2x16384x2816 .f32 :=
  mulf (mulf z (Host.divf (broadcastInDim S2x16384x2816 ![] bcast_S_S2x16384x2816 (constant S_ .f32 0x3F800000#32))
    (addf (broadcastInDim S2x16384x2816 ![] bcast_S_S2x16384x2816 (constant S_ .f32 0x3F800000#32)) (Host.exp (Host.negf z))))) u

/-- The rows plus the feed-forward. -/
def fed (y : FVec F S2x16384x1024 .f32) (z : FVec F S2x16384x2816 .f32) (w : FVec F S2816x1024 .f32) : FVec F S2x16384x1024 .f32 :=
  addf y (Host.dotGeneral dot_S2x16384x2816_S2816x1024_S2x16384x1024_2_0_01_1_n_n none z w)

/-- The table of tokens. -/
def table (y : FVec F S2x16384x1024 .f32) : FVec F S32768x1024 .f32 := shapeCast S32768x1024 y shapeCasts_S2x16384x1024_S32768x1024

/-- The rows normalized. -/
def norm (y : FVec F S2x16384x1024 .f32) (g : FVec F S1024 .f32) : FVec F S2x16384x1024 .f32 := normalized y (squares y) g

/-- The feed-forward added to the rows. -/
def feed (y h : FVec F S2x16384x1024 .f32) (wg wu : FVec F S1024x2816 .f32) (wd : FVec F S2816x1024 .f32) : FVec F S2x16384x1024 .f32 :=
  fed y (gatedBy (against h wg) (against h wu)) wd

/-- The whole. -/
def whole (x : FVec F S2x16384x1024 .f32) (a b c d : FVec F S2x16384x256 .f32) (w : FVec F S1024x1024 .f32) (g : FVec F S1024 .f32)
    (wg wu : FVec F S1024x2816 .f32) (wd : FVec F S2816x1024 .f32) (gf : FVec F S1024 .f32) : FVec F S2x16384x1024 .f32 :=
  norm (feed (projected x (sideBySide a b c d) w) (norm (projected x (sideBySide a b c d) w) g) wg wu wd) gf

end Terms

/-! ## At an entry -/

theorem side_0 (a b c d : FVec Ideal S2x16384x256 .f32) (i : Fin 2) (n : Fin 16384) (k : Fin 256) : sideBySide a b c d (ix3 i n ⟨k.val, by omega⟩) = a (ix3 i n k) := by
  pointwise [sideBySide]
theorem side_1 (a b c d : FVec Ideal S2x16384x256 .f32) (i : Fin 2) (n : Fin 16384) (k : Fin 256) : sideBySide a b c d (ix3 i n ⟨256 + k.val, by omega⟩) = b (ix3 i n k) := by
  pointwise [sideBySide]
theorem side_2 (a b c d : FVec Ideal S2x16384x256 .f32) (i : Fin 2) (n : Fin 16384) (k : Fin 256) : sideBySide a b c d (ix3 i n ⟨512 + k.val, by omega⟩) = c (ix3 i n k) := by
  pointwise [sideBySide]
  rw [dif_neg (by omega), dif_neg (by omega), dif_pos (by omega)]
  exact congrArg (fun z => c (ix3 i n z)) (Fin.ext (by show 512 + k.val - 256 - 256 = k.val; omega))
theorem side_3 (a b c d : FVec Ideal S2x16384x256 .f32) (i : Fin 2) (n : Fin 16384) (k : Fin 256) : sideBySide a b c d (ix3 i n ⟨768 + k.val, by omega⟩) = d (ix3 i n k) := by
  pointwise [sideBySide]
  rw [dif_neg (by omega), dif_neg (by omega), dif_neg (by omega)]
  exact congrArg (fun z => d (ix3 i n z)) (Fin.ext (by show 768 + k.val - 256 - 256 - 256 = k.val; omega))

theorem projected_apply (x y : FVec Ideal S2x16384x1024 .f32) (w : FVec Ideal S1024x1024 .f32) (i : Fin 2) (n : Fin 16384) (e : Fin 1024) :
    projected x y w (ix3 i n e) = x (ix3 i n e) + ∑ k : Fin 1024, y (ix3 i n k) * w (ix2 k e) := by
  pointwise [projected]

theorem squares_apply (y : FVec Ideal S2x16384x1024 .f32) (i : Fin 2) (n : Fin 16384) : squares y (ix2 i n) = ∑ k : Fin 1024, y (ix3 i n k) * y (ix3 i n k) := by
  pointwise [squares]

theorem normalized_apply (y : FVec Ideal S2x16384x1024 .f32) (s : FVec Ideal S2x16384 .f32) (g : FVec Ideal S1024 .f32) (i : Fin 2) (n : Fin 16384) (e : Fin 1024) :
    normalized y s g (ix3 i n e) = y (ix3 i n e) * Ideal.rsqrt (Ideal.div (s (ix2 i n)) (Ideal.ofBits .f32 0x44800000#32) + Ideal.ofBits .f32 0x358637BD#32) * g (ix1 e) := by
  pointwise [normalized]

theorem against_apply (h : FVec Ideal S2x16384x1024 .f32) (w : FVec Ideal S1024x2816 .f32) (i : Fin 2) (n : Fin 16384) (j : Fin 2816) :
    against h w (ix3 i n j) = ∑ k : Fin 1024, h (ix3 i n k) * w (ix2 k j) := by
  pointwise [against]

theorem bits_one : Ideal.ofBits .f32 0x3F800000#32 = 1 := by
  refine Eq.trans ?_ EReal.coe_one
  simp [Ideal.ofBits, Ideal.ieee, -EReal.coe_mul]
  norm_num

theorem gatedBy_apply (z u : FVec Ideal S2x16384x2816 .f32) (i : Fin 2) (n : Fin 16384) (j : Fin 2816) :
    gatedBy z u (ix3 i n j) = swish (z (ix3 i n j)) * u (ix3 i n j) := by
  rw [← mul_reciprocal, ← bits_one]
  pointwise [gatedBy]

theorem fed_apply (y : FVec Ideal S2x16384x1024 .f32) (z : FVec Ideal S2x16384x2816 .f32) (w : FVec Ideal S2816x1024 .f32) (i : Fin 2) (n : Fin 16384) (e : Fin 1024) :
    fed y z w (ix3 i n e) = y (ix3 i n e) + ∑ j : Fin 2816, z (ix3 i n j) * w (ix2 j e) := by
  pointwise [fed]

theorem table_apply (y : FVec Ideal S2x16384x1024 .f32) (i : Fin 2) (n : Fin 16384) (e : Fin 1024) : table y (ix2 ⟨16384 * i.val + n.val, by omega⟩ e) = y (ix3 i n e) := by
  pointwise [table]

theorem norm_apply (y : FVec Ideal S2x16384x1024 .f32) (g : FVec Ideal S1024 .f32) (i : Fin 2) (n : Fin 16384) (e : Fin 1024) :
    norm y g (ix3 i n e) = rms (fun k => y (ix3 i n k)) (fun k => g (ix1 k)) e := by
  unfold norm
  rw [normalized_apply, squares_apply]
  rfl

theorem feed_apply (y h : FVec Ideal S2x16384x1024 .f32) (wg wu : FVec Ideal S1024x2816 .f32) (wd : FVec Ideal S2816x1024 .f32) (i : Fin 2) (n : Fin 16384) (e : Fin 1024) :
    feed y h wg wu wd (ix3 i n e)
      = y (ix3 i n e) + ∑ j : Fin 2816, hidden (fun k => h (ix3 i n k)) (fun k => wg (ix2 k j)) (fun k => wu (ix2 k j)) * wd (ix2 j e) := by
  unfold feed
  rw [fed_apply]
  refine congrArg (y (ix3 i n e) + ·) (Finset.sum_congr rfl fun j _ => ?_)
  rw [gatedBy_apply, against_apply, against_apply]
  rfl

theorem mixed_apply (x : FVec Ideal S2x16384x1024 .f32) (a b c d : FVec Ideal S2x16384x256 .f32) (w : FVec Ideal S1024x1024 .f32) (i : Fin 2) (n : Fin 16384) (e : Fin 1024) :
    projected x (sideBySide a b c d) w (ix3 i n e)
      = mixed (fun k => x (ix3 i n k)) (fun k => a (ix3 i n k)) (fun k => b (ix3 i n k)) (fun k => c (ix3 i n k)) (fun k => d (ix3 i n k)) (fun k e => w (ix2 k e)) e := by
  rw [projected_apply, sum_four]
  simp only [side_0, side_1, side_2, side_3]
  unfold mixed
  simp only [add_assoc]

theorem whole_apply (x : FVec Ideal S2x16384x1024 .f32) (a b c d : FVec Ideal S2x16384x256 .f32) (w : FVec Ideal S1024x1024 .f32) (g : FVec Ideal S1024 .f32)
    (wg wu : FVec Ideal S1024x2816 .f32) (wd : FVec Ideal S2816x1024 .f32) (gf : FVec Ideal S1024 .f32) (i : Fin 2) (n : Fin 16384) (e : Fin 1024) :
    whole x a b c d w g wg wu wd gf (ix3 i n e)
      = token (fun k => x (ix3 i n k)) (fun k => a (ix3 i n k)) (fun k => b (ix3 i n k)) (fun k => c (ix3 i n k)) (fun k => d (ix3 i n k)) (fun k e => w (ix2 k e))
          (fun k => g (ix1 k)) (fun k j => wg (ix2 k j)) (fun k j => wu (ix2 k j)) (fun j e => wd (ix2 j e)) (fun k => gf (ix1 k)) e := by
  unfold whole token
  rw [norm_apply]
  congr 1
  funext e
  rw [feed_apply, mixed_apply]
  simp only [norm_apply, mixed_apply]

/-- The reference's composed term. -/
theorem result_eq {F : FTy → Type} [FloatOps F] (m : (ℓ : Loc nD τ sig) → Buf (Elt F) ℓ) (c : Dev nD) :
    Cert.Reference2Ideal.Value.res_main_v35 m c = table (whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))) := by
  unfold Cert.Reference2Ideal.Value.res_main_v35 table whole norm feed fed gatedBy against normalized squares projected sideBySide
  rfl

end Cert.Post.Reference
-- ==== Proof.PostAlgebraic.lean ====
/-
  The value claim of a layer's last half: the idealized call and the reference end with the same table of tokens.
-/
module

public import proofs.«01_k».proof.Defs
public import proofs.«01_k».proof.Proof.PostTile
public import proofs.«01_k».proof.Proof.PostReference
public import proofs.«01_k».proof.Proof.Gen.Reference2Ideal
public import proofs.«01_k».proof.Proof.Gen.Reference2Ideal.Run
public import Idealize.ShloMosaic.Lib.Claim

@[expose] public section

set_option maxRecDepth 16384

noncomputable section

namespace Cert.Post

open Idealize.ShloMosaic Idealize.ShloMosaic.TcCoe Idealize.SL.Sem

section Call

open Cert.Kernel2Ideal Cert.Kernel2Ideal.Gen

/-- The results of all tokens, from the arguments. -/
def tokens (x : FVec Ideal S2x16384x1024 .f32) (a b c d : FVec Ideal S2x16384x256 .f32) (w : FVec Ideal S1024x1024 .f32) (g : FVec Ideal S1024 .f32)
    (wg wu : FVec Ideal S1024x2816 .f32) (wd : FVec Ideal S2816x1024 .f32) (gf : FVec Ideal S1024 .f32) : Vec Ideal S32768x1024 .f32 := fun j =>
  tokenAt x a b c d w g wg wu wd gf ⟨(j 0).val / 16384, Nat.div_lt_of_lt_mul (j 0).isLt⟩ ⟨(j 0).val % 16384, Nat.mod_lt _ (by decide)⟩ (j 1)

variable (m : (ℓ : Loc nD τ sig) → Buf (Elt Ideal) ℓ) (c : Dev nD)

/-- The results of all tokens, from what the arguments hold. -/
def result : Vec Ideal S32768x1024 .f32 :=
  tokens (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10))

/-- After the call its array holds every token's result. -/
theorem array_tokens : Cert.Kernel2Ideal.Value.G11 m c = result m c := by
  funext j
  have h0 : (j 0).val < 32768 := (j 0).isLt
  have h1 : (j 1).val < 1024 := (j 1).isLt
  have hpt : Cert.Kernel2Ideal.Value.pt11Of j = 2 * ((j 0).val / 512) + 1 := by
    show 2 * (1 * ((j 0).val / 512 - 0) + 1 * ((j 1).val / 1024 - 0)) + 1 = _
    omega
  have hN : Cert.Kernel2Ideal.Value.pt11Of j < cfg0.N := by
    rw [hpt, show cfg0.N = 128 from N_0]
    omega
  have hloc : Cert.Kernel2Ideal.Value.loc11Of j = ix2 ⟨(j 0).val % 512, Nat.mod_lt _ (by decide)⟩ (j 1) := by
    funext a
    apply Fin.ext
    match a with
    | ⟨0, _⟩ => rfl
    | ⟨1, _⟩ => exact Nat.mod_eq_of_lt h1
  unfold Cert.Kernel2Ideal.Value.G11
  rw [dif_pos hN, ← Cert.Kernel2Ideal.Value.outsAt0_sweep m c _ hN, hloc]
  exact point_token m c ⟨_, hN⟩ (by show Cert.Kernel2Ideal.Value.pt11Of j % 2 = 1; omega) _ (j 1) ⟨(j 0).val / 16384, Nat.div_lt_of_lt_mul (j 0).isLt⟩ ⟨(j 0).val % 16384, Nat.mod_lt _ (by decide)⟩ (by
    show 16384 * ((j 0).val / 16384) + (j 0).val % 16384 = 512 * (Cert.Kernel2Ideal.Value.pt11Of j / 2) + (j 0).val % 512
    omega)

end Call

section Reference

open Cert.Reference2Ideal Cert.Post.Reference

/-- The reference's composed term is every token's result. -/
theorem reference_tokens (x : FVec Ideal S2x16384x1024 .f32) (a b c d : FVec Ideal S2x16384x256 .f32) (w : FVec Ideal S1024x1024 .f32) (g : FVec Ideal S1024 .f32)
    (wg wu : FVec Ideal S1024x2816 .f32) (wd : FVec Ideal S2816x1024 .f32) (gf : FVec Ideal S1024 .f32) :
    table (whole x a b c d w g wg wu wd gf) = tokens x a b c d w g wg wu wd gf := by
  funext j
  have h0 : (j 0).val < 32768 := (j 0).isLt
  have hj : j = ix2 ⟨16384 * ((j 0).val / 16384) + (j 0).val % 16384, by omega⟩ (j 1) :=
    (eq_ix2 j).trans (congrArg (fun k => ix2 k (j 1)) (Fin.ext (Nat.div_add_mod _ 16384).symm))
  refine (congrArg _ hj).trans ((table_apply _ ⟨(j 0).val / 16384, Nat.div_lt_of_lt_mul (j 0).isLt⟩ ⟨(j 0).val % 16384, Nat.mod_lt _ (by decide)⟩ (j 1)).trans ?_)
  exact whole_apply _ _ _ _ _ _ _ _ _ _ _ _ _ _

/-- Every execution of the reference ends with the arguments as they were and the counters at zero. -/
theorem reference_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2, sem_eq_zero_of_no_sems (by decide) r.2⟩) (Cert.Reference2Ideal.Value.run m ρ)

end Reference

/-- The two programs end with equal results. -/
theorem algebraic : Cert.algebraic_Kernel2Ideal_Reference2Ideal (hKernel2Ideal := Kernel2Ideal.Gen.facts) (hReference2Ideal := Reference2Ideal.Gen.facts) := by
  intro m g m' g' _ hargs
  refine ⟨fun c => result m c, ?_, ?_⟩
  · exact (θ_run _ _ _).mono (fun _ h c => ⟨(h c).1.trans (array_tokens m c), (h c).2⟩) (Cert.Kernel2Ideal.Value.run m g)
  · refine (θ_run _ _ _).mono (fun _ h c => ⟨(h c).1.trans ?_, (h c).2⟩) (Cert.Reference2Ideal.Value.run m' g')
    obtain ⟨e0, e1, e2, e3, e4, e5, e6, e7, e8, e9, e10⟩ := hargs c
    rw [Cert.Post.Reference.result_eq, reference_tokens, e0, e1, e2, e3, e4, e5, e6, e7, e8, e9, e10]
    rfl

end Cert.Post
-- ==== Proof.ProjBlocks.lean ====
/-
  What the projections' call finds in its operands and what each grid point stages of them, entry by entry.
-/
module

public import proofs.«01_k».proof.Proof.Gen.Kernel3Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proj

open Idealize.ShloMosaic Idealize.ShloMosaic.TcCoe
open Cert.Kernel3Ideal Cert.Kernel3Ideal.Gen

/-! ## The host's terms -/

section Terms

variable {F : FTy → Type} [FloatOps F]

/-- The rows' gains. -/
def hostGains (x : FVec F S1024 .f32) : FVec F S1x1024 .f32 := shapeCast S1x1024 x Facts₀.shapeCasts_S1024_S1x1024

/-- The latent rows' gains. -/
def hostLatentGains (x : FVec F S128 .f32) : FVec F S1x128 .f32 := shapeCast S1x128 x Facts₀.shapeCasts_S128_S1x128

/-- 256 columns of the input matrix. -/
def hostCut (o : Nat) (h : S1024x2720.Slices ![0, o] S1024x256) (w : FVec F S1024x2720 .f32) : FVec F S1024x256 .f32 := extractStridedSlice S1024x256 ![0, o] w h

/-- The latent columns. -/
def hostLatent (w : FVec F S1024x2720 .f32) : FVec F S1024x128 .f32 := extractStridedSlice S1024x128 ![0, 2560] w Facts₀.slices_S1024x2720_S1024x128_0_2560

/-- The last columns. -/
def hostLast (w : FVec F S1024x2720 .f32) : FVec F S1024x32 .f32 := extractStridedSlice S1024x32 ![0, 2688] w Facts₀.slices_S1024x2720_S1024x32_0_2688

/-- The last columns with their halves exchanged beside them, and zeros. -/
def hostTail (w : FVec F S1024x2720 .f32) : FVec F S1024x128 .f32 :=
  concatenate S1024x128 1 [⟨S1024x32, hostLast w⟩, ⟨S1024x32, concatenate S1024x32 1 [⟨S1024x16, extractStridedSlice S1024x16 ![0, 16] (hostLast w) Facts₀.slices_S1024x32_S1024x16_0_16⟩,
    ⟨S1024x16, extractStridedSlice S1024x16 ![0, 0] (hostLast w) Facts₀.slices_S1024x32_S1024x16_0_0⟩] Facts₀.concatenates_S1024x16_S1024x16_S1024x32_d1⟩,
    ⟨S1024x64, broadcastInDim S1024x64 ![] Facts₀.bcast_S_S1024x64 (constant S_ .f32 0x00000000#32 : FVec F S_ .f32)⟩] Facts₀.concatenates_S1024x32_S1024x32_S1024x64_S1024x128_d1

/-- The columns kept token by token. -/
def hostAlong (w : FVec F S1024x2720 .f32) (z : FVec F S1024x128 .f32) : FVec F S1024x1792 .bf16 :=
  truncf .bf16 (concatenate S1024x1792 1 [⟨S1024x256, hostCut 0 Facts₀.slices_S1024x2720_S1024x256_0_0 w⟩, ⟨S1024x256, hostCut 256 Facts₀.slices_S1024x2720_S1024x256_0_256 w⟩,
    ⟨S1024x256, hostCut 512 Facts₀.slices_S1024x2720_S1024x256_0_512 w⟩, ⟨S1024x256, hostCut 1024 Facts₀.slices_S1024x2720_S1024x256_0_1024 w⟩,
    ⟨S1024x256, hostCut 1792 Facts₀.slices_S1024x2720_S1024x256_0_1792 w⟩, ⟨S1024x256, hostCut 2304 Facts₀.slices_S1024x2720_S1024x256_0_2304 w⟩, ⟨S1024x128, hostLatent w⟩, ⟨S1024x128, z⟩]
    Facts₀.concatenates_S1024x256_S1024x256_S1024x256_S1024x256_S1024x256_S1024x256_S1024x128_S1024x128_S1024x1792_d1) bitsLt_bf16_f32

/-- The columns kept as tables. -/
def hostAcross (w : FVec F S1024x2720 .f32) : FVec F S1024x1024 .bf16 :=
  truncf .bf16 (transpose S1024x1024 [1, 0] (concatenate S1024x1024 1 [⟨S1024x256, hostCut 768 Facts₀.slices_S1024x2720_S1024x256_0_768 w⟩,
    ⟨S1024x256, hostCut 1280 Facts₀.slices_S1024x2720_S1024x256_0_1280 w⟩, ⟨S1024x256, hostCut 1536 Facts₀.slices_S1024x2720_S1024x256_0_1536 w⟩,
    ⟨S1024x256, hostCut 2048 Facts₀.slices_S1024x2720_S1024x256_0_2048 w⟩] Facts₀.concatenates_S1024x256_S1024x256_S1024x256_S1024x256_S1024x1024_d1)
    Facts₀.transposes_S1024x1024_S1024x1024_1_0) bitsLt_bf16_f32

/-- The values' half of each head's columns. -/
def hostHalf (u : FVec F S128x512 .f32) : FVec F S128x4x64 .f32 :=
  extractStridedSlice S128x4x64 ![0, 0, 64] (shapeCast S128x4x128 u Facts₀.shapeCasts_S128x512_S128x4x128) Facts₀.slices_S128x4x128_S128x4x64_0_0_64

/-- The values' matrix, a row for each column of the values. -/
def hostValues (u : FVec F S128x512 .f32) : FVec F S256x128 .bf16 :=
  truncf .bf16 (transpose S256x128 [1, 0] (shapeCast S128x256 (hostHalf u) Facts₀.shapeCasts_S128x4x64_S128x256) Facts₀.transposes_S128x256_S256x128_1_0) bitsLt_bf16_f32

variable (m : (ℓ : Loc nD τ sig) → Buf (Elt F) ℓ) (c : Dev nD)

set_option maxRecDepth 200000 in
set_option maxHeartbeats 4000000 in
theorem V_gains : V m c main_v110 = hostGains (m ((c : Thread nD τ).loc main_arg1)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

set_option maxRecDepth 200000 in
set_option maxHeartbeats 4000000 in
theorem V_along : V m c main_v100 = hostAlong (m ((c : Thread nD τ).loc main_arg2)) (hostTail (m ((c : Thread nD τ).loc main_arg2))) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

set_option maxRecDepth 200000 in
set_option maxHeartbeats 4000000 in
theorem V_across : V m c main_v101 = hostAcross (m ((c : Thread nD τ).loc main_arg2)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

set_option maxRecDepth 200000 in
set_option maxHeartbeats 4000000 in
theorem V_latentGains : V m c main_v109 = hostLatentGains (m ((c : Thread nD τ).loc main_arg5)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

set_option maxRecDepth 200000 in
set_option maxHeartbeats 4000000 in
theorem V_values : V m c main_v106 = hostValues (m ((c : Thread nD τ).loc main_arg6)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

end Terms

/-! ## The host's terms at an index -/

theorem hostGains_apply (x : FVec Ideal S1024 .f32) (k : Fin 1024) : hostGains x (ix2 0 k) = x (ix1 k) := by
  pointwise [hostGains]

theorem hostLatentGains_apply (x : FVec Ideal S128 .f32) (k : Fin 128) : hostLatentGains x (ix2 0 k) = x (ix1 k) := by
  pointwise [hostLatentGains]

theorem hostCut_apply (o : Nat) (h : S1024x2720.Slices ![0, o] S1024x256) (ho : o + 256 ≤ 2720) (w : FVec Ideal S1024x2720 .f32) (k : Fin 1024) (e : Fin 256) :
    hostCut o h w (ix2 k e) = w (ix2 k ⟨o + e.val, by omega⟩) := by
  unfold hostCut
  exact extractStridedSlice_apply ![0, o] _ _ (ix2 k e) (ix2 k ⟨o + e.val, by omega⟩) (fun a => match a with
    | ⟨0, _⟩ => (Nat.zero_add _).symm
    | ⟨1, _⟩ => rfl)

theorem hostAlong_0 (w : FVec Ideal S1024x2720 .f32) (z : FVec Ideal S1024x128 .f32) (k : Fin 1024) (e : Fin 256) :
    hostAlong w z (ix2 k ⟨0 + e.val, by omega⟩) = w (ix2 k ⟨0 + e.val, by omega⟩) := by
  pointwise [hostAlong]
  exact (hostCut_apply 0 _ (by decide) w k _).trans (congrArg (fun z => w (ix2 k z)) (Fin.ext (by show 0 + e.val = e.val; omega)))

theorem hostAlong_256 (w : FVec Ideal S1024x2720 .f32) (z : FVec Ideal S1024x128 .f32) (k : Fin 1024) (e : Fin 256) :
    hostAlong w z (ix2 k ⟨256 + e.val, by omega⟩) = w (ix2 k ⟨256 + e.val, by omega⟩) := by
  pointwise [hostAlong]
  exact (hostCut_apply 256 _ (by decide) w k _).trans (congrArg (fun z => w (ix2 k z)) (Fin.ext (by show 256 + e.val = 256 + e.val; omega)))

theorem hostAlong_512 (w : FVec Ideal S1024x2720 .f32) (z : FVec Ideal S1024x128 .f32) (k : Fin 1024) (e : Fin 256) :
    hostAlong w z (ix2 k ⟨512 + e.val, by omega⟩) = w (ix2 k ⟨512 + e.val, by omega⟩) := by
  pointwise [hostAlong]
  rw [dif_neg (by omega), dif_neg (by omega), dif_pos (by omega)]
  exact (hostCut_apply 512 _ (by decide) w k _).trans (congrArg (fun z => w (ix2 k z)) (Fin.ext (by show 512 + (512 + e.val - 256 - 256) = 512 + e.val; omega)))

theorem hostAlong_1024 (w : FVec Ideal S1024x2720 .f32) (z : FVec Ideal S1024x128 .f32) (k : Fin 1024) (e : Fin 256) :
    hostAlong w z (ix2 k ⟨768 + e.val, by omega⟩) = w (ix2 k ⟨1024 + e.val, by omega⟩) := by
  pointwise [hostAlong]
  rw [dif_neg (by omega), dif_neg (by omega), dif_neg (by omega), dif_pos (by omega)]
  exact (hostCut_apply 1024 _ (by decide) w k _).trans (congrArg (fun z => w (ix2 k z)) (Fin.ext (by show 1024 + (768 + e.val - 256 - 256 - 256) = 1024 + e.val; omega)))

theorem hostAlong_1792 (w : FVec Ideal S1024x2720 .f32) (z : FVec Ideal S1024x128 .f32) (k : Fin 1024) (e : Fin 256) :
    hostAlong w z (ix2 k ⟨1024 + e.val, by omega⟩) = w (ix2 k ⟨1792 + e.val, by omega⟩) := by
  pointwise [hostAlong]
  rw [dif_neg (by omega), dif_neg (by omega), dif_neg (by omega), dif_neg (by omega), dif_pos (by omega)]
  exact (hostCut_apply 1792 _ (by decide) w k _).trans (congrArg (fun z => w (ix2 k z)) (Fin.ext (by show 1792 + (1024 + e.val - 256 - 256 - 256 - 256) = 1792 + e.val; omega)))

theorem hostAlong_2560 (w : FVec Ideal S1024x2720 .f32) (z : FVec Ideal S1024x128 .f32) (k : Fin 1024) (e : Fin 128) :
    hostAlong w z (ix2 k ⟨1536 + e.val, by omega⟩) = w (ix2 k ⟨2560 + e.val, by omega⟩) := by
  pointwise [hostAlong, hostLatent]
  rw [dif_neg (by omega), dif_neg (by omega), dif_neg (by omega), dif_neg (by omega), dif_neg (by omega), dif_neg (by omega), dif_pos (by omega)]
  exact congrArg (fun z => w (ix2 k z)) (Fin.ext (by show 2560 + (1536 + e.val - 256 - 256 - 256 - 256 - 256 - 256) = 2560 + e.val; omega))

theorem hostAcross_768 (w : FVec Ideal S1024x2720 .f32) (k : Fin 1024) (e : Fin 256) :
    hostAcross w (ix2 ⟨0 + e.val, by omega⟩ k) = w (ix2 k ⟨768 + e.val, by omega⟩) := by
  pointwise [hostAcross]
  exact (hostCut_apply 768 _ (by decide) w k _).trans (congrArg (fun z => w (ix2 k z)) (Fin.ext (by show 768 + e.val = 768 + e.val; omega)))

theorem hostAcross_1280 (w : FVec Ideal S1024x2720 .f32) (k : Fin 1024) (e : Fin 256) :
    hostAcross w (ix2 ⟨256 + e.val, by omega⟩ k) = w (ix2 k ⟨1280 + e.val, by omega⟩) := by
  pointwise [hostAcross]
  exact (hostCut_apply 1280 _ (by decide) w k _).trans (congrArg (fun z => w (ix2 k z)) (Fin.ext (by show 1280 + e.val = 1280 + e.val; omega)))

theorem hostAcross_1536 (w : FVec Ideal S1024x2720 .f32) (k : Fin 1024) (e : Fin 256) :
    hostAcross w (ix2 ⟨512 + e.val, by omega⟩ k) = w (ix2 k ⟨1536 + e.val, by omega⟩) := by
  pointwise [hostAcross]
  rw [dif_neg (by omega), dif_neg (by omega), dif_pos (by omega)]
  exact (hostCut_apply 1536 _ (by decide) w k _).trans (congrArg (fun z => w (ix2 k z)) (Fin.ext (by show 1536 + (512 + e.val - 256 - 256) = 1536 + e.val; omega)))

theorem hostAcross_2048 (w : FVec Ideal S1024x2720 .f32) (k : Fin 1024) (e : Fin 256) :
    hostAcross w (ix2 ⟨768 + e.val, by omega⟩ k) = w (ix2 k ⟨2048 + e.val, by omega⟩) := by
  pointwise [hostAcross]
  rw [dif_neg (by omega), dif_neg (by omega), dif_neg (by omega)]
  exact (hostCut_apply 2048 _ (by decide) w k _).trans (congrArg (fun z => w (ix2 k z)) (Fin.ext (by show 2048 + (768 + e.val - 256 - 256 - 256) = 2048 + e.val; omega)))

theorem hostHalf_apply (u : FVec Ideal S128x512 .f32) (k : Fin 128) (p : Fin 4) (q : Fin 64) : hostHalf u (ix3 k p q) = u (ix2 k ⟨128 * p.val + 64 + q.val, by omega⟩) := by
  pointwise [hostHalf]
  exact congrArg (fun z => u (ix2 k z)) (Fin.ext (by show p.val * 128 + (64 + q.val) = 128 * p.val + 64 + q.val; omega))

theorem hostValues_apply (u : FVec Ideal S128x512 .f32) (k : Fin 128) (e : Fin 256) : hostValues u (ix2 e k) = u (ix2 k ⟨128 * (e.val / 64) + 64 + e.val % 64, by omega⟩) := by
  pointwise [hostValues, hostHalf_apply]

/-! ## A point's blocks -/

/-- Which block of each array a point stages. -/
theorem idx : ∀ t : Fin grid0.N, win0_0.index t = ![t.val / 32, t.val % 32, 0] ∧ win0_1.index t = ![0, 0] ∧ win0_2.index t = ![0, 0] ∧ win0_3.index t = ![0, 0]
    ∧ win0_6.index t = ![0, 0] ∧ win0_8.index t = ![0, 0] := by decide +kernel

section Blocks

variable (t : Fin cfg0.N)

theorem read_rows (X : FVec Ideal S2x16384x1024 .f32) (r : Fin 512) (k : Fin 1024) (b : Fin 2) (n : Fin 16384) (hb : b.val = t.val / 32) (hn : n.val = 512 * (t.val % 32) + r.val) :
    (((cfg0.win 0).blk t).view.read (Elt Ideal) X : Vec Ideal S1x512x1024 .f32) (ix3 0 r k) = X (ix3 b n k) := by
  have hi := (idx t).1
  rw [View.read_apply]
  show X _ = X _
  congr 1
  funext a
  apply Fin.ext
  match a with
  | ⟨0, _⟩ => show win0_0.index t 0 * 1 + 1 * (0 : Fin 1).val = b.val; rw [hi, hb]; show (t.val / 32) * 1 + 1 * 0 = _; omega
  | ⟨1, _⟩ => show win0_0.index t 1 * 512 + 1 * r.val = n.val; rw [hi, hn]; show (t.val % 32) * 512 + 1 * r.val = _; omega
  | ⟨2, _⟩ => show win0_0.index t 2 * 1024 + 1 * k.val = k.val; rw [hi]; show 0 * 1024 + 1 * k.val = _; omega

theorem read_gains (X : FVec Ideal S1x1024 .f32) (r : Fin 1) (k : Fin 1024) :
    (((cfg0.win 1).blk t).view.read (Elt Ideal) X : Vec Ideal S1x1024 .f32) (ix2 r k) = X (ix2 r k) := by
  have hi := (idx t).2.1
  rw [View.read_apply]
  show X _ = X _
  congr 1
  funext a
  apply Fin.ext
  match a with
  | ⟨0, _⟩ => show win0_1.index t 0 * 1 + 1 * r.val = r.val; rw [hi]; show 0 * 1 + 1 * r.val = _; omega
  | ⟨1, _⟩ => show win0_1.index t 1 * 1024 + 1 * k.val = k.val; rw [hi]; show 0 * 1024 + 1 * k.val = _; omega

theorem read_along (X : FVec Ideal S1024x1792 .bf16) (r : Fin 1024) (k : Fin 1792) :
    (((cfg0.win 2).blk t).view.read (Elt Ideal) X : Vec Ideal S1024x1792 .bf16) (ix2 r k) = X (ix2 r k) := by
  have hi := (idx t).2.2.1
  rw [View.read_apply]
  show X _ = X _
  congr 1
  funext a
  apply Fin.ext
  match a with
  | ⟨0, _⟩ => show win0_2.index t 0 * 1024 + 1 * r.val = r.val; rw [hi]; show 0 * 1024 + 1 * r.val = _; omega
  | ⟨1, _⟩ => show win0_2.index t 1 * 1792 + 1 * k.val = k.val; rw [hi]; show 0 * 1792 + 1 * k.val = _; omega

theorem read_across (X : FVec Ideal S1024x1024 .bf16) (r : Fin 1024) (k : Fin 1024) :
    (((cfg0.win 3).blk t).view.read (Elt Ideal) X : Vec Ideal S1024x1024 .bf16) (ix2 r k) = X (ix2 r k) := by
  have hi := (idx t).2.2.2.1
  rw [View.read_apply]
  show X _ = X _
  congr 1
  funext a
  apply Fin.ext
  match a with
  | ⟨0, _⟩ => show win0_3.index t 0 * 1024 + 1 * r.val = r.val; rw [hi]; show 0 * 1024 + 1 * r.val = _; omega
  | ⟨1, _⟩ => show win0_3.index t 1 * 1024 + 1 * k.val = k.val; rw [hi]; show 0 * 1024 + 1 * k.val = _; omega

theorem read_latentGains (X : FVec Ideal S1x128 .f32) (r : Fin 1) (k : Fin 128) :
    (((cfg0.win 6).blk t).view.read (Elt Ideal) X : Vec Ideal S1x128 .f32) (ix2 r k) = X (ix2 r k) := by
  have hi := (idx t).2.2.2.2.1
  rw [View.read_apply]
  show X _ = X _
  congr 1
  funext a
  apply Fin.ext
  match a with
  | ⟨0, _⟩ => show win0_6.index t 0 * 1 + 1 * r.val = r.val; rw [hi]; show 0 * 1 + 1 * r.val = _; omega
  | ⟨1, _⟩ => show win0_6.index t 1 * 128 + 1 * k.val = k.val; rw [hi]; show 0 * 128 + 1 * k.val = _; omega

theorem read_values (X : FVec Ideal S256x128 .bf16) (r : Fin 256) (k : Fin 128) :
    (((cfg0.win 8).blk t).view.read (Elt Ideal) X : Vec Ideal S256x128 .bf16) (ix2 r k) = X (ix2 r k) := by
  have hi := (idx t).2.2.2.2.2
  rw [View.read_apply]
  show X _ = X _
  congr 1
  funext a
  apply Fin.ext
  match a with
  | ⟨0, _⟩ => show win0_8.index t 0 * 256 + 1 * r.val = r.val; rw [hi]; show 0 * 256 + 1 * r.val = _; omega
  | ⟨1, _⟩ => show win0_8.index t 1 * 128 + 1 * k.val = k.val; rw [hi]; show 0 * 128 + 1 * k.val = _; omega

end Blocks

end Cert.Proj
-- ==== Proof.ProjSpec.lean ====
/-
  What the projections' call makes of the tokens: each mixer's columns of the normalized rows under the layer's input matrix, and
  the latent attention's values; and the two layouts the mixers take them in.
-/
module

public import proofs.«01_k».proof.Proof.PostSpec
public import Idealize.ShloMosaic.Lib.Pointwise
public import Idealize.ShloMosaic.Lib.Claim

@[expose] public section

noncomputable section

namespace Cert.Proj

open Idealize.ShloMosaic

/-- An entry for every token and every one of a mixer's 256 columns. -/
abbrev PerToken := Fin 2 → Fin 16384 → Fin 256 → EReal

/-- A latent row over the root of the mean of its squares, times the gains. -/
def rmsLatent (y g : Fin 128 → EReal) (e : Fin 128) : EReal :=
  y e * Ideal.rsqrt (Ideal.div (∑ k, y k * y k) (Ideal.ofBits .f32 0x43000000#32) + Ideal.ofBits .f32 0x358637BD#32) * g e

section

variable (x : FVec Ideal ⟨3, ![2, 16384, 1024]⟩ .f32) (g : FVec Ideal ⟨1, ![1024]⟩ .f32) (w : FVec Ideal ⟨2, ![1024, 2720]⟩ .f32)

/-- A token's normalized row against a column of the input matrix. -/
def project (b : Fin 2) (n : Fin 16384) (j : Fin 2720) : EReal :=
  ∑ k : Fin 1024, Cert.Post.rms (fun k => x (ix3 b n k)) (fun k => g (ix1 k)) k * w (ix2 k j)

/-- 256 columns of the projection. -/
def columns (o : Nat) (h : o + 256 ≤ 2720) : PerToken := fun b n e => project x g w b n ⟨o + e.val, by omega⟩

/-- The latent attention's values. -/
def values (gl : FVec Ideal ⟨1, ![128]⟩ .f32) (u : FVec Ideal ⟨2, ![128, 512]⟩ .f32) : PerToken := fun b n e =>
  ∑ k : Fin 128, rmsLatent (fun k => project x g w b n ⟨2560 + k.val, by omega⟩) (fun k => gl (ix1 k)) k * u (ix2 k ⟨128 * (e.val / 64) + 64 + e.val % 64, by omega⟩)

end

/-- Each entry times a number. -/
def times (s : EReal) (p : PerToken) : PerToken := fun b n e => p b n e * s

/-- Token by token. -/
def flat (p : PerToken) : Vec Ideal ⟨3, ![2, 16384, 256]⟩ .bf16 := fun j => p (j 0) (j 1) (j 2)

/-- A table for every 512 tokens, a column for each. -/
def tiles (p : PerToken) : Vec Ideal ⟨4, ![2, 32, 256, 512]⟩ .bf16 := fun j =>
  p (j 0) ⟨512 * (j 1).val + (j 3).val, by have h1 : (j 1).val < 32 := (j 1).isLt; have h3 : (j 3).val < 512 := (j 3).isLt; omega⟩ (j 2)

/-- A table for every 256 tokens, a column for each. -/
def smallTiles (p : PerToken) : Vec Ideal ⟨4, ![2, 64, 256, 256]⟩ .bf16 := fun j =>
  p (j 0) ⟨256 * (j 1).val + (j 3).val, by have h1 : (j 1).val < 64 := (j 1).isLt; have h3 : (j 3).val < 256 := (j 3).isLt; omega⟩ (j 2)

end Cert.Proj
-- ==== Proof.ProjTile.lean ====
/-
  The projections' arithmetic on a tile of tokens, entry by entry.
-/
module

public import proofs.«01_k».proof.Proof.Gen.Kernel3Ideal.Skeleton
public import proofs.«01_k».proof.Proof.PostTile
public import proofs.«01_k».proof.Proof.PostValue
public import proofs.«01_k».proof.Proof.ProjSpec
public import Idealize.ShloMosaic.Lib.Pointwise
public import Idealize.ShloMosaic.Lib.Pipeline.ValueKit

@[expose] public section

set_option maxRecDepth 16384

noncomputable section

namespace Cert.Proj

open Cert.Kernel3Ideal Cert.Kernel3Ideal.Gen
open Idealize.ShloMosaic Idealize.ShloMosaic.TcCoe

/-! ## The terms -/

section Terms

variable {F : FTy → Type} [FloatOps F]

/-- The tile's rows. -/
def rows (x : FVec F S1x512x1024 .f32) : FVec F S512x1024 .f32 := shapeCast S512x1024 x shapeCasts_S1x512x1024_S512x1024

/-- The rows against the columns kept token by token. -/
def along (h : FVec F S512x1024 .bf16) (w : FVec F S1024x1792 .bf16) : FVec F S512x1792 .f32 :=
  matmul dot_S512x1024_S1024x1792_S512x1792_1_0_0_1_n_n none h w (constant S512x1792 .f32 0x00000000#32)

/-- The columns kept as tables, against the rows. -/
def across (h : FVec F S512x1024 .bf16) (w : FVec F S1024x1024 .bf16) : FVec F S1024x512 .f32 :=
  matmul dot_S1024x1024_S512x1024_S1024x512_1_1_0_0_n_n none w h (constant S1024x512 .f32 0x00000000#32)

/-- 256 columns of the rows. -/
def slab (o : Nat) (h : S512x1792.Slices ![0, o] S512x256) (y : FVec F S512x1792 .f32) : FVec F S512x256 .f32 := extractStridedSlice S512x256 ![0, o] y h

/-- 256 rows of the table. -/
def band (o : Nat) (h : S1024x512.Slices ![o, 0] S256x512) (y : FVec F S1024x512 .f32) : FVec F S256x512 .f32 := extractStridedSlice S256x512 ![o, 0] y h

/-- A slab as a block. -/
def slabOut (y : FVec F S512x256 .f32) : FVec F S1x512x256 .bf16 := shapeCast S1x512x256 (truncf .bf16 y bitsLt_bf16_f32) shapeCasts_S512x256_S1x512x256

/-- A band as a block. -/
def bandOut (y : FVec F S256x512 .f32) : FVec F S1x1x256x512 .bf16 := shapeCast S1x1x256x512 (truncf .bf16 y bitsLt_bf16_f32) shapeCasts_S256x512_S1x1x256x512

/-- Half a band as half a block. -/
def halfOut (o : Nat) (h : S256x512.Slices ![0, o] S256x256) (y : FVec F S256x512 .f32) : FVec F S1x1x256x256 .bf16 :=
  shapeCast S1x1x256x256 (truncf .bf16 (extractStridedSlice S256x256 ![0, o] y h : FVec F S256x256 .f32) bitsLt_bf16_f32) shapeCasts_S256x256_S1x1x256x256

/-- The latent columns. -/
def latentSlab (y : FVec F S512x1792 .f32) : FVec F S512x128 .f32 := extractStridedSlice S512x128 ![0, 1536] y slices_S512x1792_o0_1536_S512x128

/-- The sum of each latent row's squares. -/
def latentSums (y : FVec F S512x128 .f32) : FVec F S512 .f32 := multiReduction .add [1] S512 (mulf y y) 0x00000000#32 reduces_S512x128_S512 (.inl rfl) rfl

/-- The latent rows over the root of the mean of their squares, times the gains, from the sums of squares. -/
def latentRows (y : FVec F S512x128 .f32) (s : FVec F S512 .f32) (g : FVec F S1x128 .f32) : FVec F S512x128 .f32 :=
  mulf (mulf y (broadcastTo S512x128 (rsqrt (addf (divf (shapeCast S512x1 s shapeCasts_S512_S512x1 : FVec F S512x1 .f32)
      (broadcast S512x1 (Scalar.ofBits .f32 0x43000000#32))) (broadcast S512x1 (Scalar.ofBits .f32 0x358637BD#32)))) broadcasts_S512x1_S512x128))
    (broadcastTo S512x128 g broadcasts_S1x128_S512x128)

/-- The values' matrix against the latent rows. -/
def latentAcross (h : FVec F S512x128 .bf16) (w : FVec F S256x128 .bf16) : FVec F S256x512 .f32 :=
  matmul dot_S256x128_S512x128_S256x512_1_1_0_0_n_n none w h (constant S256x512 .f32 0x00000000#32)

end Terms

variable {F : FTy → Type} [FloatOps F]

theorem rows_eq (x : Vec F S1x512x1024 .f32) (g : Vec F S1x1024 .f32) : k0_pay2 x g = Cert.Kernel2Ideal.Gen.k0_pay1 (rows x) g := by
  unfold k0_pay2 Cert.Kernel2Ideal.Gen.k0_pay1 rows
  simp only [shapeCast_self]

theorem along_eq (x : Vec F S1x512x1024 .f32) (g : Vec F S1x1024 .f32) (w : Vec F S1024x1792 .bf16) : k0_pay3 x g w = along (k0_pay2 x g) w := by
  unfold k0_pay3 along
  simp only [shapeCast_self]

theorem across_eq (h : FVec F S512x1024 .bf16) (w : Vec F S1024x1024 .bf16) : k0_pay13 h w = across h w := by
  unfold k0_pay13 across
  simp only [shapeCast_self]

theorem latent_eq (y : FVec F S512x128 .f32) (g : Vec F S1x128 .f32) : k0_pay26 y g = truncf .bf16 (latentRows y (latentSums y) g) bitsLt_bf16_f32 := by
  unfold k0_pay26 latentRows latentSums
  simp only [shapeCast_self]

theorem latentOut_eq (h : FVec F S512x128 .bf16) (w : Vec F S256x128 .bf16) : k0_pay1 h w = bandOut (latentAcross h w) := by
  unfold k0_pay1 bandOut latentAcross
  simp only [shapeCast_self]

/-! ## At an entry -/

theorem rows_apply (x : FVec Ideal S1x512x1024 .f32) (r : Fin 512) (k : Fin 1024) : rows x (ix2 r k) = x (ix3 0 r k) := by
  pointwise [rows]

theorem along_apply (h : FVec Ideal S512x1024 .bf16) (w : FVec Ideal S1024x1792 .bf16) (r : Fin 512) (j : Fin 1792) :
    along h w (ix2 r j) = ∑ k : Fin 1024, h (ix2 r k) * w (ix2 k j) := by
  pointwise [along]

theorem across_apply (h : FVec Ideal S512x1024 .bf16) (w : FVec Ideal S1024x1024 .bf16) (j : Fin 1024) (r : Fin 512) :
    across h w (ix2 j r) = ∑ k : Fin 1024, w (ix2 j k) * h (ix2 r k) := by
  pointwise [across]

theorem slab_apply (o : Nat) (h : S512x1792.Slices ![0, o] S512x256) (ho : o + 256 ≤ 1792) (y : FVec Ideal S512x1792 .f32) (r : Fin 512) (e : Fin 256) :
    slab o h y (ix2 r e) = y (ix2 r ⟨o + e.val, by omega⟩) := by
  unfold slab
  exact extractStridedSlice_apply ![0, o] _ _ (ix2 r e) (ix2 r ⟨o + e.val, by omega⟩) (fun a => match a with
    | ⟨0, _⟩ => (Nat.zero_add _).symm
    | ⟨1, _⟩ => rfl)

theorem band_apply (o : Nat) (h : S1024x512.Slices ![o, 0] S256x512) (ho : o + 256 ≤ 1024) (y : FVec Ideal S1024x512 .f32) (e : Fin 256) (r : Fin 512) :
    band o h y (ix2 e r) = y (ix2 ⟨o + e.val, by omega⟩ r) := by
  unfold band
  exact extractStridedSlice_apply ![o, 0] _ _ (ix2 e r) (ix2 ⟨o + e.val, by omega⟩ r) (fun a => match a with
    | ⟨0, _⟩ => rfl
    | ⟨1, _⟩ => (Nat.zero_add _).symm)

theorem slabOut_apply (y : FVec Ideal S512x256 .f32) (r : Fin 512) (e : Fin 256) : slabOut y (ix3 0 r e) = y (ix2 r e) := by
  pointwise [slabOut]

theorem bandOut_apply (y : FVec Ideal S256x512 .f32) (e : Fin 256) (r : Fin 512) : bandOut y (ix4 0 0 e r) = y (ix2 e r) := by
  pointwise [bandOut]

theorem lowerOut_apply (y : FVec Ideal S256x512 .f32) (e r : Fin 256) : halfOut 0 slices_S256x512_o0_0_S256x256 y (ix4 0 0 e r) = y (ix2 e ⟨r.val, by omega⟩) := by
  pointwise [halfOut]

theorem upperOut_apply (y : FVec Ideal S256x512 .f32) (e r : Fin 256) : halfOut 256 slices_S256x512_o0_256_S256x256 y (ix4 0 0 e r) = y (ix2 e ⟨256 + r.val, by omega⟩) := by
  pointwise [halfOut]

theorem latentSlab_apply (y : FVec Ideal S512x1792 .f32) (r : Fin 512) (k : Fin 128) : latentSlab y (ix2 r k) = y (ix2 r ⟨1536 + k.val, by omega⟩) := by
  pointwise [latentSlab]

theorem latentSums_apply (y : FVec Ideal S512x128 .f32) (r : Fin 512) : latentSums y (ix1 r) = ∑ k : Fin 128, y (ix2 r k) * y (ix2 r k) := by
  pointwise [latentSums]

theorem latentRows_apply (y : FVec Ideal S512x128 .f32) (s : FVec Ideal S512 .f32) (g : FVec Ideal S1x128 .f32) (r : Fin 512) (e : Fin 128) :
    latentRows y s g (ix2 r e) = y (ix2 r e) * Ideal.rsqrt (Ideal.div (s (ix1 r)) (Ideal.ofBits .f32 0x43000000#32) + Ideal.ofBits .f32 0x358637BD#32) * g (ix2 0 e) := by
  pointwise [latentRows]

theorem latentAcross_apply (h : FVec Ideal S512x128 .bf16) (w : FVec Ideal S256x128 .bf16) (e : Fin 256) (r : Fin 512) :
    latentAcross h w (ix2 e r) = ∑ k : Fin 128, w (ix2 e k) * h (ix2 r k) := by
  pointwise [latentAcross]

theorem rows_value (x : FVec Ideal S1x512x1024 .f32) (g : FVec Ideal S1x1024 .f32) (r : Fin 512) (k : Fin 1024) :
    k0_pay2 (F := Ideal) x g (ix2 r k) = Cert.Post.rms (fun k => x (ix3 0 r k)) (fun k => g (ix2 0 k)) k := by
  rw [rows_eq]
  refine (Cert.Post.first_norm_value (rows x) g r k).trans ?_
  simp only [rows_apply]

theorem along_value (x : FVec Ideal S1x512x1024 .f32) (g : FVec Ideal S1x1024 .f32) (w : FVec Ideal S1024x1792 .bf16) (r : Fin 512) (j : Fin 1792) :
    k0_pay3 (F := Ideal) x g w (ix2 r j) = ∑ k : Fin 1024, Cert.Post.rms (fun k => x (ix3 0 r k)) (fun k => g (ix2 0 k)) k * w (ix2 k j) := by
  rw [along_eq, along_apply]
  exact Finset.sum_congr rfl fun k _ => congrArg (· * w (ix2 k j)) (rows_value x g r k)

theorem across_value (x : FVec Ideal S1x512x1024 .f32) (g : FVec Ideal S1x1024 .f32) (w : FVec Ideal S1024x1024 .bf16) (j : Fin 1024) (r : Fin 512) :
    k0_pay13 (F := Ideal) (k0_pay2 x g) w (ix2 j r) = ∑ k : Fin 1024, Cert.Post.rms (fun k => x (ix3 0 r k)) (fun k => g (ix2 0 k)) k * w (ix2 j k) := by
  rw [across_eq, across_apply]
  exact Finset.sum_congr rfl fun k _ => (mul_comm _ _).trans (congrArg (· * w (ix2 j k)) (rows_value x g r k))

theorem latent_value (y : FVec Ideal S512x128 .f32) (g : FVec Ideal S1x128 .f32) (w : FVec Ideal S256x128 .bf16) (e : Fin 256) (r : Fin 512) :
    k0_pay1 (F := Ideal) (k0_pay26 y g) w (ix4 0 0 e r) = ∑ k : Fin 128, rmsLatent (fun k => y (ix2 r k)) (fun k => g (ix2 0 k)) k * w (ix2 e k) := by
  rw [latentOut_eq, bandOut_apply, latentAcross_apply, latent_eq]
  refine Finset.sum_congr rfl fun k _ => (mul_comm _ _).trans (congrArg (· * w (ix2 e k)) ?_)
  show latentRows (F := Ideal) y (latentSums y) g (ix2 r k) = _
  rw [latentRows_apply, latentSums_apply]
  rfl

end Cert.Proj
-- ==== Proof.ProjArrays.lean ====
/-
  The arrays the projections' call leaves: each mixer's columns of every token, and the latent attention's values.
-/
module

public import proofs.«01_k».proof.Proof.ProjBlocks
public import proofs.«01_k».proof.Proof.ProjTile

@[expose] public section

set_option maxRecDepth 16384

noncomputable section

namespace Cert.Proj

open Idealize.ShloMosaic Idealize.ShloMosaic.TcCoe
open Cert.Kernel3Ideal Cert.Kernel3Ideal.Gen

/-! ## What a point leaves in its blocks -/

/-- A block's entries times a number. -/
def scaled {S : Shape} (s : BitVec 32) (y : FVec Ideal S .f32) : FVec Ideal S .f32 := mulf y (broadcast S (Scalar.ofBits .f32 s))

/-- A band as two tables side by side. -/
def halves (y : FVec Ideal S256x512 .f32) : Vec Ideal S1x2x256x256 .bf16 := fun j =>
  y (ix2 (j 2) ⟨256 * (j 1).val + (j 3).val, by have h1 : (j 1).val < 2 := (j 1).isLt; have h3 : (j 3).val < 256 := (j 3).isLt; omega⟩)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Two tables stored side by side. -/
theorem halves_eq (y : FVec Ideal S256x512 .f32) :
    View.canon [(⟨r0_7, halfOut 256 slices_S256x512_o0_256_S256x256 y⟩ : View.Piece (Elt Ideal) S1x2x256x256 .bf16), ⟨r0_6, halfOut 0 slices_S256x512_o0_0_S256x256 y⟩] = halves y := by
  funext j
  refine View.canon_apply_of_pieces (halves y) _ ?_ j (cover0_21 _ _ j)
  intro pc hpc
  rcases List.mem_cons.mp hpc with rfl | hpc
  · intro x
    have hx : x = ix4 0 0 (x 2) (x 3) := (eq_ix4 x).trans (congrArg₂ (fun i k => ix4 i k (x 2) (x 3)) (Subsingleton.elim (α := Fin 1) _ _) (Subsingleton.elim (α := Fin 1) _ _))
    refine (congrArg _ hx).trans ((upperOut_apply y (x 2) (x 3)).trans ?_)
    unfold halves
    have h1 : (x 1).val < 1 := (x 1).isLt
    exact congrArg₂ (fun i k => y (ix2 i k)) (Fin.ext (by show (x 2).val = 0 + 1 * (x 2).val; omega))
      (Fin.ext (by show 256 + (x 3).val = 256 * (1 + 1 * (x 1).val) + (0 + 1 * (x 3).val); omega))
  rcases List.mem_cons.mp hpc with rfl | hpc
  · intro x
    have hx : x = ix4 0 0 (x 2) (x 3) := (eq_ix4 x).trans (congrArg₂ (fun i k => ix4 i k (x 2) (x 3)) (Subsingleton.elim (α := Fin 1) _ _) (Subsingleton.elim (α := Fin 1) _ _))
    refine (congrArg _ hx).trans ((lowerOut_apply y (x 2) (x 3)).trans ?_)
    unfold halves
    have h1 : (x 1).val < 1 := (x 1).isLt
    exact congrArg₂ (fun i k => y (ix2 i k)) (Fin.ext (by show (x 2).val = 0 + 1 * (x 2).val; omega))
      (Fin.ext (by show (x 3).val = 256 * (0 + 1 * (x 1).val) + (0 + 1 * (x 3).val); omega))
  nomatch hpc

section Out

variable (x0 : Vec Ideal S1x512x1024 .f32) (x1 : Vec Ideal S1x1024 .f32) (x2 : Vec Ideal S1024x1792 .bf16) (x3 : Vec Ideal S1024x1024 .bf16) (x4 : Vec Ideal S1x256 .f32) (x5 : Vec Ideal S512x256 .bf16) (x6 : Vec Ideal S1x128 .f32) (x7 : Vec Ideal S128x512 .bf16) (x8 : Vec Ideal S256x128 .bf16) (x9 : Vec Ideal S128x512 .bf16) (x10 : Vec Ideal S512x128 .f32) (x11 : Vec Ideal S1x16x512 .f32) (x12 : Vec Ideal S1x16x512 .f32)

theorem out_qa : out0_13 x0 x1 x2 x3 x4 x5 x6 x7 x8 x9 x10 x11 x12 = slabOut (scaled 0x3E38AA3B#32 (slab 0 slices_S512x1792_o0_0_S512x256 (k0_pay3 x0 x1 x2))) := by
  unfold_out out0_13
  simp only [View.ld_unit_zero (S := S1x512x1024) zeros3, View.ld_unit_zero (S := S1x1024) zeros2, View.ld_unit_zero (S := S1024x1792) zeros2]
  exact View.canon_unit_zero zeros3 _ _

theorem out_ka : out0_14 x0 x1 x2 x3 x4 x5 x6 x7 x8 x9 x10 x11 x12 = slabOut (slab 256 slices_S512x1792_o0_256_S512x256 (k0_pay3 x0 x1 x2)) := by
  unfold_out out0_14
  simp only [View.ld_unit_zero (S := S1x512x1024) zeros3, View.ld_unit_zero (S := S1x1024) zeros2, View.ld_unit_zero (S := S1024x1792) zeros2]
  exact View.canon_unit_zero zeros3 _ _

theorem out_va : out0_15 x0 x1 x2 x3 x4 x5 x6 x7 x8 x9 x10 x11 x12 = slabOut (slab 512 slices_S512x1792_o0_512_S512x256 (k0_pay3 x0 x1 x2)) := by
  unfold_out out0_15
  simp only [View.ld_unit_zero (S := S1x512x1024) zeros3, View.ld_unit_zero (S := S1x1024) zeros2, View.ld_unit_zero (S := S1024x1792) zeros2]
  exact View.canon_unit_zero zeros3 _ _

theorem out_kb : out0_16 x0 x1 x2 x3 x4 x5 x6 x7 x8 x9 x10 x11 x12 = slabOut (slab 768 slices_S512x1792_o0_768_S512x256 (k0_pay3 x0 x1 x2)) := by
  unfold_out out0_16
  simp only [View.ld_unit_zero (S := S1x512x1024) zeros3, View.ld_unit_zero (S := S1x1024) zeros2, View.ld_unit_zero (S := S1024x1792) zeros2]
  exact View.canon_unit_zero zeros3 _ _

theorem out_kc : out0_17 x0 x1 x2 x3 x4 x5 x6 x7 x8 x9 x10 x11 x12 = slabOut (slab 1024 slices_S512x1792_o0_1024_S512x256 (k0_pay3 x0 x1 x2)) := by
  unfold_out out0_17
  simp only [View.ld_unit_zero (S := S1x512x1024) zeros3, View.ld_unit_zero (S := S1x1024) zeros2, View.ld_unit_zero (S := S1024x1792) zeros2]
  exact View.canon_unit_zero zeros3 _ _

theorem out_qb : out0_19 x0 x1 x2 x3 x4 x5 x6 x7 x8 x9 x10 x11 x12 = bandOut (scaled 0x3E8293EE#32 (band 0 slices_S1024x512_o0_0_S256x512 (k0_pay13 (k0_pay2 x0 x1) x3))) := by
  unfold_out out0_19
  simp only [View.ld_unit_zero (S := S1x512x1024) zeros3, View.ld_unit_zero (S := S1x1024) zeros2, View.ld_unit_zero (S := S1024x1024) zeros2]
  exact View.canon_unit_zero zeros4 _ _

theorem out_vb : out0_20 x0 x1 x2 x3 x4 x5 x6 x7 x8 x9 x10 x11 x12 = bandOut (band 256 slices_S1024x512_o256_0_S256x512 (k0_pay13 (k0_pay2 x0 x1) x3)) := by
  unfold_out out0_20
  simp only [View.ld_unit_zero (S := S1x512x1024) zeros3, View.ld_unit_zero (S := S1x1024) zeros2, View.ld_unit_zero (S := S1024x1024) zeros2]
  exact View.canon_unit_zero zeros4 _ _

theorem out_qc : out0_21 x0 x1 x2 x3 x4 x5 x6 x7 x8 x9 x10 x11 x12 = halves (scaled 0x3E38AA3B#32 (band 512 slices_S1024x512_o512_0_S256x512 (k0_pay13 (k0_pay2 x0 x1) x3))) := by
  unfold_out out0_21
  simp only [View.ld_unit_zero (S := S1x512x1024) zeros3, View.ld_unit_zero (S := S1x1024) zeros2, View.ld_unit_zero (S := S1024x1024) zeros2]
  exact halves_eq _

theorem out_vc : out0_22 x0 x1 x2 x3 x4 x5 x6 x7 x8 x9 x10 x11 x12 = halves (band 768 slices_S1024x512_o768_0_S256x512 (k0_pay13 (k0_pay2 x0 x1) x3)) := by
  unfold_out out0_22
  simp only [View.ld_unit_zero (S := S1x512x1024) zeros3, View.ld_unit_zero (S := S1x1024) zeros2, View.ld_unit_zero (S := S1024x1024) zeros2]
  exact halves_eq _

theorem out_vd : out0_24 x0 x1 x2 x3 x4 x5 x6 x7 x8 x9 x10 x11 x12 = k0_pay1 (k0_pay26 (latentSlab (k0_pay3 x0 x1 x2)) x6) x8 := by
  unfold_out out0_24
  simp only [View.ld_unit_zero (S := S1x512x1024) zeros3, View.ld_unit_zero (S := S1x1024) zeros2, View.ld_unit_zero (S := S1024x1792) zeros2, View.ld_unit_zero (S := S1x128) zeros2, View.ld_unit_zero (S := S256x128) zeros2]
  exact View.canon_unit_zero zeros4 _ _

end Out

/-! ## A point's entries -/

variable (m : (ℓ : Loc nD τ sig) → Buf (Elt Ideal) ℓ) (c : Dev nD)

theorem block_rows (t : Fin cfg0.N) (r : Fin 512) (k : Fin 1024) (b : Fin 2) (n : Fin 16384) (hb : b.val = t.val / 32) (hn : n.val = 512 * (t.val % 32) + r.val) :
    (iblk m c 0 t : Vec Ideal S1x512x1024 .f32) (ix3 0 r k) = (m ((c : Thread nD τ).loc main_arg0) : Vec Ideal S2x16384x1024 .f32) (ix3 b n k) := by
  have h : iblk m c 0 t = ((cfg0.win 0).blk t).view.read (Elt Ideal) (m ((c : Thread nD τ).loc main_arg0)) := by rw [← V_main_arg0 m c]; rfl
  exact (congrFun h _).trans (read_rows t _ r k b n hb hn)

theorem block_gains (t : Fin cfg0.N) (r : Fin 1) (k : Fin 1024) : (iblk m c 1 t : Vec Ideal S1x1024 .f32) (ix2 r k) = hostGains (F := Ideal) (m ((c : Thread nD τ).loc main_arg1)) (ix2 r k) := by
  have h : iblk m c 1 t = ((cfg0.win 1).blk t).view.read (Elt Ideal) (hostGains (F := Ideal) (m ((c : Thread nD τ).loc main_arg1))) := by rw [← V_gains m c]; rfl
  exact (congrFun h _).trans (read_gains t _ r k)

theorem block_along (t : Fin cfg0.N) (r : Fin 1024) (k : Fin 1792) : (iblk m c 2 t : Vec Ideal S1024x1792 .bf16) (ix2 r k) = hostAlong (F := Ideal) (m ((c : Thread nD τ).loc main_arg2)) (hostTail (F := Ideal) (m ((c : Thread nD τ).loc main_arg2))) (ix2 r k) := by
  have h : iblk m c 2 t = ((cfg0.win 2).blk t).view.read (Elt Ideal) (hostAlong (F := Ideal) (m ((c : Thread nD τ).loc main_arg2)) (hostTail (F := Ideal) (m ((c : Thread nD τ).loc main_arg2)))) := by rw [← V_along m c]; rfl
  exact (congrFun h _).trans (read_along t _ r k)

theorem block_across (t : Fin cfg0.N) (r : Fin 1024) (k : Fin 1024) : (iblk m c 3 t : Vec Ideal S1024x1024 .bf16) (ix2 r k) = hostAcross (F := Ideal) (m ((c : Thread nD τ).loc main_arg2)) (ix2 r k) := by
  have h : iblk m c 3 t = ((cfg0.win 3).blk t).view.read (Elt Ideal) (hostAcross (F := Ideal) (m ((c : Thread nD τ).loc main_arg2))) := by rw [← V_across m c]; rfl
  exact (congrFun h _).trans (read_across t _ r k)

theorem block_latentGains (t : Fin cfg0.N) (r : Fin 1) (k : Fin 128) : (iblk m c 6 t : Vec Ideal S1x128 .f32) (ix2 r k) = hostLatentGains (F := Ideal) (m ((c : Thread nD τ).loc main_arg5)) (ix2 r k) := by
  have h : iblk m c 6 t = ((cfg0.win 6).blk t).view.read (Elt Ideal) (hostLatentGains (F := Ideal) (m ((c : Thread nD τ).loc main_arg5))) := by rw [← V_latentGains m c]; rfl
  exact (congrFun h _).trans (read_latentGains t _ r k)

theorem block_values (t : Fin cfg0.N) (r : Fin 256) (k : Fin 128) : (iblk m c 8 t : Vec Ideal S256x128 .bf16) (ix2 r k) = hostValues (F := Ideal) (m ((c : Thread nD τ).loc main_arg6)) (ix2 r k) := by
  have h : iblk m c 8 t = ((cfg0.win 8).blk t).view.read (Elt Ideal) (hostValues (F := Ideal) (m ((c : Thread nD τ).loc main_arg6))) := by rw [← V_values m c]; rfl
  exact (congrFun h _).trans (read_values t _ r k)

/-- A tile's row of gains. -/
theorem point_row (t : Fin cfg0.N) (r : Fin 512) (b : Fin 2) (n : Fin 16384) (hb : b.val = t.val / 32) (hn : n.val = 512 * (t.val % 32) + r.val) (k : Fin 1024) :
    Cert.Post.rms (fun k => (iblk m c 0 t : Vec Ideal S1x512x1024 .f32) (ix3 0 r k)) (fun k => (iblk m c 1 t : Vec Ideal S1x1024 .f32) (ix2 0 k)) k
      = Cert.Post.rms (fun k => (m ((c : Thread nD τ).loc main_arg0) : Vec Ideal S2x16384x1024 .f32) (ix3 b n k)) (fun k => (m ((c : Thread nD τ).loc main_arg1) : Vec Ideal S1024 .f32) (ix1 k)) k :=
  congrArg₂ (fun x g => Cert.Post.rms x g k) (funext fun k => block_rows m c t r k b n hb hn) (funext fun k => (block_gains m c t 0 k).trans (hostGains_apply _ k))

theorem along_entry (t : Fin cfg0.N) (r : Fin 512) (j : Fin 1792) (j' : Fin 2720) (b : Fin 2) (n : Fin 16384) (hb : b.val = t.val / 32) (hn : n.val = 512 * (t.val % 32) + r.val)
    (hw : ∀ k, hostAlong (F := Ideal) (m ((c : Thread nD τ).loc main_arg2)) (hostTail (F := Ideal) (m ((c : Thread nD τ).loc main_arg2))) (ix2 k j) = (m ((c : Thread nD τ).loc main_arg2) : Vec Ideal S1024x2720 .f32) (ix2 k j')) :
    k0_pay3 (F := Ideal) (iblk m c 0 t) (iblk m c 1 t) (iblk m c 2 t) (ix2 r j)
      = project (m ((c : Thread nD τ).loc main_arg0)) (m ((c : Thread nD τ).loc main_arg1)) (m ((c : Thread nD τ).loc main_arg2)) b n j' :=
  (along_value _ _ _ r j).trans (Finset.sum_congr rfl fun k _ => congrArg₂ (· * ·) (point_row m c t r b n hb hn k) ((block_along m c t k j).trans (hw k)))

theorem across_entry (t : Fin cfg0.N) (r : Fin 512) (j : Fin 1024) (j' : Fin 2720) (b : Fin 2) (n : Fin 16384) (hb : b.val = t.val / 32) (hn : n.val = 512 * (t.val % 32) + r.val)
    (hw : ∀ k, hostAcross (F := Ideal) (m ((c : Thread nD τ).loc main_arg2)) (ix2 j k) = (m ((c : Thread nD τ).loc main_arg2) : Vec Ideal S1024x2720 .f32) (ix2 k j')) :
    k0_pay13 (F := Ideal) (k0_pay2 (iblk m c 0 t) (iblk m c 1 t)) (iblk m c 3 t) (ix2 j r)
      = project (m ((c : Thread nD τ).loc main_arg0)) (m ((c : Thread nD τ).loc main_arg1)) (m ((c : Thread nD τ).loc main_arg2)) b n j' :=
  (across_value _ _ _ j r).trans (Finset.sum_congr rfl fun k _ => congrArg₂ (· * ·) (point_row m c t r b n hb hn k) ((block_across m c t j k).trans (hw k)))

/-- A slab, token by token. -/
theorem slab_entry (t : Fin cfg0.N) (o o' : Nat) (h : S512x1792.Slices ![0, o] S512x256) (ho : o + 256 ≤ 1792) (ho' : o' + 256 ≤ 2720)
    (hw : ∀ (k : Fin 1024) (e : Fin 256), hostAlong (F := Ideal) (m ((c : Thread nD τ).loc main_arg2)) (hostTail (F := Ideal) (m ((c : Thread nD τ).loc main_arg2))) (ix2 k ⟨o + e.val, by omega⟩)
      = (m ((c : Thread nD τ).loc main_arg2) : Vec Ideal S1024x2720 .f32) (ix2 k ⟨o' + e.val, by omega⟩))
    (r : Fin 512) (e : Fin 256) (b : Fin 2) (n : Fin 16384) (hb : b.val = t.val / 32) (hn : n.val = 512 * (t.val % 32) + r.val) :
    slab (F := Ideal) o h (k0_pay3 (iblk m c 0 t) (iblk m c 1 t) (iblk m c 2 t)) (ix2 r e)
      = columns (m ((c : Thread nD τ).loc main_arg0)) (m ((c : Thread nD τ).loc main_arg1)) (m ((c : Thread nD τ).loc main_arg2)) o' ho' b n e :=
  (slab_apply o h ho _ r e).trans (along_entry m c t r _ _ b n hb hn fun k => hw k e)

/-- A band, token by token. -/
theorem band_entry (t : Fin cfg0.N) (o o' : Nat) (h : S1024x512.Slices ![o, 0] S256x512) (ho : o + 256 ≤ 1024) (ho' : o' + 256 ≤ 2720)
    (hw : ∀ (k : Fin 1024) (e : Fin 256), hostAcross (F := Ideal) (m ((c : Thread nD τ).loc main_arg2)) (ix2 ⟨o + e.val, by omega⟩ k)
      = (m ((c : Thread nD τ).loc main_arg2) : Vec Ideal S1024x2720 .f32) (ix2 k ⟨o' + e.val, by omega⟩))
    (e : Fin 256) (r : Fin 512) (b : Fin 2) (n : Fin 16384) (hb : b.val = t.val / 32) (hn : n.val = 512 * (t.val % 32) + r.val) :
    band (F := Ideal) o h (k0_pay13 (k0_pay2 (iblk m c 0 t) (iblk m c 1 t)) (iblk m c 3 t)) (ix2 e r)
      = columns (m ((c : Thread nD τ).loc main_arg0)) (m ((c : Thread nD τ).loc main_arg1)) (m ((c : Thread nD τ).loc main_arg2)) o' ho' b n e :=
  (band_apply o h ho _ e r).trans (across_entry m c t r _ _ b n hb hn fun k => hw k e)

/-- The latent attention's values, token by token. -/
theorem latent_entry (t : Fin cfg0.N) (e : Fin 256) (r : Fin 512) (b : Fin 2) (n : Fin 16384) (hb : b.val = t.val / 32) (hn : n.val = 512 * (t.val % 32) + r.val) :
    k0_pay1 (F := Ideal) (k0_pay26 (latentSlab (k0_pay3 (iblk m c 0 t) (iblk m c 1 t) (iblk m c 2 t))) (iblk m c 6 t)) (iblk m c 8 t) (ix4 0 0 e r)
      = values (m ((c : Thread nD τ).loc main_arg0)) (m ((c : Thread nD τ).loc main_arg1)) (m ((c : Thread nD τ).loc main_arg2)) (m ((c : Thread nD τ).loc main_arg5)) (m ((c : Thread nD τ).loc main_arg6)) b n e :=
  (latent_value _ _ _ e r).trans (Finset.sum_congr rfl fun k _ => congrArg₂ (· * ·)
    (congrArg₂ (fun y g => rmsLatent y g k)
      (funext fun k => (latentSlab_apply _ r k).trans (along_entry m c t r _ _ b n hb hn fun i => hostAlong_2560 _ _ i k))
      (funext fun k => (block_latentGains m c t 0 k).trans (hostLatentGains_apply _ k)))
    ((block_values m c t e k).trans (hostValues_apply _ k e)))

/-! ## The arrays -/

/-- Where each point's blocks lie in the arrays. -/
theorem places : ∀ t : Fin grid0.N, win0_13.index t = ![t.val / 32, t.val % 32, 0] ∧ win0_14.index t = ![t.val / 32, t.val % 32, 0] ∧ win0_15.index t = ![t.val / 32, t.val % 32, 0]
    ∧ win0_16.index t = ![t.val / 32, t.val % 32, 0] ∧ win0_17.index t = ![t.val / 32, t.val % 32, 0] ∧ win0_19.index t = ![t.val / 32, t.val % 32, 0, 0]
    ∧ win0_20.index t = ![t.val / 32, t.val % 32, 0, 0] ∧ win0_21.index t = ![t.val / 32, t.val % 32, 0, 0] ∧ win0_22.index t = ![t.val / 32, t.val % 32, 0, 0]
    ∧ win0_24.index t = ![t.val / 32, t.val % 32, 0, 0] := by decide +kernel

theorem slab_flat (t : Fin cfg0.N) (Y : FVec Ideal S512x256 .f32) (p : PerToken)
    (hY : ∀ (r : Fin 512) (e : Fin 256) (b : Fin 2) (n : Fin 16384), b.val = t.val / 32 → n.val = 512 * (t.val % 32) + r.val → Y (ix2 r e) = p b n e)
    (f : Fin 3 → Nat) (hf : f = ![t.val / 32, t.val % 32, 0]) (y : S1x512x256.Idx) (z : S2x16384x256.Idx)
    (h0 : (z 0).val = f 0 * 1 + 1 * (y 0).val) (h1 : (z 1).val = f 1 * 512 + 1 * (y 1).val) (h2 : (z 2).val = f 2 * 256 + 1 * (y 2).val) : slabOut Y y = flat p z := by
  subst hf
  have hy : y = ix3 0 (y 1) (y 2) := (eq_ix3 y).trans (congrArg (fun k => ix3 k (y 1) (y 2)) (Subsingleton.elim (α := Fin 1) _ _))
  have g0 : (y 0).val < 1 := (y 0).isLt
  replace h0 : (z 0).val = t.val / 32 * 1 + 1 * (y 0).val := h0
  replace h1 : (z 1).val = t.val % 32 * 512 + 1 * (y 1).val := h1
  replace h2 : (z 2).val = 0 * 256 + 1 * (y 2).val := h2
  refine (congrArg _ hy).trans ((slabOut_apply Y (y 1) (y 2)).trans ((hY (y 1) (y 2) (z 0) (z 1) (by omega) (by omega)).trans ?_))
  exact congrArg (p (z 0) (z 1)) (Fin.ext (by omega))

theorem block_tiles (t : Fin cfg0.N) (B : Vec Ideal S1x1x256x512 .bf16) (p : PerToken)
    (hB : ∀ (e : Fin 256) (r : Fin 512) (b : Fin 2) (n : Fin 16384), b.val = t.val / 32 → n.val = 512 * (t.val % 32) + r.val → B (ix4 0 0 e r) = p b n e)
    (f : Fin 4 → Nat) (hf : f = ![t.val / 32, t.val % 32, 0, 0]) (y : S1x1x256x512.Idx) (z : S2x32x256x512.Idx)
    (h0 : (z 0).val = f 0 * 1 + 1 * (y 0).val) (h1 : (z 1).val = f 1 * 1 + 1 * (y 1).val) (h2 : (z 2).val = f 2 * 256 + 1 * (y 2).val) (h3 : (z 3).val = f 3 * 512 + 1 * (y 3).val) :
    B y = tiles p z := by
  subst hf
  have hy : y = ix4 0 0 (y 2) (y 3) := (eq_ix4 y).trans (congrArg₂ (fun i k => ix4 i k (y 2) (y 3)) (Subsingleton.elim (α := Fin 1) _ _) (Subsingleton.elim (α := Fin 1) _ _))
  have g0 : (y 0).val < 1 := (y 0).isLt
  have g1 : (y 1).val < 1 := (y 1).isLt
  have g3 : (y 3).val < 512 := (y 3).isLt
  have k1 : (z 1).val < 32 := (z 1).isLt
  replace h0 : (z 0).val = t.val / 32 * 1 + 1 * (y 0).val := h0
  replace h1 : (z 1).val = t.val % 32 * 1 + 1 * (y 1).val := h1
  replace h2 : (z 2).val = 0 * 256 + 1 * (y 2).val := h2
  replace h3 : (z 3).val = 0 * 512 + 1 * (y 3).val := h3
  refine (congrArg _ hy).trans ((hB (y 2) (y 3) (z 0) ⟨512 * (z 1).val + (z 3).val, by omega⟩ (by omega) (by show 512 * (z 1).val + (z 3).val = _; omega)).trans ?_)
  exact congrArg (p (z 0) _) (Fin.ext (by omega))

theorem band_tiles (t : Fin cfg0.N) (Y : FVec Ideal S256x512 .f32) (p : PerToken)
    (hY : ∀ (e : Fin 256) (r : Fin 512) (b : Fin 2) (n : Fin 16384), b.val = t.val / 32 → n.val = 512 * (t.val % 32) + r.val → Y (ix2 e r) = p b n e)
    (e : Fin 256) (r : Fin 512) (b : Fin 2) (n : Fin 16384) (hb : b.val = t.val / 32) (hn : n.val = 512 * (t.val % 32) + r.val) : bandOut Y (ix4 0 0 e r) = p b n e :=
  (bandOut_apply Y e r).trans (hY e r b n hb hn)

theorem halves_tiles (t : Fin cfg0.N) (Y : FVec Ideal S256x512 .f32) (p : PerToken)
    (hY : ∀ (e : Fin 256) (r : Fin 512) (b : Fin 2) (n : Fin 16384), b.val = t.val / 32 → n.val = 512 * (t.val % 32) + r.val → Y (ix2 e r) = p b n e)
    (f : Fin 4 → Nat) (hf : f = ![t.val / 32, t.val % 32, 0, 0]) (y : S1x2x256x256.Idx) (z : S2x64x256x256.Idx)
    (h0 : (z 0).val = f 0 * 1 + 1 * (y 0).val) (h1 : (z 1).val = f 1 * 2 + 1 * (y 1).val) (h2 : (z 2).val = f 2 * 256 + 1 * (y 2).val) (h3 : (z 3).val = f 3 * 256 + 1 * (y 3).val) :
    halves Y y = smallTiles p z := by
  subst hf
  have g0 : (y 0).val < 1 := (y 0).isLt
  have g1 : (y 1).val < 2 := (y 1).isLt
  have g3 : (y 3).val < 256 := (y 3).isLt
  have k1 : (z 1).val < 64 := (z 1).isLt
  replace h0 : (z 0).val = t.val / 32 * 1 + 1 * (y 0).val := h0
  replace h1 : (z 1).val = t.val % 32 * 2 + 1 * (y 1).val := h1
  replace h2 : (z 2).val = 0 * 256 + 1 * (y 2).val := h2
  replace h3 : (z 3).val = 0 * 256 + 1 * (y 3).val := h3
  refine (hY (y 2) ⟨256 * (y 1).val + (y 3).val, by omega⟩ (z 0) ⟨256 * (z 1).val + (z 3).val, by omega⟩ (by omega)
    (by show 256 * (z 1).val + (z 3).val = 512 * (t.val % 32) + (256 * (y 1).val + (y 3).val); omega)).trans ?_
  exact congrArg (p (z 0) _) (Fin.ext (by omega))

theorem scaled_slab (t : Fin cfg0.N) (s : BitVec 32) (Y : FVec Ideal S512x256 .f32) (p : PerToken)
    (hY : ∀ (r : Fin 512) (e : Fin 256) (b : Fin 2) (n : Fin 16384), b.val = t.val / 32 → n.val = 512 * (t.val % 32) + r.val → Y (ix2 r e) = p b n e)
    (r : Fin 512) (e : Fin 256) (b : Fin 2) (n : Fin 16384) (hb : b.val = t.val / 32) (hn : n.val = 512 * (t.val % 32) + r.val) :
    scaled s Y (ix2 r e) = times (Ideal.ofBits .f32 s) p b n e := congrArg (· * Ideal.ofBits .f32 s) (hY r e b n hb hn)

theorem scaled_band (t : Fin cfg0.N) (s : BitVec 32) (Y : FVec Ideal S256x512 .f32) (p : PerToken)
    (hY : ∀ (e : Fin 256) (r : Fin 512) (b : Fin 2) (n : Fin 16384), b.val = t.val / 32 → n.val = 512 * (t.val % 32) + r.val → Y (ix2 e r) = p b n e)
    (e : Fin 256) (r : Fin 512) (b : Fin 2) (n : Fin 16384) (hb : b.val = t.val / 32) (hn : n.val = 512 * (t.val % 32) + r.val) :
    scaled s Y (ix2 e r) = times (Ideal.ofBits .f32 s) p b n e := congrArg (· * Ideal.ofBits .f32 s) (hY e r b n hb hn)

theorem covers_qa : win0_13.Covers := by decide +kernel

theorem array_qa : (dats m 0 c).arrAt 13 cfg0.N = flat (times (Ideal.ofBits .f32 0x3E38AA3B#32) (columns (m ((c : Thread nD τ).loc main_arg0)) (m ((c : Thread nD τ).loc main_arg1)) (m ((c : Thread nD τ).loc main_arg2)) 0 (by decide))) := by
  refine (dats m 0 c).arrAt_eq_of_covers 13 _ covers_qa fun t _ y => ?_
  have h := (after0_13 m c t).trans (out_qa _ _ _ _ _ _ _ _ _ _ _ _ _)
  generalize (dats m 0 c).after 13 t = Z at h ⊢
  subst h
  exact slab_flat t _ _ (scaled_slab t _ _ _ (slab_entry m c t 0 0 _ (by decide) (by decide) (hostAlong_0 _ _))) (win0_13.index t) (places t).1 y _ rfl rfl rfl

theorem covers_ka : win0_14.Covers := by decide +kernel

theorem array_ka : (dats m 0 c).arrAt 14 cfg0.N = flat (columns (m ((c : Thread nD τ).loc main_arg0)) (m ((c : Thread nD τ).loc main_arg1)) (m ((c : Thread nD τ).loc main_arg2)) 256 (by decide)) := by
  refine (dats m 0 c).arrAt_eq_of_covers 14 _ covers_ka fun t _ y => ?_
  have h := (after0_14 m c t).trans (out_ka _ _ _ _ _ _ _ _ _ _ _ _ _)
  generalize (dats m 0 c).after 14 t = Z at h ⊢
  subst h
  exact slab_flat t _ _ (slab_entry m c t 256 256 _ (by decide) (by decide) (hostAlong_256 _ _)) (win0_14.index t) (places t).2.1 y _ rfl rfl rfl

theorem covers_va : win0_15.Covers := by decide +kernel

theorem array_va : (dats m 0 c).arrAt 15 cfg0.N = flat (columns (m ((c : Thread nD τ).loc main_arg0)) (m ((c : Thread nD τ).loc main_arg1)) (m ((c : Thread nD τ).loc main_arg2)) 512 (by decide)) := by
  refine (dats m 0 c).arrAt_eq_of_covers 15 _ covers_va fun t _ y => ?_
  have h := (after0_15 m c t).trans (out_va _ _ _ _ _ _ _ _ _ _ _ _ _)
  generalize (dats m 0 c).after 15 t = Z at h ⊢
  subst h
  exact slab_flat t _ _ (slab_entry m c t 512 512 _ (by decide) (by decide) (hostAlong_512 _ _)) (win0_15.index t) (places t).2.2.1 y _ rfl rfl rfl

theorem covers_kb : win0_16.Covers := by decide +kernel

theorem array_kb : (dats m 0 c).arrAt 16 cfg0.N = flat (columns (m ((c : Thread nD τ).loc main_arg0)) (m ((c : Thread nD τ).loc main_arg1)) (m ((c : Thread nD τ).loc main_arg2)) 1024 (by decide)) := by
  refine (dats m 0 c).arrAt_eq_of_covers 16 _ covers_kb fun t _ y => ?_
  have h := (after0_16 m c t).trans (out_kb _ _ _ _ _ _ _ _ _ _ _ _ _)
  generalize (dats m 0 c).after 16 t = Z at h ⊢
  subst h
  exact slab_flat t _ _ (slab_entry m c t 768 1024 _ (by decide) (by decide) (hostAlong_1024 _ _)) (win0_16.index t) (places t).2.2.2.1 y _ rfl rfl rfl

theorem covers_kc : win0_17.Covers := by decide +kernel

theorem array_kc : (dats m 0 c).arrAt 17 cfg0.N = flat (columns (m ((c : Thread nD τ).loc main_arg0)) (m ((c : Thread nD τ).loc main_arg1)) (m ((c : Thread nD τ).loc main_arg2)) 1792 (by decide)) := by
  refine (dats m 0 c).arrAt_eq_of_covers 17 _ covers_kc fun t _ y => ?_
  have h := (after0_17 m c t).trans (out_kc _ _ _ _ _ _ _ _ _ _ _ _ _)
  generalize (dats m 0 c).after 17 t = Z at h ⊢
  subst h
  exact slab_flat t _ _ (slab_entry m c t 1024 1792 _ (by decide) (by decide) (hostAlong_1792 _ _)) (win0_17.index t) (places t).2.2.2.2.1 y _ rfl rfl rfl

theorem covers_qb : win0_19.Covers := by decide +kernel

theorem array_qb : (dats m 0 c).arrAt 19 cfg0.N = tiles (times (Ideal.ofBits .f32 0x3E8293EE#32) (columns (m ((c : Thread nD τ).loc main_arg0)) (m ((c : Thread nD τ).loc main_arg1)) (m ((c : Thread nD τ).loc main_arg2)) 768 (by decide))) := by
  refine (dats m 0 c).arrAt_eq_of_covers 19 _ covers_qb fun t _ y => ?_
  have h := (after0_19 m c t).trans (out_qb _ _ _ _ _ _ _ _ _ _ _ _ _)
  generalize (dats m 0 c).after 19 t = Z at h ⊢
  subst h
  exact block_tiles t _ _ (band_tiles t _ _ (scaled_band t _ _ _ (band_entry m c t 0 768 _ (by decide) (by decide) (hostAcross_768 _)))) (win0_19.index t) (places t).2.2.2.2.2.1 y _ rfl rfl rfl rfl

theorem covers_vb : win0_20.Covers := by decide +kernel

theorem array_vb : (dats m 0 c).arrAt 20 cfg0.N = tiles (columns (m ((c : Thread nD τ).loc main_arg0)) (m ((c : Thread nD τ).loc main_arg1)) (m ((c : Thread nD τ).loc main_arg2)) 1280 (by decide)) := by
  refine (dats m 0 c).arrAt_eq_of_covers 20 _ covers_vb fun t _ y => ?_
  have h := (after0_20 m c t).trans (out_vb _ _ _ _ _ _ _ _ _ _ _ _ _)
  generalize (dats m 0 c).after 20 t = Z at h ⊢
  subst h
  exact block_tiles t _ _ (band_tiles t _ _ (band_entry m c t 256 1280 _ (by decide) (by decide) (hostAcross_1280 _))) (win0_20.index t) (places t).2.2.2.2.2.2.1 y _ rfl rfl rfl rfl

theorem covers_qc : win0_21.Covers := by decide +kernel

theorem array_qc : (dats m 0 c).arrAt 21 cfg0.N = smallTiles (times (Ideal.ofBits .f32 0x3E38AA3B#32) (columns (m ((c : Thread nD τ).loc main_arg0)) (m ((c : Thread nD τ).loc main_arg1)) (m ((c : Thread nD τ).loc main_arg2)) 1536 (by decide))) := by
  refine (dats m 0 c).arrAt_eq_of_covers 21 _ covers_qc fun t _ y => ?_
  have h := (after0_21 m c t).trans (out_qc _ _ _ _ _ _ _ _ _ _ _ _ _)
  generalize (dats m 0 c).after 21 t = Z at h ⊢
  subst h
  exact halves_tiles t _ _ (scaled_band t _ _ _ (band_entry m c t 512 1536 _ (by decide) (by decide) (hostAcross_1536 _))) (win0_21.index t) (places t).2.2.2.2.2.2.2.1 y _ rfl rfl rfl rfl

theorem covers_vc : win0_22.Covers := by decide +kernel

theorem array_vc : (dats m 0 c).arrAt 22 cfg0.N = smallTiles (columns (m ((c : Thread nD τ).loc main_arg0)) (m ((c : Thread nD τ).loc main_arg1)) (m ((c : Thread nD τ).loc main_arg2)) 2048 (by decide)) := by
  refine (dats m 0 c).arrAt_eq_of_covers 22 _ covers_vc fun t _ y => ?_
  have h := (after0_22 m c t).trans (out_vc _ _ _ _ _ _ _ _ _ _ _ _ _)
  generalize (dats m 0 c).after 22 t = Z at h ⊢
  subst h
  exact halves_tiles t _ _ (band_entry m c t 768 2048 _ (by decide) (by decide) (hostAcross_2048 _)) (win0_22.index t) (places t).2.2.2.2.2.2.2.2.1 y _ rfl rfl rfl rfl

theorem covers_vd : win0_24.Covers := by decide +kernel

theorem array_vd : (dats m 0 c).arrAt 24 cfg0.N = tiles (values (m ((c : Thread nD τ).loc main_arg0)) (m ((c : Thread nD τ).loc main_arg1)) (m ((c : Thread nD τ).loc main_arg2)) (m ((c : Thread nD τ).loc main_arg5)) (m ((c : Thread nD τ).loc main_arg6))) := by
  refine (dats m 0 c).arrAt_eq_of_covers 24 _ covers_vd fun t _ y => ?_
  have h := (after0_24 m c t).trans (out_vd _ _ _ _ _ _ _ _ _ _ _ _ _)
  generalize (dats m 0 c).after 24 t = Z at h ⊢
  subst h
  exact block_tiles t _ _ (latent_entry m c t) (win0_24.index t) (places t).2.2.2.2.2.2.2.2.2 y _ rfl rfl rfl rfl

end Cert.Proj
-- ==== Proof.ProjReference.lean ====
/-
  The projections' reference, result by result.
-/
module

public import proofs.«01_k».proof.Proof.Gen.Reference3Ideal.Run
public import proofs.«01_k».proof.Proof.PostReference
public import proofs.«01_k».proof.Proof.ProjSpec
public import Idealize.ShloMosaic.Lib.Pointwise
public import Idealize.ShloMosaic.Lib.Claim
public import Idealize.ShloMosaic.Lib.Pipeline.Value

@[expose] public section

set_option maxRecDepth 16384

noncomputable section

namespace Cert.Proj.Reference

open Cert.Reference3Ideal Cert.Reference3Ideal.Gen
open Idealize.ShloMosaic Idealize.ShloMosaic.TcCoe Idealize.SL.Sem

/-! ## The reference's terms -/

section Terms

variable {F : FTy → Type} [FloatOps F]

/-- The rows against the input matrix. -/
def projected (h : FVec F S2x16384x1024 .f32) (w : FVec F S1024x2720 .f32) : FVec F S2x16384x2720 .f32 :=
  Host.dotGeneral dot_S2x16384x1024_S1024x2720_S2x16384x2720_2_0_01_1_n_n none h w

/-- 256 columns. -/
def cut (o : Nat) (h : S2x16384x2720.Slices ![0, 0, o] S2x16384x256) (y : FVec F S2x16384x2720 .f32) : FVec F S2x16384x256 .f32 :=
  extractStridedSlice S2x16384x256 ![0, 0, o] y h

/-- Every entry times a number. -/
def scaled (s : BitVec 32) (y : FVec F S2x16384x256 .f32) : FVec F S2x16384x256 .f32 :=
  mulf y (broadcastInDim S2x16384x256 ![] bcast_S_S2x16384x256 (constant S_ .f32 s))

/-- The latent columns. -/
def cutLatent (y : FVec F S2x16384x2720 .f32) : FVec F S2x16384x128 .f32 :=
  extractStridedSlice S2x16384x128 ![0, 0, 2560] y slices_S2x16384x2720_S2x16384x128_0_0_2560

/-- The sum of each latent row's squares. -/
def latentSquares (y : FVec F S2x16384x128 .f32) : FVec F S2x16384 .f32 :=
  Host.reduceAdd (mulf y y) (constant S_ .f32 0x00000000#32) reducesTo_S2x16384x128_S2x16384_d2 h_S_

/-- The latent rows over the root of the mean of their squares, times the gains, from the sums of squares. -/
def latentNormalized (y : FVec F S2x16384x128 .f32) (s : FVec F S2x16384 .f32) (g : FVec F S128 .f32) : FVec F S2x16384x128 .f32 :=
  mulf (mulf y (broadcastInDim S2x16384x128 ![0, 1, 2] bcast_S2x16384x1_S2x16384x128_0_1_2
      (Host.rsqrt (addf (Host.divf (broadcastInDim S2x16384x1 ![0, 1] bcast_S2x16384_S2x16384x1_0_1 s)
        (broadcastInDim S2x16384x1 ![] bcast_S_S2x16384x1 (constant S_ .f32 0x43000000#32)))
        (broadcastInDim S2x16384x1 ![] bcast_S_S2x16384x1 (constant S_ .f32 0x358637BD#32))))))
    (broadcastInDim S2x16384x128 ![0, 1, 2] bcast_S1x1x128_S2x16384x128_0_1_2 (broadcastInDim S1x1x128 ![2] bcast_S128_S1x1x128_2 g))

/-- Keys and values of all heads. -/
def keysValues (h : FVec F S2x16384x128 .f32) (u : FVec F S128x512 .f32) : FVec F S2x16384x512 .f32 :=
  Host.dotGeneral dot_S2x16384x128_S128x512_S2x16384x512_2_0_01_1_n_n none h u

/-- The values of all heads. -/
def onlyValues (y : FVec F S2x16384x512 .f32) : FVec F S2x16384x256 .f32 :=
  shapeCast S2x16384x256 (extractStridedSlice S2x16384x4x64 ![0, 0, 0, 64] (shapeCast S2x16384x4x128 y shapeCasts_S2x16384x512_S2x16384x4x128 : FVec F S2x16384x4x128 .f32)
    slices_S2x16384x4x128_S2x16384x4x64_0_0_0_64) shapeCasts_S2x16384x4x64_S2x16384x256

/-- Token by token. -/
def plain (y : FVec F S2x16384x256 .f32) : FVec F S2x16384x256 .bf16 := truncf .bf16 y bitsLt_bf16_f32

/-- A table for every 512 tokens. -/
def tabled (y : FVec F S2x16384x256 .f32) : FVec F S2x32x256x512 .bf16 :=
  truncf .bf16 (transpose S2x32x256x512 [0, 1, 3, 2] (shapeCast S2x32x512x256 y shapeCasts_S2x16384x256_S2x32x512x256 : FVec F S2x32x512x256 .f32)
    transposes_S2x32x512x256_S2x32x256x512_0_1_3_2) bitsLt_bf16_f32

/-- A table for every 256 tokens. -/
def smallTabled (y : FVec F S2x16384x256 .f32) : FVec F S2x64x256x256 .bf16 :=
  truncf .bf16 (transpose S2x64x256x256 [0, 1, 3, 2] (shapeCast S2x64x256x256 y shapeCasts_S2x16384x256_S2x64x256x256 : FVec F S2x64x256x256 .f32)
    transposes_S2x64x256x256_S2x64x256x256_0_1_3_2) bitsLt_bf16_f32

/-- All columns of the normalized rows under the input matrix. -/
def all (x : FVec F S2x16384x1024 .f32) (g : FVec F S1024 .f32) (w : FVec F S1024x2720 .f32) : FVec F S2x16384x2720 .f32 :=
  projected (Cert.Post.Reference.norm x g) w

/-- The latent attention's values. -/
def latentValues (y : FVec F S2x16384x2720 .f32) (g : FVec F S128 .f32) (u : FVec F S128x512 .f32) : FVec F S2x16384x256 .f32 :=
  onlyValues (keysValues (latentNormalized (cutLatent y) (latentSquares (cutLatent y)) g) u)

end Terms

/-! ## At an entry -/

theorem projected_apply (h : FVec Ideal S2x16384x1024 .f32) (w : FVec Ideal S1024x2720 .f32) (i : Fin 2) (n : Fin 16384) (j : Fin 2720) :
    projected h w (ix3 i n j) = ∑ k : Fin 1024, h (ix3 i n k) * w (ix2 k j) := by
  pointwise [projected]

theorem cut_apply (o : Nat) (h : S2x16384x2720.Slices ![0, 0, o] S2x16384x256) (ho : o + 256 ≤ 2720) (y : FVec Ideal S2x16384x2720 .f32) (i : Fin 2) (n : Fin 16384) (e : Fin 256) :
    cut o h y (ix3 i n e) = y (ix3 i n ⟨o + e.val, by omega⟩) := by
  unfold cut
  exact extractStridedSlice_apply ![0, 0, o] _ _ (ix3 i n e) (ix3 i n ⟨o + e.val, by omega⟩) (fun a => match a with
    | ⟨0, _⟩ => (Nat.zero_add _).symm
    | ⟨1, _⟩ => (Nat.zero_add _).symm
    | ⟨2, _⟩ => rfl)

theorem scaled_apply (s : BitVec 32) (y : FVec Ideal S2x16384x256 .f32) (i : Fin 2) (n : Fin 16384) (e : Fin 256) :
    scaled s y (ix3 i n e) = y (ix3 i n e) * Ideal.ofBits .f32 s := by
  pointwise [scaled]

theorem cutLatent_apply (y : FVec Ideal S2x16384x2720 .f32) (i : Fin 2) (n : Fin 16384) (k : Fin 128) :
    cutLatent y (ix3 i n k) = y (ix3 i n ⟨2560 + k.val, by omega⟩) := by
  pointwise [cutLatent]

theorem latentSquares_apply (y : FVec Ideal S2x16384x128 .f32) (i : Fin 2) (n : Fin 16384) : latentSquares y (ix2 i n) = ∑ k : Fin 128, y (ix3 i n k) * y (ix3 i n k) := by
  pointwise [latentSquares]

theorem latentNormalized_apply (y : FVec Ideal S2x16384x128 .f32) (s : FVec Ideal S2x16384 .f32) (g : FVec Ideal S128 .f32) (i : Fin 2) (n : Fin 16384) (e : Fin 128) :
    latentNormalized y s g (ix3 i n e) = y (ix3 i n e) * Ideal.rsqrt (Ideal.div (s (ix2 i n)) (Ideal.ofBits .f32 0x43000000#32) + Ideal.ofBits .f32 0x358637BD#32) * g (ix1 e) := by
  pointwise [latentNormalized]

theorem keysValues_apply (h : FVec Ideal S2x16384x128 .f32) (u : FVec Ideal S128x512 .f32) (i : Fin 2) (n : Fin 16384) (j : Fin 512) :
    keysValues h u (ix3 i n j) = ∑ k : Fin 128, h (ix3 i n k) * u (ix2 k j) := by
  pointwise [keysValues]

theorem onlyValues_apply (y : FVec Ideal S2x16384x512 .f32) (i : Fin 2) (n : Fin 16384) (e : Fin 256) :
    onlyValues y (ix3 i n e) = y (ix3 i n ⟨128 * (e.val / 64) + 64 + e.val % 64, by omega⟩) := by
  have h : ∀ (p : Fin 4) (q : Fin 64), onlyValues y (ix3 i n ⟨64 * p.val + q.val, by omega⟩) = y (ix3 i n ⟨128 * p.val + 64 + q.val, by omega⟩) := by
    intro p q
    pointwise [onlyValues]
    exact congrArg (fun z => y (ix3 i n z)) (Fin.ext (by show p.val * 128 + (64 + q.val) = 128 * p.val + 64 + q.val; omega))
  have := h ⟨e.val / 64, by omega⟩ ⟨e.val % 64, by omega⟩
  have he : (⟨64 * (e.val / 64) + e.val % 64, by omega⟩ : Fin 256) = e := Fin.ext (Nat.div_add_mod _ 64)
  rw [he] at this
  exact this

theorem tabled_apply (y : FVec Ideal S2x16384x256 .f32) (i : Fin 2) (t : Fin 32) (e : Fin 256) (r : Fin 512) :
    tabled y (ix4 i t e r) = y (ix3 i ⟨512 * t.val + r.val, by omega⟩ e) := by
  pointwise [tabled]
  exact congrArg (fun z => y (ix3 i z e)) (Fin.ext (by show t.val * 512 + r.val = 512 * t.val + r.val; omega))

theorem smallTabled_apply (y : FVec Ideal S2x16384x256 .f32) (i : Fin 2) (t : Fin 64) (e : Fin 256) (r : Fin 256) :
    smallTabled y (ix4 i t e r) = y (ix3 i ⟨256 * t.val + r.val, by omega⟩ e) := by
  pointwise [smallTabled]
  exact congrArg (fun z => y (ix3 i z e)) (Fin.ext (by show t.val * 256 + r.val = 256 * t.val + r.val; omega))

theorem all_apply (x : FVec Ideal S2x16384x1024 .f32) (g : FVec Ideal S1024 .f32) (w : FVec Ideal S1024x2720 .f32) (i : Fin 2) (n : Fin 16384) (j : Fin 2720) :
    all x g w (ix3 i n j) = project x g w i n j := by
  unfold all project
  rw [projected_apply]
  exact Finset.sum_congr rfl fun k _ => congrArg (· * w (ix2 k j)) (Cert.Post.Reference.norm_apply x g i n k)

theorem latentValues_apply (x : FVec Ideal S2x16384x1024 .f32) (g : FVec Ideal S1024 .f32) (w : FVec Ideal S1024x2720 .f32) (gl : FVec Ideal S128 .f32) (u : FVec Ideal S128x512 .f32)
    (i : Fin 2) (n : Fin 16384) (e : Fin 256) : latentValues (all x g w) gl u (ix3 i n e) = values x g w gl u i n e := by
  unfold latentValues values
  rw [onlyValues_apply, keysValues_apply]
  refine Finset.sum_congr rfl fun k _ => congrArg (· * _) ?_
  rw [latentNormalized_apply, latentSquares_apply]
  simp only [cutLatent_apply, all_apply]
  rfl

/-! ## Whole results -/

/-- An array read entry by entry, token by token. -/
theorem plain_eq (y : FVec Ideal S2x16384x256 .f32) (p : PerToken) (h : ∀ i n e, y (ix3 i n e) = p i n e) : plain y = flat p := by
  funext j
  exact (congrArg y (eq_ix3 j)).trans (h (j 0) (j 1) (j 2))

theorem tabled_eq (y : FVec Ideal S2x16384x256 .f32) (p : PerToken) (h : ∀ i n e, y (ix3 i n e) = p i n e) : tabled y = tiles p := by
  funext j
  refine (congrArg (tabled y) (eq_ix4 j)).trans ((tabled_apply y (j 0) (j 1) (j 2) (j 3)).trans ?_)
  exact h _ _ _

theorem smallTabled_eq (y : FVec Ideal S2x16384x256 .f32) (p : PerToken) (h : ∀ i n e, y (ix3 i n e) = p i n e) : smallTabled y = smallTiles p := by
  funext j
  refine (congrArg (smallTabled y) (eq_ix4 j)).trans ((smallTabled_apply y (j 0) (j 1) (j 2) (j 3)).trans ?_)
  exact h _ _ _

theorem columns_eq (x : FVec Ideal S2x16384x1024 .f32) (g : FVec Ideal S1024 .f32) (w : FVec Ideal S1024x2720 .f32) (o : Nat) (h : S2x16384x2720.Slices ![0, 0, o] S2x16384x256) (ho : o + 256 ≤ 2720)
    (i : Fin 2) (n : Fin 16384) (e : Fin 256) : cut o h (all x g w) (ix3 i n e) = columns x g w o ho i n e := by
  rw [cut_apply o h ho, all_apply]
  rfl

theorem times_eq (s : BitVec 32) (y : FVec Ideal S2x16384x256 .f32) (p : PerToken) (h : ∀ i n e, y (ix3 i n e) = p i n e) (i : Fin 2) (n : Fin 16384) (e : Fin 256) :
    scaled s y (ix3 i n e) = times (Ideal.ofBits .f32 s) p i n e := by
  rw [scaled_apply, h]
  rfl

end Cert.Proj.Reference
-- ==== Proof.ProjAlgebraic.lean ====
/-
  The value claim of the projections' call: the idealized call and the reference end with the same arrays.
-/
module

public import proofs.«01_k».proof.Defs
public import proofs.«01_k».proof.Proof.ProjArrays
public import proofs.«01_k».proof.Proof.ProjReference
public import proofs.«01_k».proof.Proof.Gen.Kernel3Ideal.Value
public import proofs.«01_k».proof.Proof.Gen.Reference3Ideal
public import proofs.«01_k».proof.Proof.Gen.Reference3Ideal.Run
public import Idealize.ShloMosaic.Lib.Claim

@[expose] public section

set_option maxRecDepth 16384

noncomputable section

namespace Cert.Proj

open Idealize.ShloMosaic Idealize.ShloMosaic.TcCoe Idealize.SL.Sem

section Reference

open Cert.Reference3Ideal Cert.Reference3Ideal.Gen Cert.Proj.Reference

/-- Every execution of the reference ends with the arguments as they were and the counters at zero. -/
theorem reference_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2.2.2.2, sem_eq_zero_of_no_sems (by decide) r.2⟩) (Cert.Reference3Ideal.Value.run m ρ)

variable (m : (ℓ : Loc nD τ sig) → Buf (Elt Ideal) ℓ) (ρ : Dev nD → PrngReg)

set_option maxHeartbeats 4000000 in
/-- The reference ends with each mixer's columns of every token, and the latent attention's values. -/
theorem reference_results (x : Dev nD → FVec Ideal S2x16384x1024 .f32) (g : Dev nD → FVec Ideal S1024 .f32) (w : Dev nD → FVec Ideal S1024x2720 .f32) (gl : Dev nD → FVec Ideal S128 .f32)
    (u : Dev nD → FVec Ideal S128x512 .f32)
    (hx : ∀ c : Dev nD, m ((c.tc : Thread nD τ).loc main_arg0) = x c) (hg : ∀ c : Dev nD, m ((c.tc : Thread nD τ).loc main_arg1) = g c) (hw : ∀ c : Dev nD, m ((c.tc : Thread nD τ).loc main_arg2) = w c)
    (hgl : ∀ c : Dev nD, m ((c.tc : Thread nD τ).loc main_arg5) = gl c) (hu : ∀ c : Dev nD, m ((c.tc : Thread nD τ).loc main_arg6) = u c) :
    θ_run defs (onTc (τ := τ) (main (F := Ideal))) ⟨m, fun _ => 0, ρ⟩ (fun r => ∀ c : Dev nD,
      r.2.mem ((c.tc : Thread nD τ).loc main_v57) = flat (times (Ideal.ofBits .f32 0x3E38AA3B#32) (columns (x c) (g c) (w c) 0 (by decide)))
      ∧ r.2.mem ((c.tc : Thread nD τ).loc main_v58) = flat (columns (x c) (g c) (w c) 256 (by decide))
      ∧ r.2.mem ((c.tc : Thread nD τ).loc main_v59) = flat (columns (x c) (g c) (w c) 512 (by decide))
      ∧ r.2.mem ((c.tc : Thread nD τ).loc main_v60) = flat (columns (x c) (g c) (w c) 1024 (by decide))
      ∧ r.2.mem ((c.tc : Thread nD τ).loc main_v61) = flat (columns (x c) (g c) (w c) 1792 (by decide))
      ∧ r.2.mem ((c.tc : Thread nD τ).loc main_v62) = tiles (times (Ideal.ofBits .f32 0x3E8293EE#32) (columns (x c) (g c) (w c) 768 (by decide)))
      ∧ r.2.mem ((c.tc : Thread nD τ).loc main_v63) = tiles (columns (x c) (g c) (w c) 1280 (by decide))
      ∧ r.2.mem ((c.tc : Thread nD τ).loc main_v64) = smallTiles (times (Ideal.ofBits .f32 0x3E38AA3B#32) (columns (x c) (g c) (w c) 1536 (by decide)))
      ∧ r.2.mem ((c.tc : Thread nD τ).loc main_v65) = smallTiles (columns (x c) (g c) (w c) 2048 (by decide))
      ∧ r.2.mem ((c.tc : Thread nD τ).loc main_v66) = tiles (values (x c) (g c) (w c) (gl c) (u c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  obtain rfl : (fun c : Dev nD => m ((c.tc : Thread nD τ).loc main_arg0)) = x := funext hx
  obtain rfl : (fun c : Dev nD => m ((c.tc : Thread nD τ).loc main_arg1)) = g := funext hg
  obtain rfl : (fun c : Dev nD => m ((c.tc : Thread nD τ).loc main_arg2)) = w := funext hw
  obtain rfl : (fun c : Dev nD => m ((c.tc : Thread nD τ).loc main_arg5)) = gl := funext hgl
  obtain rfl : (fun c : Dev nD => m ((c.tc : Thread nD τ).loc main_arg6)) = u := funext hu
  refine (θ_run defs _ _).mono (fun r h c => ?_) (Cert.Reference3Ideal.Value.run m ρ)
  obtain ⟨h0, h1, h2, h3, h4, h5, h6, h7, h8, h9, ha⟩ := h c
  have g0 := plain_eq (scaled 0x3E38AA3B#32 (cut 0 slices_S2x16384x2720_S2x16384x256_0_0_0 (all (m ((c.tc : Thread nD τ).loc main_arg0)) (m ((c.tc : Thread nD τ).loc main_arg1)) (m ((c.tc : Thread nD τ).loc main_arg2))))) _ (times_eq _ _ _ (columns_eq _ _ _ 0 _ (by decide)))
  have g1 := plain_eq (cut 256 slices_S2x16384x2720_S2x16384x256_0_0_256 (all (m ((c.tc : Thread nD τ).loc main_arg0)) (m ((c.tc : Thread nD τ).loc main_arg1)) (m ((c.tc : Thread nD τ).loc main_arg2)))) _ (columns_eq _ _ _ 256 _ (by decide))
  have g2 := plain_eq (cut 512 slices_S2x16384x2720_S2x16384x256_0_0_512 (all (m ((c.tc : Thread nD τ).loc main_arg0)) (m ((c.tc : Thread nD τ).loc main_arg1)) (m ((c.tc : Thread nD τ).loc main_arg2)))) _ (columns_eq _ _ _ 512 _ (by decide))
  have g3 := plain_eq (cut 1024 slices_S2x16384x2720_S2x16384x256_0_0_1024 (all (m ((c.tc : Thread nD τ).loc main_arg0)) (m ((c.tc : Thread nD τ).loc main_arg1)) (m ((c.tc : Thread nD τ).loc main_arg2)))) _ (columns_eq _ _ _ 1024 _ (by decide))
  have g4 := plain_eq (cut 1792 slices_S2x16384x2720_S2x16384x256_0_0_1792 (all (m ((c.tc : Thread nD τ).loc main_arg0)) (m ((c.tc : Thread nD τ).loc main_arg1)) (m ((c.tc : Thread nD τ).loc main_arg2)))) _ (columns_eq _ _ _ 1792 _ (by decide))
  have g5 := tabled_eq (scaled 0x3E8293EE#32 (cut 768 slices_S2x16384x2720_S2x16384x256_0_0_768 (all (m ((c.tc : Thread nD τ).loc main_arg0)) (m ((c.tc : Thread nD τ).loc main_arg1)) (m ((c.tc : Thread nD τ).loc main_arg2))))) _ (times_eq _ _ _ (columns_eq _ _ _ 768 _ (by decide)))
  have g6 := tabled_eq (cut 1280 slices_S2x16384x2720_S2x16384x256_0_0_1280 (all (m ((c.tc : Thread nD τ).loc main_arg0)) (m ((c.tc : Thread nD τ).loc main_arg1)) (m ((c.tc : Thread nD τ).loc main_arg2)))) _ (columns_eq _ _ _ 1280 _ (by decide))
  have g7 := smallTabled_eq (scaled 0x3E38AA3B#32 (cut 1536 slices_S2x16384x2720_S2x16384x256_0_0_1536 (all (m ((c.tc : Thread nD τ).loc main_arg0)) (m ((c.tc : Thread nD τ).loc main_arg1)) (m ((c.tc : Thread nD τ).loc main_arg2))))) _ (times_eq _ _ _ (columns_eq _ _ _ 1536 _ (by decide)))
  have g8 := smallTabled_eq (cut 2048 slices_S2x16384x2720_S2x16384x256_0_0_2048 (all (m ((c.tc : Thread nD τ).loc main_arg0)) (m ((c.tc : Thread nD τ).loc main_arg1)) (m ((c.tc : Thread nD τ).loc main_arg2)))) _ (columns_eq _ _ _ 2048 _ (by decide))
  have g9 := tabled_eq (latentValues (all (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6))) _ (latentValues_apply _ _ _ _ _)
  exact ⟨h0.trans g0, h1.trans g1, h2.trans g2, h3.trans g3, h4.trans g4, h5.trans g5, h6.trans g6, h7.trans g7, h8.trans g8, h9.trans g9, ha⟩

end Reference

section Call

open Cert.Kernel3Ideal Cert.Kernel3Ideal.Gen

/-- The two programs end with equal results. -/
theorem algebraic : Cert.algebraic_Kernel3Ideal_Reference3Ideal (hKernel3Ideal := Kernel3Ideal.Gen.facts) (hReference3Ideal := Reference3Ideal.Gen.facts) := by
  intro m g m' g' _ hargs
  refine ⟨fun c => flat (times (Ideal.ofBits .f32 0x3E38AA3B#32) (columns (m ((c : Thread nD τ).loc main_arg0)) (m ((c : Thread nD τ).loc main_arg1)) (m ((c : Thread nD τ).loc main_arg2)) 0 (by decide))),
    fun c => flat (columns (m ((c : Thread nD τ).loc main_arg0)) (m ((c : Thread nD τ).loc main_arg1)) (m ((c : Thread nD τ).loc main_arg2)) 256 (by decide)),
    fun c => flat (columns (m ((c : Thread nD τ).loc main_arg0)) (m ((c : Thread nD τ).loc main_arg1)) (m ((c : Thread nD τ).loc main_arg2)) 512 (by decide)),
    fun c => flat (columns (m ((c : Thread nD τ).loc main_arg0)) (m ((c : Thread nD τ).loc main_arg1)) (m ((c : Thread nD τ).loc main_arg2)) 1024 (by decide)),
    fun c => flat (columns (m ((c : Thread nD τ).loc main_arg0)) (m ((c : Thread nD τ).loc main_arg1)) (m ((c : Thread nD τ).loc main_arg2)) 1792 (by decide)),
    fun c => tiles (times (Ideal.ofBits .f32 0x3E8293EE#32) (columns (m ((c : Thread nD τ).loc main_arg0)) (m ((c : Thread nD τ).loc main_arg1)) (m ((c : Thread nD τ).loc main_arg2)) 768 (by decide))),
    fun c => tiles (columns (m ((c : Thread nD τ).loc main_arg0)) (m ((c : Thread nD τ).loc main_arg1)) (m ((c : Thread nD τ).loc main_arg2)) 1280 (by decide)),
    fun c => smallTiles (times (Ideal.ofBits .f32 0x3E38AA3B#32) (columns (m ((c : Thread nD τ).loc main_arg0)) (m ((c : Thread nD τ).loc main_arg1)) (m ((c : Thread nD τ).loc main_arg2)) 1536 (by decide))),
    fun c => smallTiles (columns (m ((c : Thread nD τ).loc main_arg0)) (m ((c : Thread nD τ).loc main_arg1)) (m ((c : Thread nD τ).loc main_arg2)) 2048 (by decide)),
    fun c => tiles (values (m ((c : Thread nD τ).loc main_arg0)) (m ((c : Thread nD τ).loc main_arg1)) (m ((c : Thread nD τ).loc main_arg2)) (m ((c : Thread nD τ).loc main_arg5)) (m ((c : Thread nD τ).loc main_arg6))), ?_, ?_⟩
  · refine (θ_run _ _ _).mono (fun r h c => ?_) (Cert.Kernel3Ideal.Value.run_blocks m g)
    obtain ⟨h0, h1, h2, h3, h4, _, h6, h7, h8, h9, _, h11, ha⟩ := h c
    exact ⟨h0.trans (array_qa m c), h1.trans (array_ka m c), h2.trans (array_va m c), h3.trans (array_kb m c), h4.trans (array_kc m c), h6.trans (array_qb m c), h7.trans (array_vb m c), h8.trans (array_qc m c), h9.trans (array_vc m c), h11.trans (array_vd m c), ha⟩
  · exact reference_results m' g' _ _ _ _ _ (fun c => (hargs c).1) (fun c => (hargs c).2.1) (fun c => (hargs c).2.2.1) (fun c => (hargs c).2.2.2.2.2.1) (fun c => (hargs c).2.2.2.2.2.2)

end Call

end Cert.Proj
-- ==== Proof.lean ====
/-
  The claims: every execution of the attention's call, of its idealized form and of its reference ends with the arguments as they
  were and the counters at zero; the idealized form differs from the call by its rules alone; and, on real queries and keys, the
  idealized form and the reference end with equal results. The same of the call that makes the last layer's second half and of the
  call that projects the layer's tokens, on any arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsRun
public import proofs.«01_k».proof.Proof.IdealRun
public import proofs.«01_k».proof.Proof.ReferenceRun
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.PostAlgebraic
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.ProjAlgebraic
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ => Cert.Mla.Machine.frame m g
theorem frame_ideal : Cert.quiescent_KernelIdeal := fun m g _ => Cert.Mla.Ideal.frame m g
theorem frame_reference : Cert.quiescent_ReferenceIdeal := fun m g _ => Cert.Mla.Reference.frame m g

theorem frame_kernel2 : Cert.quiescent_Kernel2 := fun m g _ => Cert.Kernel2.Gen.frame m g
theorem frame_ideal2 : Cert.quiescent_Kernel2Ideal := fun m g _ => Cert.Kernel2Ideal.Gen.frame m g
theorem frame_reference2 : Cert.quiescent_Reference2Ideal := fun m g _ => Cert.Post.reference_frame m g

theorem frame_kernel3 : Cert.quiescent_Kernel3 := fun m g _ => Cert.Kernel3.Gen.frame m g
theorem frame_ideal3 : Cert.quiescent_Kernel3Ideal := fun m g _ => Cert.Kernel3Ideal.Gen.frame m g
theorem frame_reference3 : Cert.quiescent_Reference3Ideal := fun m g _ => Cert.Proj.reference_frame m g

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Mla.preFacts,
  frame_kernel, frame_ideal, (fun m g _ => Cert.Mla.Ideal.frame m g), frame_reference, (fun m g _ => Cert.Mla.Reference.frame m g),
  frame_kernel2, frame_ideal2, frame_reference2, frame_kernel3, frame_ideal3, frame_reference3,
  IdealRules.shift_out.by16TwiceStatement _, Cert.Mla.algebraic, trivial, Cert.Post.algebraic, trivial, Cert.Proj.algebraic⟩

end Cert.Proof

end
